-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usable [hPre_usable : Cert.Pre_usable.Facts] (m : (ℓ : Loc Cert.KernelIdeal.nD Cert.KernelIdeal.τ Cert.KernelIdeal.sig) → Buf (Elt Ideal) ℓ) : Prop :=
  ∀ c : Dev Cert.KernelIdeal.nD,
    (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usable [hPre_usable : Cert.Pre_usable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_usable [hKernelIdeal : Cert.KernelIdeal.Facts] [hPre_usable : Cert.Pre_usable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usable m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_usable [hReferenceIdeal : Cert.ReferenceIdeal.Facts] [hPre_usable : Cert.Pre_usable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_usable [hKernelIdeal : Cert.KernelIdeal.Facts] [hReferenceIdeal : Cert.ReferenceIdeal.Facts] [hPre_usable : Cert.Pre_usable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_usable : Cert.Pre_usable.Facts),
    quiescent_Kernel (hKernel := hKernel)
    ∧ quiescent_KernelIdeal (hKernelIdeal := hKernelIdeal)
    ∧ quiescent_KernelIdeal_pre_usable (hKernelIdeal := hKernelIdeal) (hPre_usable := hPre_usable)
    ∧ quiescent_ReferenceIdeal (hReferenceIdeal := hReferenceIdeal)
    ∧ quiescent_ReferenceIdeal_pre_usable (hReferenceIdeal := hReferenceIdeal) (hPre_usable := hPre_usable)
    ∧ preserves_Kernel_KernelIdeal
    ∧ algebraic_KernelIdeal_ReferenceIdeal_pre_usable (hKernelIdeal := hKernelIdeal) (hReferenceIdeal := hReferenceIdeal) (hPre_usable := hPre_usable)
-- ==== Pre_usable.lean ====
abbrev S8x1024x3 : Shape := ⟨3, ![8, 1024, 3]⟩
abbrev S8x256x1024 : Shape := ⟨3, ![8, 256, 1024]⟩
abbrev S8x1024x256 : Shape := ⟨3, ![8, 1024, 256]⟩
abbrev S256x256 : Shape := ⟨2, ![256, 256]⟩
abbrev S256 : Shape := ⟨1, ![256]⟩
abbrev S8x3x1024 : Shape := ⟨3, ![8, 3, 1024]⟩
abbrev S8x1024x1024 : Shape := ⟨3, ![8, 1024, 1024]⟩
abbrev S_ : Shape := ⟨0, ![]⟩
abbrev S8x1024 : Shape := ⟨2, ![8, 1024]⟩
abbrev S8x1x1024 : Shape := ⟨3, ![8, 1, 1024]⟩
abbrev S8x1024x1 : Shape := ⟨3, ![8, 1024, 1]⟩
abbrev S8x1024x17 : Shape := ⟨3, ![8, 1024, 17]⟩

class Facts : Prop where
  transposes_S8x1024x3_S8x3x1024_0_2_1 : S8x1024x3.Transposes [0, 2, 1] S8x3x1024
  transposes_S8x3x1024_S8x1024x3_0_2_1 : S8x3x1024.Transposes [0, 2, 1] S8x1024x3
  bcast_S_S8x1024x1024 : S_.BroadcastsInDim S8x1024x1024 (![] : Fin 0 → Fin S8x1024x1024.rank)
  reducesTo_S8x3x1024_S8x1024_d1 : S8x3x1024.ReducesTo [1] S8x1024
  h_S_ : 0 < S_.numel
  bcast_S8x1024_S8x1x1024_0_2 : S8x1024.BroadcastsInDim S8x1x1024 (![0, 2] : Fin 2 → Fin S8x1x1024.rank)
  bcast_S8x1x1024_S8x1024x1024_0_1_2 : S8x1x1024.BroadcastsInDim S8x1024x1024 (![0, 1, 2] : Fin 3 → Fin S8x1024x1024.rank)
  transposes_S8x1x1024_S8x1024x1_0_2_1 : S8x1x1024.Transposes [0, 2, 1] S8x1024x1
  bcast_S8x1024x1_S8x1024x1024_0_1_2 : S8x1024x1.BroadcastsInDim S8x1024x1024 (![0, 1, 2] : Fin 3 → Fin S8x1024x1024.rank)
  sliceFits_S8x1024x1024_S8x1024x17 : S8x1024x1024.Slices (fun _ => 0) S8x1024x17
  slices_S8x1024x17_S8x1024x1_0_0_15 : S8x1024x17.Slices ![0, 0, 15] S8x1024x1
  shapeCasts_S8x1024x1_S8x1024 : S8x1024x1.ShapeCasts S8x1024
  slices_S8x1024x17_S8x1024x1_0_0_16 : S8x1024x17.Slices ![0, 0, 16] S8x1024x1
  reducesTo_S8x1024_S_d0_1 : S8x1024.ReducesTo [0, 1] S_
  bcast_S_S8x1024x256 : S_.BroadcastsInDim S8x1024x256 (![] : Fin 0 → Fin S8x1024x256.rank)
  reducesTo_S8x1024x256_S_d0_1_2 : S8x1024x256.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  dot_S8x1024x3_S8x3x1024_S8x1024x1024_2_1_1_2_0_0_wf : DotDims.WF S8x1024x3 S8x3x1024 S8x1024x1024 [2] [1] [1] [2] [0] [0]

variable [Facts]

def dot_S8x1024x3_S8x3x1024_S8x1024x1024_2_1_1_2_0_0 : DotDims S8x1024x3 S8x3x1024 S8x1024x1024 where
  lhsContracting := [2]
  rhsContracting := [1]
  lhsNonContracting := [1]
  rhsNonContracting := [2]
  lhsBatch := [0]
  rhsBatch := [0]
  wf := dot_S8x1024x3_S8x3x1024_S8x1024x1024_2_1_1_2_0_0_wf
def fn_part2 {F : FTy → Type} [FloatOps F] (main_arg6 : FVec F S256 .f32) (main_v34 : IVec S_ 1) (main_v35 : FVec F S256x256 .f32) (main_cst_7 : FVec F S_ .f32) : IVec S_ 1 :=
  let main_v36 : FVec F S256x256 .f32 := broadcastInDim S256x256 ![] bcast_S_S256x256 main_cst_7
  let main_v37 : IVec S256x256 1 := cmpf .olt main_v35 main_v36
  let main_c_8 : IVec S_ 1 := constantI S_ 1 1#1
  let main_v38 : IVec S_ 1 := (fun x v => Host.reduce IntOp.andi x v reducesTo_S256x256_S_d0_1 h_S_) main_v37 main_c_8
  let main_v39 : IVec S_ 1 := andi main_v34 main_v38
  let main_v40 : FVec F S256 .f32 := Host.absf main_arg6
  let main_cst_9 : FVec F S_ .f32 := constant S_ .f32 0x7F800000#32
  let main_v41 : FVec F S256 .f32 := broadcastInDim S256 ![] bcast_S_S256 main_cst_9
  let main_v42 : IVec S256 1 := cmpf .olt main_v40 main_v41
  let main_c_10 : IVec S_ 1 := constantI S_ 1 1#1
  let main_v43 : IVec S_ 1 := (fun x v => Host.reduce IntOp.andi x v reducesTo_S256_S_d0 h_S_) main_v42 main_c_10
  let main_v44 : IVec S_ 1 := andi main_v39 main_v43
  main_v44

def fn_part1 {F : FTy → Type} [FloatOps F] (main_arg2 : FVec F S8x1024x256 .f32) (main_arg3 : FVec F S256x256 .f32) (main_arg4 : FVec F S256 .f32) (main_arg5 : FVec F S256x256 .f32) (main_arg6 : FVec F S256 .f32) (main_v18 : IVec S8x1024 1) (main_c : IVec S_ 1) : IVec S_ 1 :=
  let main_v19 : IVec S_ 1 := (fun x v => Host.reduce IntOp.andi x v reducesTo_S8x1024_S_d0_1 h_S_) main_v18 main_c
  let main_v20 : FVec F S8x1024x256 .f32 := Host.absf main_arg2
  let main_cst_1 : FVec F S_ .f32 := constant S_ .f32 0x7F800000#32
  let main_v21 : FVec F S8x1024x256 .f32 := broadcastInDim S8x1024x256 ![] bcast_S_S8x1024x256 main_cst_1
  let main_v22 : IVec S8x1024x256 1 := cmpf .olt main_v20 main_v21
  let main_c_2 : IVec S_ 1 := constantI S_ 1 1#1
  let main_v23 : IVec S_ 1 := (fun x v => Host.reduce IntOp.andi x v reducesTo_S8x1024x256_S_d0_1_2 h_S_) main_v22 main_c_2
  let main_v24 : IVec S_ 1 := andi main_v19 main_v23
  let main_v25 : FVec F S256x256 .f32 := Host.absf main_arg3
  let main_cst_3 : FVec F S_ .f32 := constant S_ .f32 0x7F800000#32
  let main_v26 : FVec F S256x256 .f32 := broadcastInDim S256x256 ![] bcast_S_S256x256 main_cst_3
  let main_v27 : IVec S256x256 1 := cmpf .olt main_v25 main_v26
  let main_c_4 : IVec S_ 1 := constantI S_ 1 1#1
  let main_v28 : IVec S_ 1 := (fun x v => Host.reduce IntOp.andi x v reducesTo_S256x256_S_d0_1 h_S_) main_v27 main_c_4
  let main_v29 : IVec S_ 1 := andi main_v24 main_v28
  let main_v30 : FVec F S256 .f32 := Host.absf main_arg4
  let main_cst_5 : FVec F S_ .f32 := constant S_ .f32 0x7F800000#32
  let main_v31 : FVec F S256 .f32 := broadcastInDim S256 ![] bcast_S_S256 main_cst_5
  let main_v32 : IVec S256 1 := cmpf .olt main_v30 main_v31
  let main_c_6 : IVec S_ 1 := constantI S_ 1 1#1
  let main_v33 : IVec S_ 1 := (fun x v => Host.reduce IntOp.andi x v reducesTo_S256_S_d0 h_S_) main_v32 main_c_6
  let main_v34 : IVec S_ 1 := andi main_v29 main_v33
  let main_v35 : FVec F S256x256 .f32 := Host.absf main_arg5
  let main_cst_7 : FVec F S_ .f32 := constant S_ .f32 0x7F800000#32
  fn_part2 (F := F) main_arg6 main_v34 main_v35 main_cst_7

def fn {F : FTy → Type} [FloatOps F] (main_arg0 : FVec F S8x1024x3 .f32) (main_arg1 : FVec F S8x256x1024 .f32) (main_arg2 : FVec F S8x1024x256 .f32) (main_arg3 : FVec F S256x256 .f32) (main_arg4 : FVec F S256 .f32) (main_arg5 : FVec F S256x256 .f32) (main_arg6 : FVec F S256 .f32) : IVec S_ 1 :=
  let main_v0 : FVec F S8x3x1024 .f32 := (transpose S8x3x1024 [0, 2, 1] · transposes_S8x1024x3_S8x3x1024_0_2_1) main_arg0
  let main_v1 : FVec F S8x1024x3 .f32 := (transpose S8x1024x3 [0, 2, 1] · transposes_S8x3x1024_S8x1024x3_0_2_1) main_v0
  let main_v2 : FVec F S8x1024x1024 .f32 := (fun l r => Host.dotGeneral dot_S8x1024x3_S8x3x1024_S8x1024x1024_2_1_1_2_0_0 none l r) main_v1 main_v0
  let main_cst : FVec F S_ .f32 := constant S_ .f32 0xC0000000#32
  let main_v3 : FVec F S8x1024x1024 .f32 := broadcastInDim S8x1024x1024 ![] bcast_S_S8x1024x1024 main_cst
  let main_v4 : FVec F S8x1024x1024 .f32 := mulf main_v3 main_v2
  let main_v5 : FVec F S8x3x1024 .f32 := mulf main_v0 main_v0
  let main_cst_0 : FVec F S_ .f32 := constant S_ .f32 0x00000000#32
  let main_v6 : FVec F S8x1024 .f32 := (fun x v => Host.reduceAdd x v reducesTo_S8x3x1024_S8x1024_d1 h_S_) main_v5 main_cst_0
  let main_v7 : FVec F S8x1x1024 .f32 := broadcastInDim S8x1x1024 ![0, 2] bcast_S8x1024_S8x1x1024_0_2 main_v6
  let main_v8 : FVec F S8x1x1024 .f32 := Host.negf main_v7
  let main_v9 : FVec F S8x1024x1024 .f32 := broadcastInDim S8x1024x1024 ![0, 1, 2] bcast_S8x1x1024_S8x1024x1024_0_1_2 main_v8
  let main_v10 : FVec F S8x1024x1024 .f32 := subf main_v9 main_v4
  let main_v11 : FVec F S8x1024x1 .f32 := (transpose S8x1024x1 [0, 2, 1] · transposes_S8x1x1024_S8x1024x1_0_2_1) main_v7
  let main_v12 : FVec F S8x1024x1024 .f32 := broadcastInDim S8x1024x1024 ![0, 1, 2] bcast_S8x1024x1_S8x1024x1024_0_1_2 main_v11
  let main_v13 : FVec F S8x1024x1024 .f32 := subf main_v10 main_v12
  let main_values : FVec F S8x1024x17 .f32 := (fun x => (Host.topK S8x1024x17 2 (FloatOps.cmpfTotal .gt) x sliceFits_S8x1024x1024_S8x1024x17).1) main_v13
  let main_indices : IVec S8x1024x17 32 := (fun x => (Host.topK S8x1024x17 2 (FloatOps.cmpfTotal .gt) x sliceFits_S8x1024x1024_S8x1024x17).2) main_v13
  let main_v14 : FVec F S8x1024x1 .f32 := (extractStridedSlice S8x1024x1 ![0, 0, 15] · slices_S8x1024x17_S8x1024x1_0_0_15) main_values
  let main_v15 : FVec F S8x1024 .f32 := shapeCast S8x1024 main_v14 shapeCasts_S8x1024x1_S8x1024
  let main_v16 : FVec F S8x1024x1 .f32 := (extractStridedSlice S8x1024x1 ![0, 0, 16] · slices_S8x1024x17_S8x1024x1_0_0_16) main_values
  let main_v17 : FVec F S8x1024 .f32 := shapeCast S8x1024 main_v16 shapeCasts_S8x1024x1_S8x1024
  let main_v18 : IVec S8x1024 1 := cmpf .ogt main_v15 main_v17
  let main_c : IVec S_ 1 := constantI S_ 1 1#1
  fn_part1 (F := F) main_arg2 main_arg3 main_arg4 main_arg5 main_arg6 main_v18 main_c
-- ==== Kernel.lean ====
abbrev S8x1024x3 : Shape := ⟨3, ![8, 1024, 3]⟩
abbrev S8x256x1024 : Shape := ⟨3, ![8, 256, 1024]⟩
abbrev S8x1024x256 : Shape := ⟨3, ![8, 1024, 256]⟩
abbrev S256x256 : Shape := ⟨2, ![256, 256]⟩
abbrev S256 : Shape := ⟨1, ![256]⟩
abbrev S8x1024x1024 : Shape := ⟨3, ![8, 1024, 1024]⟩
abbrev S1x256x3 : Shape := ⟨3, ![1, 256, 3]⟩
abbrev S1x1024x3 : Shape := ⟨3, ![1, 1024, 3]⟩
abbrev S1x256x1024 : Shape := ⟨3, ![1, 256, 1024]⟩
abbrev S256x3 : Shape := ⟨2, ![256, 3]⟩
abbrev S1024x3 : Shape := ⟨2, ![1024, 3]⟩
abbrev S256x1024 : Shape := ⟨2, ![256, 1024]⟩
abbrev S256x1 : Shape := ⟨2, ![256, 1]⟩
abbrev S1024 : Shape := ⟨1, ![1024]⟩
abbrev S1x1024 : Shape := ⟨2, ![1, 1024]⟩
abbrev S8192x1024 : Shape := ⟨2, ![8192, 1024]⟩
abbrev S512x16 : Shape := ⟨2, ![512, 16]⟩
abbrev S16x1024 : Shape := ⟨2, ![16, 1024]⟩
abbrev S16x16 : Shape := ⟨2, ![16, 16]⟩
abbrev S_ : Shape := ⟨0, ![]⟩
abbrev S16 : Shape := ⟨1, ![16]⟩
abbrev S1x16 : Shape := ⟨2, ![1, 16]⟩
abbrev S8x1024x1 : Shape := ⟨3, ![8, 1024, 1]⟩
abbrev S1x256 : Shape := ⟨2, ![1, 256]⟩
abbrev S1x256x1 : Shape := ⟨3, ![1, 256, 1]⟩
abbrev S1x256x256 : Shape := ⟨3, ![1, 256, 256]⟩
abbrev S1x1024x256 : Shape := ⟨3, ![1, 1024, 256]⟩
abbrev S1024x256 : Shape := ⟨2, ![1024, 256]⟩

abbrev nBuf : Table → Nat
  | .hbm => 13
  | .local .tc .vmem => 23
  | .local .scVector .vmem => 3
  | _ => 0

abbrev bufTy : (tb : Table) → Fin (nBuf tb) → BufTy
  | .hbm, ⟨0, _⟩ => ⟨S8x1024x3, .f32⟩
  | .hbm, ⟨1, _⟩ => ⟨S8x256x1024, .f32⟩
  | .hbm, ⟨2, _⟩ => ⟨S8x1024x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S8x1024x1024, .f32⟩
  | .hbm, ⟨8, _⟩ => ⟨S8192x1024, .f32⟩
  | .hbm, ⟨9, _⟩ => ⟨S512x16, .f32⟩
  | .hbm, ⟨10, _⟩ => ⟨S8x1024x1, .f32⟩
  | .hbm, ⟨11, _⟩ => ⟨S1x256, .f32⟩
  | .hbm, ⟨12, _⟩ => ⟨S8x256x1024, .f32⟩
  | .local .tc .vmem, ⟨0, _⟩ => ⟨S1x256x3, .f32⟩
  | .local .tc .vmem, ⟨1, _⟩ => ⟨S1x256x3, .f32⟩
  | .local .tc .vmem, ⟨2, _⟩ => ⟨S1x1024x3, .f32⟩
  | .local .tc .vmem, ⟨3, _⟩ => ⟨S1x1024x3, .f32⟩
  | .local .tc .vmem, ⟨4, _⟩ => ⟨S1x256x1024, .f32⟩
  | .local .tc .vmem, ⟨5, _⟩ => ⟨S1x256x1024, .f32⟩
  | .local .tc .vmem, ⟨6, _⟩ => ⟨S1x256x3, .f32⟩
  | .local .tc .vmem, ⟨7, _⟩ => ⟨S1x256x3, .f32⟩
  | .local .tc .vmem, ⟨8, _⟩ => ⟨S1x1024x3, .f32⟩
  | .local .tc .vmem, ⟨9, _⟩ => ⟨S1x1024x3, .f32⟩
  | .local .tc .vmem, ⟨10, _⟩ => ⟨S1x256x1, .f32⟩
  | .local .tc .vmem, ⟨11, _⟩ => ⟨S1x256x1, .f32⟩
  | .local .tc .vmem, ⟨12, _⟩ => ⟨S1x256x256, .f32⟩
  | .local .tc .vmem, ⟨13, _⟩ => ⟨S1x256x256, .f32⟩
  | .local .tc .vmem, ⟨14, _⟩ => ⟨S1x1024x256, .f32⟩
  | .local .tc .vmem, ⟨15, _⟩ => ⟨S1x1024x256, .f32⟩
  | .local .tc .vmem, ⟨16, _⟩ => ⟨S1x256x1024, .f32⟩
  | .local .tc .vmem, ⟨17, _⟩ => ⟨S1x256x1024, .f32⟩
  | .local .tc .vmem, ⟨18, _⟩ => ⟨S256x256, .f32⟩
  | .local .tc .vmem, ⟨19, _⟩ => ⟨S1x256, .f32⟩
  | .local .tc .vmem, ⟨20, _⟩ => ⟨S256x256, .f32⟩
  | .local .tc .vmem, ⟨21, _⟩ => ⟨S1x256x256, .f32⟩
  | .local .tc .vmem, ⟨22, _⟩ => ⟨S1x256x256, .f32⟩
  | .local .scVector .vmem, ⟨0, _⟩ => ⟨S16x1024, .f32⟩
  | .local .scVector .vmem, ⟨1, _⟩ => ⟨S16x1024, .f32⟩
  | .local .scVector .vmem, ⟨2, _⟩ => ⟨S16x16, .f32⟩
  | _, _ => ⟨S8x1024x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v1_scv : Ref sig .scVector := ⟨.hbm, 8, rfl⟩
abbrev main_v2_scv : Ref sig .scVector := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg2_1 : Ref sig .tc := ⟨.vmem, 11, rfl⟩
abbrev cc2_stg3_0 : Ref sig .tc := ⟨.vmem, 12, rfl⟩
abbrev cc2_stg3_1 : Ref sig .tc := ⟨.vmem, 13, rfl⟩
abbrev cc2_stg4_0 : Ref sig .tc := ⟨.vmem, 14, rfl⟩
abbrev cc2_stg4_1 : Ref sig .tc := ⟨.vmem, 15, rfl⟩
abbrev cc2_stg5_0 : Ref sig .tc := ⟨.vmem, 16, rfl⟩
abbrev cc2_stg5_1 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg8_0 : Ref sig .tc := ⟨.vmem, 20, rfl⟩
abbrev cc2_stg9_0 : Ref sig .tc := ⟨.vmem, 21, rfl⟩
abbrev cc2_stg9_1 : Ref sig .tc := ⟨.vmem, 22, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem2_1 : DmaSem sig := 14
abbrev cc2_sem3_0 : DmaSem sig := 15
abbrev cc2_sem3_1 : DmaSem sig := 16
abbrev cc2_sem4_0 : DmaSem sig := 17
abbrev cc2_sem4_1 : DmaSem sig := 18
abbrev cc2_sem5_0 : DmaSem sig := 19
abbrev cc2_sem5_1 : DmaSem sig := 20
abbrev cc2_sem6_0 : DmaSem sig := 21
abbrev cc2_sem7_0 : DmaSem sig := 22
abbrev cc2_sem8_0 : DmaSem sig := 23
abbrev cc2_sem9_0 : DmaSem sig := 24
abbrev cc2_sem9_1 : DmaSem sig := 25
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

def k1_off1 (i : grid1.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v4 : BitVec 32 := Scalar.addi v2 c0_i32
  let c0_i32_0 : BitVec 32 := 0#32
  ![v4.toNat, 0]
@[reducible] def k1_t1_loop : Scf.Loop 32 :=
  let c0_i32_21 : BitVec 32 := 0#32
  let c64_i32 : BitVec 32 := 64#32
  let v28 : BitVec 32 := Scalar.addi c0_i32_21 c64_i32
  let c1_i32 : BitVec 32 := 1#32
  ⟨c0_i32_21, v28, c1_i32⟩

def k1_chk1 (v3 : IVec S16 32) (v647 : IVec S16 32) : Prop :=
  (∀ a x, ((![v3, v647] : Fin 2 → IVec S16 32) a x).toNat < S16x1024.size a)
theorem k1_idx1_inb : ∀ (v3 : IVec S16 32) (v647 : IVec S16 32) (k1_hw1 : k1_chk1 v3 v647), ∀ a x, ((![v3, v647] : Fin 2 → IVec S16 32) a x).toNat < S16x1024.size a := fun v3 v647 k1_hw1 => k1_hw1

def k1_chk2 (v3 : IVec S16 32) (v651 : IVec S16 32) : Prop :=
  (∀ a x, ((![v3, v651] : Fin 2 → IVec S16 32) a x).toNat < S16x1024.size a)
theorem k1_idx2_inb : ∀ (v3 : IVec S16 32) (v651 : IVec S16 32) (k1_hw2 : k1_chk2 v3 v651), ∀ a x, ((![v3, v651] : Fin 2 → IVec S16 32) a x).toNat < S16x1024.size a := fun v3 v651 k1_hw2 => k1_hw2

def k1_chk3 (v3 : IVec S16 32) (v655 : IVec S16 32) : Prop :=
  (∀ a x, ((![v3, v655] : Fin 2 → IVec S16 32) a x).toNat < S16x1024.size a)
theorem k1_idx3_inb : ∀ (v3 : IVec S16 32) (v655 : IVec S16 32) (k1_hw3 : k1_chk3 v3 v655), ∀ a x, ((![v3, v655] : Fin 2 → IVec S16 32) a x).toNat < S16x1024.size a := fun v3 v655 k1_hw3 => k1_hw3

def k1_chk4 (v3 : IVec S16 32) (v659 : IVec S16 32) : Prop :=
  (∀ a x, ((![v3, v659] : Fin 2 → IVec S16 32) a x).toNat < S16x1024.size a)
theorem k1_idx4_inb : ∀ (v3 : IVec S16 32) (v659 : IVec S16 32) (k1_hw4 : k1_chk4 v3 v659), ∀ a x, ((![v3, v659] : Fin 2 → IVec S16 32) a x).toNat < S16x1024.size a := fun v3 v659 k1_hw4 => k1_hw4

def k1_chk5 (v3 : IVec S16 32) (v663 : IVec S16 32) : Prop :=
  (∀ a x, ((![v3, v663] : Fin 2 → IVec S16 32) a x).toNat < S16x1024.size a)
theorem k1_idx5_inb : ∀ (v3 : IVec S16 32) (v663 : IVec S16 32) (k1_hw5 : k1_chk5 v3 v663), ∀ a x, ((![v3, v663] : Fin 2 → IVec S16 32) a x).toNat < S16x1024.size a := fun v3 v663 k1_hw5 => k1_hw5

def k1_chk6 (v3 : IVec S16 32) (v667 : IVec S16 32) : Prop :=
  (∀ a x, ((![v3, v667] : Fin 2 → IVec S16 32) a x).toNat < S16x1024.size a)
theorem k1_idx6_inb : ∀ (v3 : IVec S16 32) (v667 : IVec S16 32) (k1_hw6 : k1_chk6 v3 v667), ∀ a x, ((![v3, v667] : Fin 2 → IVec S16 32) a x).toNat < S16x1024.size a := fun v3 v667 k1_hw6 => k1_hw6

def k1_chk7 (v3 : IVec S16 32) (v671 : IVec S16 32) : Prop :=
  (∀ a x, ((![v3, v671] : Fin 2 → IVec S16 32) a x).toNat < S16x1024.size a)
theorem k1_idx7_inb : ∀ (v3 : IVec S16 32) (v671 : IVec S16 32) (k1_hw7 : k1_chk7 v3 v671), ∀ a x, ((![v3, v671] : Fin 2 → IVec S16 32) a x).toNat < S16x1024.size a := fun v3 v671 k1_hw7 => k1_hw7

def k1_chk8 (v3 : IVec S16 32) (v675 : IVec S16 32) : Prop :=
  (∀ a x, ((![v3, v675] : Fin 2 → IVec S16 32) a x).toNat < S16x1024.size a)
theorem k1_idx8_inb : ∀ (v3 : IVec S16 32) (v675 : IVec S16 32) (k1_hw8 : k1_chk8 v3 v675), ∀ a x, ((![v3, v675] : Fin 2 → IVec S16 32) a x).toNat < S16x1024.size a := fun v3 v675 k1_hw8 => k1_hw8

def k1_chk9 (v3 : IVec S16 32) (v679 : IVec S16 32) : Prop :=
  (∀ a x, ((![v3, v679] : Fin 2 → IVec S16 32) a x).toNat < S16x1024.size a)
theorem k1_idx9_inb : ∀ (v3 : IVec S16 32) (v679 : IVec S16 32) (k1_hw9 : k1_chk9 v3 v679), ∀ a x, ((![v3, v679] : Fin 2 → IVec S16 32) a x).toNat < S16x1024.size a := fun v3 v679 k1_hw9 => k1_hw9

def k1_chk10 (v3 : IVec S16 32) (v683 : IVec S16 32) : Prop :=
  (∀ a x, ((![v3, v683] : Fin 2 → IVec S16 32) a x).toNat < S16x1024.size a)
theorem k1_idx10_inb : ∀ (v3 : IVec S16 32) (v683 : IVec S16 32) (k1_hw10 : k1_chk10 v3 v683), ∀ a x, ((![v3, v683] : Fin 2 → IVec S16 32) a x).toNat < S16x1024.size a := fun v3 v683 k1_hw10 => k1_hw10

def k1_chk11 (v3 : IVec S16 32) (v687 : IVec S16 32) : Prop :=
  (∀ a x, ((![v3, v687] : Fin 2 → IVec S16 32) a x).toNat < S16x1024.size a)
theorem k1_idx11_inb : ∀ (v3 : IVec S16 32) (v687 : IVec S16 32) (k1_hw11 : k1_chk11 v3 v687), ∀ a x, ((![v3, v687] : Fin 2 → IVec S16 32) a x).toNat < S16x1024.size a := fun v3 v687 k1_hw11 => k1_hw11

def k1_chk12 (v3 : IVec S16 32) (v691 : IVec S16 32) : Prop :=
  (∀ a x, ((![v3, v691] : Fin 2 → IVec S16 32) a x).toNat < S16x1024.size a)
theorem k1_idx12_inb : ∀ (v3 : IVec S16 32) (v691 : IVec S16 32) (k1_hw12 : k1_chk12 v3 v691), ∀ a x, ((![v3, v691] : Fin 2 → IVec S16 32) a x).toNat < S16x1024.size a := fun v3 v691 k1_hw12 => k1_hw12

def k1_chk13 (v3 : IVec S16 32) (v695 : IVec S16 32) : Prop :=
  (∀ a x, ((![v3, v695] : Fin 2 → IVec S16 32) a x).toNat < S16x1024.size a)
theorem k1_idx13_inb : ∀ (v3 : IVec S16 32) (v695 : IVec S16 32) (k1_hw13 : k1_chk13 v3 v695), ∀ a x, ((![v3, v695] : Fin 2 → IVec S16 32) a x).toNat < S16x1024.size a := fun v3 v695 k1_hw13 => k1_hw13

def k1_chk14 (v3 : IVec S16 32) (v699 : IVec S16 32) : Prop :=
  (∀ a x, ((![v3, v699] : Fin 2 → IVec S16 32) a x).toNat < S16x1024.size a)
theorem k1_idx14_inb : ∀ (v3 : IVec S16 32) (v699 : IVec S16 32) (k1_hw14 : k1_chk14 v3 v699), ∀ a x, ((![v3, v699] : Fin 2 → IVec S16 32) a x).toNat < S16x1024.size a := fun v3 v699 k1_hw14 => k1_hw14

def k1_chk15 (v3 : IVec S16 32) (v703 : IVec S16 32) : Prop :=
  (∀ a x, ((![v3, v703] : Fin 2 → IVec S16 32) a x).toNat < S16x1024.size a)
theorem k1_idx15_inb : ∀ (v3 : IVec S16 32) (v703 : IVec S16 32) (k1_hw15 : k1_chk15 v3 v703), ∀ a x, ((![v3, v703] : Fin 2 → IVec S16 32) a x).toNat < S16x1024.size a := fun v3 v703 k1_hw15 => k1_hw15

def k1_chk16 (v3 : IVec S16 32) (v707 : IVec S16 32) : Prop :=
  (∀ a x, ((![v3, v707] : Fin 2 → IVec S16 32) a x).toNat < S16x1024.size a)
theorem k1_idx16_inb : ∀ (v3 : IVec S16 32) (v707 : IVec S16 32) (k1_hw16 : k1_chk16 v3 v707), ∀ a x, ((![v3, v707] : Fin 2 → IVec S16 32) a x).toNat < S16x1024.size a := fun v3 v707 k1_hw16 => k1_hw16
@[reducible] def k1_t2_loop : Scf.Loop 32 :=
  let c0_i32_433 : BitVec 32 := 0#32
  let c8_i32_434 : BitVec 32 := 8#32
  let v709 : BitVec 32 := Scalar.addi c0_i32_433 c8_i32_434
  let c1_i32_435 : BitVec 32 := 1#32
  ⟨c0_i32_433, v709, c1_i32_435⟩
@[reducible] def k1_t3_loop : Scf.Loop 32 :=
  let c0_i32_437 : BitVec 32 := 0#32
  let c8_i32_438 : BitVec 32 := 8#32
  let v727 : BitVec 32 := Scalar.addi c0_i32_437 c8_i32_438
  let c1_i32_439 : BitVec 32 := 1#32
  ⟨c0_i32_437, v727, c1_i32_439⟩
def k1_off2 (i : grid1.Coords) (c32_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v47 : BitVec 32 := Scalar.addi v2 c32_i32
  let c0_i32_24 : BitVec 32 := 0#32
  ![v47.toNat, 0]
@[reducible] def k1_t4_loop : Scf.Loop 32 :=
  let c0_i32_44 : BitVec 32 := 0#32
  let c64_i32_45 : BitVec 32 := 64#32
  let v68 : BitVec 32 := Scalar.addi c0_i32_44 c64_i32_45
  let c1_i32_46 : BitVec 32 := 1#32
  ⟨c0_i32_44, v68, c1_i32_46⟩

def k1_chk17 (v3 : IVec S16 32) (v647 : IVec S16 32) : Prop :=
  (∀ a x, ((![v3, v647] : Fin 2 → IVec S16 32) a x).toNat < S16x1024.size a)
theorem k1_idx17_inb : ∀ (v3 : IVec S16 32) (v647 : IVec S16 32) (k1_hw17 : k1_chk17 v3 v647), ∀ a x, ((![v3, v647] : Fin 2 → IVec S16 32) a x).toNat < S16x1024.size a := fun v3 v647 k1_hw17 => k1_hw17

def k1_chk18 (v3 : IVec S16 32) (v651 : IVec S16 32) : Prop :=
  (∀ a x, ((![v3, v651] : Fin 2 → IVec S16 32) a x).toNat < S16x1024.size a)
theorem k1_idx18_inb : ∀ (v3 : IVec S16 32) (v651 : IVec S16 32) (k1_hw18 : k1_chk18 v3 v651), ∀ a x, ((![v3, v651] : Fin 2 → IVec S16 32) a x).toNat < S16x1024.size a := fun v3 v651 k1_hw18 => k1_hw18

def k1_chk19 (v3 : IVec S16 32) (v655 : IVec S16 32) : Prop :=
  (∀ a x, ((![v3, v655] : Fin 2 → IVec S16 32) a x).toNat < S16x1024.size a)
theorem k1_idx19_inb : ∀ (v3 : IVec S16 32) (v655 : IVec S16 32) (k1_hw19 : k1_chk19 v3 v655), ∀ a x, ((![v3, v655] : Fin 2 → IVec S16 32) a x).toNat < S16x1024.size a := fun v3 v655 k1_hw19 => k1_hw19

def k1_chk20 (v3 : IVec S16 32) (v659 : IVec S16 32) : Prop :=
  (∀ a x, ((![v3, v659] : Fin 2 → IVec S16 32) a x).toNat < S16x1024.size a)
theorem k1_idx20_inb : ∀ (v3 : IVec S16 32) (v659 : IVec S16 32) (k1_hw20 : k1_chk20 v3 v659), ∀ a x, ((![v3, v659] : Fin 2 → IVec S16 32) a x).toNat < S16x1024.size a := fun v3 v659 k1_hw20 => k1_hw20

def k1_chk21 (v3 : IVec S16 32) (v663 : IVec S16 32) : Prop :=
  (∀ a x, ((![v3, v663] : Fin 2 → IVec S16 32) a x).toNat < S16x1024.size a)
theorem k1_idx21_inb : ∀ (v3 : IVec S16 32) (v663 : IVec S16 32) (k1_hw21 : k1_chk21 v3 v663), ∀ a x, ((![v3, v663] : Fin 2 → IVec S16 32) a x).toNat < S16x1024.size a := fun v3 v663 k1_hw21 => k1_hw21

def k1_chk22 (v3 : IVec S16 32) (v667 : IVec S16 32) : Prop :=
  (∀ a x, ((![v3, v667] : Fin 2 → IVec S16 32) a x).toNat < S16x1024.size a)
theorem k1_idx22_inb : ∀ (v3 : IVec S16 32) (v667 : IVec S16 32) (k1_hw22 : k1_chk22 v3 v667), ∀ a x, ((![v3, v667] : Fin 2 → IVec S16 32) a x).toNat < S16x1024.size a := fun v3 v667 k1_hw22 => k1_hw22

def k1_chk23 (v3 : IVec S16 32) (v671 : IVec S16 32) : Prop :=
  (∀ a x, ((![v3, v671] : Fin 2 → IVec S16 32) a x).toNat < S16x1024.size a)
theorem k1_idx23_inb : ∀ (v3 : IVec S16 32) (v671 : IVec S16 32) (k1_hw23 : k1_chk23 v3 v671), ∀ a x, ((![v3, v671] : Fin 2 → IVec S16 32) a x).toNat < S16x1024.size a := fun v3 v671 k1_hw23 => k1_hw23

def k1_chk24 (v3 : IVec S16 32) (v675 : IVec S16 32) : Prop :=
  (∀ a x, ((![v3, v675] : Fin 2 → IVec S16 32) a x).toNat < S16x1024.size a)
theorem k1_idx24_inb : ∀ (v3 : IVec S16 32) (v675 : IVec S16 32) (k1_hw24 : k1_chk24 v3 v675), ∀ a x, ((![v3, v675] : Fin 2 → IVec S16 32) a x).toNat < S16x1024.size a := fun v3 v675 k1_hw24 => k1_hw24

def k1_chk25 (v3 : IVec S16 32) (v679 : IVec S16 32) : Prop :=
  (∀ a x, ((![v3, v679] : Fin 2 → IVec S16 32) a x).toNat < S16x1024.size a)
theorem k1_idx25_inb : ∀ (v3 : IVec S16 32) (v679 : IVec S16 32) (k1_hw25 : k1_chk25 v3 v679), ∀ a x, ((![v3, v679] : Fin 2 → IVec S16 32) a x).toNat < S16x1024.size a := fun v3 v679 k1_hw25 => k1_hw25

def k1_chk26 (v3 : IVec S16 32) (v683 : IVec S16 32) : Prop :=
  (∀ a x, ((![v3, v683] : Fin 2 → IVec S16 32) a x).toNat < S16x1024.size a)
theorem k1_idx26_inb : ∀ (v3 : IVec S16 32) (v683 : IVec S16 32) (k1_hw26 : k1_chk26 v3 v683), ∀ a x, ((![v3, v683] : Fin 2 → IVec S16 32) a x).toNat < S16x1024.size a := fun v3 v683 k1_hw26 => k1_hw26

def k1_chk27 (v3 : IVec S16 32) (v687 : IVec S16 32) : Prop :=
  (∀ a x, ((![v3, v687] : Fin 2 → IVec S16 32) a x).toNat < S16x1024.size a)
theorem k1_idx27_inb : ∀ (v3 : IVec S16 32) (v687 : IVec S16 32) (k1_hw27 : k1_chk27 v3 v687), ∀ a x, ((![v3, v687] : Fin 2 → IVec S16 32) a x).toNat < S16x1024.size a := fun v3 v687 k1_hw27 => k1_hw27

def k1_chk28 (v3 : IVec S16 32) (v691 : IVec S16 32) : Prop :=
  (∀ a x, ((![v3, v691] : Fin 2 → IVec S16 32) a x).toNat < S16x1024.size a)
theorem k1_idx28_inb : ∀ (v3 : IVec S16 32) (v691 : IVec S16 32) (k1_hw28 : k1_chk28 v3 v691), ∀ a x, ((![v3, v691] : Fin 2 → IVec S16 32) a x).toNat < S16x1024.size a := fun v3 v691 k1_hw28 => k1_hw28

def k1_chk29 (v3 : IVec S16 32) (v695 : IVec S16 32) : Prop :=
  (∀ a x, ((![v3, v695] : Fin 2 → IVec S16 32) a x).toNat < S16x1024.size a)
theorem k1_idx29_inb : ∀ (v3 : IVec S16 32) (v695 : IVec S16 32) (k1_hw29 : k1_chk29 v3 v695), ∀ a x, ((![v3, v695] : Fin 2 → IVec S16 32) a x).toNat < S16x1024.size a := fun v3 v695 k1_hw29 => k1_hw29

def k1_chk30 (v3 : IVec S16 32) (v699 : IVec S16 32) : Prop :=
  (∀ a x, ((![v3, v699] : Fin 2 → IVec S16 32) a x).toNat < S16x1024.size a)
theorem k1_idx30_inb : ∀ (v3 : IVec S16 32) (v699 : IVec S16 32) (k1_hw30 : k1_chk30 v3 v699), ∀ a x, ((![v3, v699] : Fin 2 → IVec S16 32) a x).toNat < S16x1024.size a := fun v3 v699 k1_hw30 => k1_hw30

def k1_chk31 (v3 : IVec S16 32) (v703 : IVec S16 32) : Prop :=
  (∀ a x, ((![v3, v703] : Fin 2 → IVec S16 32) a x).toNat < S16x1024.size a)
theorem k1_idx31_inb : ∀ (v3 : IVec S16 32) (v703 : IVec S16 32) (k1_hw31 : k1_chk31 v3 v703), ∀ a x, ((![v3, v703] : Fin 2 → IVec S16 32) a x).toNat < S16x1024.size a := fun v3 v703 k1_hw31 => k1_hw31

def k1_chk32 (v3 : IVec S16 32) (v707 : IVec S16 32) : Prop :=
  (∀ a x, ((![v3, v707] : Fin 2 → IVec S16 32) a x).toNat < S16x1024.size a)
theorem k1_idx32_inb : ∀ (v3 : IVec S16 32) (v707 : IVec S16 32) (k1_hw32 : k1_chk32 v3 v707), ∀ a x, ((![v3, v707] : Fin 2 → IVec S16 32) a x).toNat < S16x1024.size a := fun v3 v707 k1_hw32 => k1_hw32
@[reducible] def k1_t5_loop : Scf.Loop 32 :=
  let c0_i32_433 : BitVec 32 := 0#32
  let c8_i32_434 : BitVec 32 := 8#32
  let v709 : BitVec 32 := Scalar.addi c0_i32_433 c8_i32_434
  let c1_i32_435 : BitVec 32 := 1#32
  ⟨c0_i32_433, v709, c1_i32_435⟩
@[reducible] def k1_t6_loop : Scf.Loop 32 :=
  let c0_i32_437 : BitVec 32 := 0#32
  let c8_i32_438 : BitVec 32 := 8#32
  let v727 : BitVec 32 := Scalar.addi c0_i32_437 c8_i32_438
  let c1_i32_439 : BitVec 32 := 1#32
  ⟨c0_i32_437, v727, c1_i32_439⟩
@[reducible] def k1_t7_loop : Scf.Loop 32 :=
  let c0_i32_70 : BitVec 32 := 0#32
  let c64_i32_71 : BitVec 32 := 64#32
  let v108 : BitVec 32 := Scalar.addi c0_i32_70 c64_i32_71
  let c1_i32_72 : BitVec 32 := 1#32
  ⟨c0_i32_70, v108, c1_i32_72⟩

def k1_chk33 (v3 : IVec S16 32) (v647 : IVec S16 32) : Prop :=
  (∀ a x, ((![v3, v647] : Fin 2 → IVec S16 32) a x).toNat < S16x1024.size a)
theorem k1_idx33_inb : ∀ (v3 : IVec S16 32) (v647 : IVec S16 32) (k1_hw33 : k1_chk33 v3 v647), ∀ a x, ((![v3, v647] : Fin 2 → IVec S16 32) a x).toNat < S16x1024.size a := fun v3 v647 k1_hw33 => k1_hw33

def k1_chk34 (v3 : IVec S16 32) (v651 : IVec S16 32) : Prop :=
  (∀ a x, ((![v3, v651] : Fin 2 → IVec S16 32) a x).toNat < S16x1024.size a)
theorem k1_idx34_inb : ∀ (v3 : IVec S16 32) (v651 : IVec S16 32) (k1_hw34 : k1_chk34 v3 v651), ∀ a x, ((![v3, v651] : Fin 2 → IVec S16 32) a x).toNat < S16x1024.size a := fun v3 v651 k1_hw34 => k1_hw34

def k1_chk35 (v3 : IVec S16 32) (v655 : IVec S16 32) : Prop :=
  (∀ a x, ((![v3, v655] : Fin 2 → IVec S16 32) a x).toNat < S16x1024.size a)
theorem k1_idx35_inb : ∀ (v3 : IVec S16 32) (v655 : IVec S16 32) (k1_hw35 : k1_chk35 v3 v655), ∀ a x, ((![v3, v655] : Fin 2 → IVec S16 32) a x).toNat < S16x1024.size a := fun v3 v655 k1_hw35 => k1_hw35

def k1_chk36 (v3 : IVec S16 32) (v659 : IVec S16 32) : Prop :=
  (∀ a x, ((![v3, v659] : Fin 2 → IVec S16 32) a x).toNat < S16x1024.size a)
theorem k1_idx36_inb : ∀ (v3 : IVec S16 32) (v659 : IVec S16 32) (k1_hw36 : k1_chk36 v3 v659), ∀ a x, ((![v3, v659] : Fin 2 → IVec S16 32) a x).toNat < S16x1024.size a := fun v3 v659 k1_hw36 => k1_hw36

def k1_chk37 (v3 : IVec S16 32) (v663 : IVec S16 32) : Prop :=
  (∀ a x, ((![v3, v663] : Fin 2 → IVec S16 32) a x).toNat < S16x1024.size a)
theorem k1_idx37_inb : ∀ (v3 : IVec S16 32) (v663 : IVec S16 32) (k1_hw37 : k1_chk37 v3 v663), ∀ a x, ((![v3, v663] : Fin 2 → IVec S16 32) a x).toNat < S16x1024.size a := fun v3 v663 k1_hw37 => k1_hw37

def k1_chk38 (v3 : IVec S16 32) (v667 : IVec S16 32) : Prop :=
  (∀ a x, ((![v3, v667] : Fin 2 → IVec S16 32) a x).toNat < S16x1024.size a)
theorem k1_idx38_inb : ∀ (v3 : IVec S16 32) (v667 : IVec S16 32) (k1_hw38 : k1_chk38 v3 v667), ∀ a x, ((![v3, v667] : Fin 2 → IVec S16 32) a x).toNat < S16x1024.size a := fun v3 v667 k1_hw38 => k1_hw38

def k1_chk39 (v3 : IVec S16 32) (v671 : IVec S16 32) : Prop :=
  (∀ a x, ((![v3, v671] : Fin 2 → IVec S16 32) a x).toNat < S16x1024.size a)
theorem k1_idx39_inb : ∀ (v3 : IVec S16 32) (v671 : IVec S16 32) (k1_hw39 : k1_chk39 v3 v671), ∀ a x, ((![v3, v671] : Fin 2 → IVec S16 32) a x).toNat < S16x1024.size a := fun v3 v671 k1_hw39 => k1_hw39

def k1_chk40 (v3 : IVec S16 32) (v675 : IVec S16 32) : Prop :=
  (∀ a x, ((![v3, v675] : Fin 2 → IVec S16 32) a x).toNat < S16x1024.size a)
theorem k1_idx40_inb : ∀ (v3 : IVec S16 32) (v675 : IVec S16 32) (k1_hw40 : k1_chk40 v3 v675), ∀ a x, ((![v3, v675] : Fin 2 → IVec S16 32) a x).toNat < S16x1024.size a := fun v3 v675 k1_hw40 => k1_hw40

def k1_chk41 (v3 : IVec S16 32) (v679 : IVec S16 32) : Prop :=
  (∀ a x, ((![v3, v679] : Fin 2 → IVec S16 32) a x).toNat < S16x1024.size a)
theorem k1_idx41_inb : ∀ (v3 : IVec S16 32) (v679 : IVec S16 32) (k1_hw41 : k1_chk41 v3 v679), ∀ a x, ((![v3, v679] : Fin 2 → IVec S16 32) a x).toNat < S16x1024.size a := fun v3 v679 k1_hw41 => k1_hw41

def k1_chk42 (v3 : IVec S16 32) (v683 : IVec S16 32) : Prop :=
  (∀ a x, ((![v3, v683] : Fin 2 → IVec S16 32) a x).toNat < S16x1024.size a)
theorem k1_idx42_inb : ∀ (v3 : IVec S16 32) (v683 : IVec S16 32) (k1_hw42 : k1_chk42 v3 v683), ∀ a x, ((![v3, v683] : Fin 2 → IVec S16 32) a x).toNat < S16x1024.size a := fun v3 v683 k1_hw42 => k1_hw42

def k1_chk43 (v3 : IVec S16 32) (v687 : IVec S16 32) : Prop :=
  (∀ a x, ((![v3, v687] : Fin 2 → IVec S16 32) a x).toNat < S16x1024.size a)
theorem k1_idx43_inb : ∀ (v3 : IVec S16 32) (v687 : IVec S16 32) (k1_hw43 : k1_chk43 v3 v687), ∀ a x, ((![v3, v687] : Fin 2 → IVec S16 32) a x).toNat < S16x1024.size a := fun v3 v687 k1_hw43 => k1_hw43

def k1_chk44 (v3 : IVec S16 32) (v691 : IVec S16 32) : Prop :=
  (∀ a x, ((![v3, v691] : Fin 2 → IVec S16 32) a x).toNat < S16x1024.size a)
theorem k1_idx44_inb : ∀ (v3 : IVec S16 32) (v691 : IVec S16 32) (k1_hw44 : k1_chk44 v3 v691), ∀ a x, ((![v3, v691] : Fin 2 → IVec S16 32) a x).toNat < S16x1024.size a := fun v3 v691 k1_hw44 => k1_hw44

def k1_chk45 (v3 : IVec S16 32) (v695 : IVec S16 32) : Prop :=
  (∀ a x, ((![v3, v695] : Fin 2 → IVec S16 32) a x).toNat < S16x1024.size a)
theorem k1_idx45_inb : ∀ (v3 : IVec S16 32) (v695 : IVec S16 32) (k1_hw45 : k1_chk45 v3 v695), ∀ a x, ((![v3, v695] : Fin 2 → IVec S16 32) a x).toNat < S16x1024.size a := fun v3 v695 k1_hw45 => k1_hw45

def k1_chk46 (v3 : IVec S16 32) (v699 : IVec S16 32) : Prop :=
  (∀ a x, ((![v3, v699] : Fin 2 → IVec S16 32) a x).toNat < S16x1024.size a)
theorem k1_idx46_inb : ∀ (v3 : IVec S16 32) (v699 : IVec S16 32) (k1_hw46 : k1_chk46 v3 v699), ∀ a x, ((![v3, v699] : Fin 2 → IVec S16 32) a x).toNat < S16x1024.size a := fun v3 v699 k1_hw46 => k1_hw46

def k1_chk47 (v3 : IVec S16 32) (v703 : IVec S16 32) : Prop :=
  (∀ a x, ((![v3, v703] : Fin 2 → IVec S16 32) a x).toNat < S16x1024.size a)
theorem k1_idx47_inb : ∀ (v3 : IVec S16 32) (v703 : IVec S16 32) (k1_hw47 : k1_chk47 v3 v703), ∀ a x, ((![v3, v703] : Fin 2 → IVec S16 32) a x).toNat < S16x1024.size a := fun v3 v703 k1_hw47 => k1_hw47

def k1_chk48 (v3 : IVec S16 32) (v707 : IVec S16 32) : Prop :=
  (∀ a x, ((![v3, v707] : Fin 2 → IVec S16 32) a x).toNat < S16x1024.size a)
theorem k1_idx48_inb : ∀ (v3 : IVec S16 32) (v707 : IVec S16 32) (k1_hw48 : k1_chk48 v3 v707), ∀ a x, ((![v3, v707] : Fin 2 → IVec S16 32) a x).toNat < S16x1024.size a := fun v3 v707 k1_hw48 => k1_hw48
@[reducible] def k1_t8_loop : Scf.Loop 32 :=
  let c0_i32_433 : BitVec 32 := 0#32
  let c8_i32_434 : BitVec 32 := 8#32
  let v709 : BitVec 32 := Scalar.addi c0_i32_433 c8_i32_434
  let c1_i32_435 : BitVec 32 := 1#32
  ⟨c0_i32_433, v709, c1_i32_435⟩
@[reducible] def k1_t9_loop : Scf.Loop 32 :=
  let c0_i32_437 : BitVec 32 := 0#32
  let c8_i32_438 : BitVec 32 := 8#32
  let v727 : BitVec 32 := Scalar.addi c0_i32_437 c8_i32_438
  let c1_i32_439 : BitVec 32 := 1#32
  ⟨c0_i32_437, v727, c1_i32_439⟩
@[reducible] def k1_t10_loop : Scf.Loop 32 :=
  let c0_i32_97 : BitVec 32 := 0#32
  let c64_i32_98 : BitVec 32 := 64#32
  let v148 : BitVec 32 := Scalar.addi c0_i32_97 c64_i32_98
  let c1_i32_99 : BitVec 32 := 1#32
  ⟨c0_i32_97, v148, c1_i32_99⟩

def k1_chk49 (v3 : IVec S16 32) (v647 : IVec S16 32) : Prop :=
  (∀ a x, ((![v3, v647] : Fin 2 → IVec S16 32) a x).toNat < S16x1024.size a)
theorem k1_idx49_inb : ∀ (v3 : IVec S16 32) (v647 : IVec S16 32) (k1_hw49 : k1_chk49 v3 v647), ∀ a x, ((![v3, v647] : Fin 2 → IVec S16 32) a x).toNat < S16x1024.size a := fun v3 v647 k1_hw49 => k1_hw49

def k1_chk50 (v3 : IVec S16 32) (v651 : IVec S16 32) : Prop :=
  (∀ a x, ((![v3, v651] : Fin 2 → IVec S16 32) a x).toNat < S16x1024.size a)
theorem k1_idx50_inb : ∀ (v3 : IVec S16 32) (v651 : IVec S16 32) (k1_hw50 : k1_chk50 v3 v651), ∀ a x, ((![v3, v651] : Fin 2 → IVec S16 32) a x).toNat < S16x1024.size a := fun v3 v651 k1_hw50 => k1_hw50

def k1_chk51 (v3 : IVec S16 32) (v655 : IVec S16 32) : Prop :=
  (∀ a x, ((![v3, v655] : Fin 2 → IVec S16 32) a x).toNat < S16x1024.size a)
theorem k1_idx51_inb : ∀ (v3 : IVec S16 32) (v655 : IVec S16 32) (k1_hw51 : k1_chk51 v3 v655), ∀ a x, ((![v3, v655] : Fin 2 → IVec S16 32) a x).toNat < S16x1024.size a := fun v3 v655 k1_hw51 => k1_hw51

def k1_chk52 (v3 : IVec S16 32) (v659 : IVec S16 32) : Prop :=
  (∀ a x, ((![v3, v659] : Fin 2 → IVec S16 32) a x).toNat < S16x1024.size a)
theorem k1_idx52_inb : ∀ (v3 : IVec S16 32) (v659 : IVec S16 32) (k1_hw52 : k1_chk52 v3 v659), ∀ a x, ((![v3, v659] : Fin 2 → IVec S16 32) a x).toNat < S16x1024.size a := fun v3 v659 k1_hw52 => k1_hw52

def k1_chk53 (v3 : IVec S16 32) (v663 : IVec S16 32) : Prop :=
  (∀ a x, ((![v3, v663] : Fin 2 → IVec S16 32) a x).toNat < S16x1024.size a)
theorem k1_idx53_inb : ∀ (v3 : IVec S16 32) (v663 : IVec S16 32) (k1_hw53 : k1_chk53 v3 v663), ∀ a x, ((![v3, v663] : Fin 2 → IVec S16 32) a x).toNat < S16x1024.size a := fun v3 v663 k1_hw53 => k1_hw53

def k1_chk54 (v3 : IVec S16 32) (v667 : IVec S16 32) : Prop :=
  (∀ a x, ((![v3, v667] : Fin 2 → IVec S16 32) a x).toNat < S16x1024.size a)
theorem k1_idx54_inb : ∀ (v3 : IVec S16 32) (v667 : IVec S16 32) (k1_hw54 : k1_chk54 v3 v667), ∀ a x, ((![v3, v667] : Fin 2 → IVec S16 32) a x).toNat < S16x1024.size a := fun v3 v667 k1_hw54 => k1_hw54

def k1_chk55 (v3 : IVec S16 32) (v671 : IVec S16 32) : Prop :=
  (∀ a x, ((![v3, v671] : Fin 2 → IVec S16 32) a x).toNat < S16x1024.size a)
theorem k1_idx55_inb : ∀ (v3 : IVec S16 32) (v671 : IVec S16 32) (k1_hw55 : k1_chk55 v3 v671), ∀ a x, ((![v3, v671] : Fin 2 → IVec S16 32) a x).toNat < S16x1024.size a := fun v3 v671 k1_hw55 => k1_hw55

def k1_chk56 (v3 : IVec S16 32) (v675 : IVec S16 32) : Prop :=
  (∀ a x, ((![v3, v675] : Fin 2 → IVec S16 32) a x).toNat < S16x1024.size a)
theorem k1_idx56_inb : ∀ (v3 : IVec S16 32) (v675 : IVec S16 32) (k1_hw56 : k1_chk56 v3 v675), ∀ a x, ((![v3, v675] : Fin 2 → IVec S16 32) a x).toNat < S16x1024.size a := fun v3 v675 k1_hw56 => k1_hw56

def k1_chk57 (v3 : IVec S16 32) (v679 : IVec S16 32) : Prop :=
  (∀ a x, ((![v3, v679] : Fin 2 → IVec S16 32) a x).toNat < S16x1024.size a)
theorem k1_idx57_inb : ∀ (v3 : IVec S16 32) (v679 : IVec S16 32) (k1_hw57 : k1_chk57 v3 v679), ∀ a x, ((![v3, v679] : Fin 2 → IVec S16 32) a x).toNat < S16x1024.size a := fun v3 v679 k1_hw57 => k1_hw57

def k1_chk58 (v3 : IVec S16 32) (v683 : IVec S16 32) : Prop :=
  (∀ a x, ((![v3, v683] : Fin 2 → IVec S16 32) a x).toNat < S16x1024.size a)
theorem k1_idx58_inb : ∀ (v3 : IVec S16 32) (v683 : IVec S16 32) (k1_hw58 : k1_chk58 v3 v683), ∀ a x, ((![v3, v683] : Fin 2 → IVec S16 32) a x).toNat < S16x1024.size a := fun v3 v683 k1_hw58 => k1_hw58

def k1_chk59 (v3 : IVec S16 32) (v687 : IVec S16 32) : Prop :=
  (∀ a x, ((![v3, v687] : Fin 2 → IVec S16 32) a x).toNat < S16x1024.size a)
theorem k1_idx59_inb : ∀ (v3 : IVec S16 32) (v687 : IVec S16 32) (k1_hw59 : k1_chk59 v3 v687), ∀ a x, ((![v3, v687] : Fin 2 → IVec S16 32) a x).toNat < S16x1024.size a := fun v3 v687 k1_hw59 => k1_hw59

def k1_chk60 (v3 : IVec S16 32) (v691 : IVec S16 32) : Prop :=
  (∀ a x, ((![v3, v691] : Fin 2 → IVec S16 32) a x).toNat < S16x1024.size a)
theorem k1_idx60_inb : ∀ (v3 : IVec S16 32) (v691 : IVec S16 32) (k1_hw60 : k1_chk60 v3 v691), ∀ a x, ((![v3, v691] : Fin 2 → IVec S16 32) a x).toNat < S16x1024.size a := fun v3 v691 k1_hw60 => k1_hw60

def k1_chk61 (v3 : IVec S16 32) (v695 : IVec S16 32) : Prop :=
  (∀ a x, ((![v3, v695] : Fin 2 → IVec S16 32) a x).toNat < S16x1024.size a)
theorem k1_idx61_inb : ∀ (v3 : IVec S16 32) (v695 : IVec S16 32) (k1_hw61 : k1_chk61 v3 v695), ∀ a x, ((![v3, v695] : Fin 2 → IVec S16 32) a x).toNat < S16x1024.size a := fun v3 v695 k1_hw61 => k1_hw61

def k1_chk62 (v3 : IVec S16 32) (v699 : IVec S16 32) : Prop :=
  (∀ a x, ((![v3, v699] : Fin 2 → IVec S16 32) a x).toNat < S16x1024.size a)
theorem k1_idx62_inb : ∀ (v3 : IVec S16 32) (v699 : IVec S16 32) (k1_hw62 : k1_chk62 v3 v699), ∀ a x, ((![v3, v699] : Fin 2 → IVec S16 32) a x).toNat < S16x1024.size a := fun v3 v699 k1_hw62 => k1_hw62

def k1_chk63 (v3 : IVec S16 32) (v703 : IVec S16 32) : Prop :=
  (∀ a x, ((![v3, v703] : Fin 2 → IVec S16 32) a x).toNat < S16x1024.size a)
theorem k1_idx63_inb : ∀ (v3 : IVec S16 32) (v703 : IVec S16 32) (k1_hw63 : k1_chk63 v3 v703), ∀ a x, ((![v3, v703] : Fin 2 → IVec S16 32) a x).toNat < S16x1024.size a := fun v3 v703 k1_hw63 => k1_hw63

def k1_chk64 (v3 : IVec S16 32) (v707 : IVec S16 32) : Prop :=
  (∀ a x, ((![v3, v707] : Fin 2 → IVec S16 32) a x).toNat < S16x1024.size a)
theorem k1_idx64_inb : ∀ (v3 : IVec S16 32) (v707 : IVec S16 32) (k1_hw64 : k1_chk64 v3 v707), ∀ a x, ((![v3, v707] : Fin 2 → IVec S16 32) a x).toNat < S16x1024.size a := fun v3 v707 k1_hw64 => k1_hw64
@[reducible] def k1_t11_loop : Scf.Loop 32 :=
  let c0_i32_433 : BitVec 32 := 0#32
  let c8_i32_434 : BitVec 32 := 8#32
  let v709 : BitVec 32 := Scalar.addi c0_i32_433 c8_i32_434
  let c1_i32_435 : BitVec 32 := 1#32
  ⟨c0_i32_433, v709, c1_i32_435⟩
@[reducible] def k1_t12_loop : Scf.Loop 32 :=
  let c0_i32_437 : BitVec 32 := 0#32
  let c8_i32_438 : BitVec 32 := 8#32
  let v727 : BitVec 32 := Scalar.addi c0_i32_437 c8_i32_438
  let c1_i32_439 : BitVec 32 := 1#32
  ⟨c0_i32_437, v727, c1_i32_439⟩
@[reducible] def k1_t13_loop : Scf.Loop 32 :=
  let c0_i32_122 : BitVec 32 := 0#32
  let c64_i32_123 : BitVec 32 := 64#32
  let v188 : BitVec 32 := Scalar.addi c0_i32_122 c64_i32_123
  let c1_i32_124 : BitVec 32 := 1#32
  ⟨c0_i32_122, v188, c1_i32_124⟩

def k1_chk65 (v3 : IVec S16 32) (v647 : IVec S16 32) : Prop :=
  (∀ a x, ((![v3, v647] : Fin 2 → IVec S16 32) a x).toNat < S16x1024.size a)
theorem k1_idx65_inb : ∀ (v3 : IVec S16 32) (v647 : IVec S16 32) (k1_hw65 : k1_chk65 v3 v647), ∀ a x, ((![v3, v647] : Fin 2 → IVec S16 32) a x).toNat < S16x1024.size a := fun v3 v647 k1_hw65 => k1_hw65

def k1_chk66 (v3 : IVec S16 32) (v651 : IVec S16 32) : Prop :=
  (∀ a x, ((![v3, v651] : Fin 2 → IVec S16 32) a x).toNat < S16x1024.size a)
theorem k1_idx66_inb : ∀ (v3 : IVec S16 32) (v651 : IVec S16 32) (k1_hw66 : k1_chk66 v3 v651), ∀ a x, ((![v3, v651] : Fin 2 → IVec S16 32) a x).toNat < S16x1024.size a := fun v3 v651 k1_hw66 => k1_hw66

def k1_chk67 (v3 : IVec S16 32) (v655 : IVec S16 32) : Prop :=
  (∀ a x, ((![v3, v655] : Fin 2 → IVec S16 32) a x).toNat < S16x1024.size a)
theorem k1_idx67_inb : ∀ (v3 : IVec S16 32) (v655 : IVec S16 32) (k1_hw67 : k1_chk67 v3 v655), ∀ a x, ((![v3, v655] : Fin 2 → IVec S16 32) a x).toNat < S16x1024.size a := fun v3 v655 k1_hw67 => k1_hw67

def k1_chk68 (v3 : IVec S16 32) (v659 : IVec S16 32) : Prop :=
  (∀ a x, ((![v3, v659] : Fin 2 → IVec S16 32) a x).toNat < S16x1024.size a)
theorem k1_idx68_inb : ∀ (v3 : IVec S16 32) (v659 : IVec S16 32) (k1_hw68 : k1_chk68 v3 v659), ∀ a x, ((![v3, v659] : Fin 2 → IVec S16 32) a x).toNat < S16x1024.size a := fun v3 v659 k1_hw68 => k1_hw68

def k1_chk69 (v3 : IVec S16 32) (v663 : IVec S16 32) : Prop :=
  (∀ a x, ((![v3, v663] : Fin 2 → IVec S16 32) a x).toNat < S16x1024.size a)
theorem k1_idx69_inb : ∀ (v3 : IVec S16 32) (v663 : IVec S16 32) (k1_hw69 : k1_chk69 v3 v663), ∀ a x, ((![v3, v663] : Fin 2 → IVec S16 32) a x).toNat < S16x1024.size a := fun v3 v663 k1_hw69 => k1_hw69

def k1_chk70 (v3 : IVec S16 32) (v667 : IVec S16 32) : Prop :=
  (∀ a x, ((![v3, v667] : Fin 2 → IVec S16 32) a x).toNat < S16x1024.size a)
theorem k1_idx70_inb : ∀ (v3 : IVec S16 32) (v667 : IVec S16 32) (k1_hw70 : k1_chk70 v3 v667), ∀ a x, ((![v3, v667] : Fin 2 → IVec S16 32) a x).toNat < S16x1024.size a := fun v3 v667 k1_hw70 => k1_hw70

def k1_chk71 (v3 : IVec S16 32) (v671 : IVec S16 32) : Prop :=
  (∀ a x, ((![v3, v671] : Fin 2 → IVec S16 32) a x).toNat < S16x1024.size a)
theorem k1_idx71_inb : ∀ (v3 : IVec S16 32) (v671 : IVec S16 32) (k1_hw71 : k1_chk71 v3 v671), ∀ a x, ((![v3, v671] : Fin 2 → IVec S16 32) a x).toNat < S16x1024.size a := fun v3 v671 k1_hw71 => k1_hw71

def k1_chk72 (v3 : IVec S16 32) (v675 : IVec S16 32) : Prop :=
  (∀ a x, ((![v3, v675] : Fin 2 → IVec S16 32) a x).toNat < S16x1024.size a)
theorem k1_idx72_inb : ∀ (v3 : IVec S16 32) (v675 : IVec S16 32) (k1_hw72 : k1_chk72 v3 v675), ∀ a x, ((![v3, v675] : Fin 2 → IVec S16 32) a x).toNat < S16x1024.size a := fun v3 v675 k1_hw72 => k1_hw72

def k1_chk73 (v3 : IVec S16 32) (v679 : IVec S16 32) : Prop :=
  (∀ a x, ((![v3, v679] : Fin 2 → IVec S16 32) a x).toNat < S16x1024.size a)
theorem k1_idx73_inb : ∀ (v3 : IVec S16 32) (v679 : IVec S16 32) (k1_hw73 : k1_chk73 v3 v679), ∀ a x, ((![v3, v679] : Fin 2 → IVec S16 32) a x).toNat < S16x1024.size a := fun v3 v679 k1_hw73 => k1_hw73

def k1_chk74 (v3 : IVec S16 32) (v683 : IVec S16 32) : Prop :=
  (∀ a x, ((![v3, v683] : Fin 2 → IVec S16 32) a x).toNat < S16x1024.size a)
theorem k1_idx74_inb : ∀ (v3 : IVec S16 32) (v683 : IVec S16 32) (k1_hw74 : k1_chk74 v3 v683), ∀ a x, ((![v3, v683] : Fin 2 → IVec S16 32) a x).toNat < S16x1024.size a := fun v3 v683 k1_hw74 => k1_hw74

def k1_chk75 (v3 : IVec S16 32) (v687 : IVec S16 32) : Prop :=
  (∀ a x, ((![v3, v687] : Fin 2 → IVec S16 32) a x).toNat < S16x1024.size a)
theorem k1_idx75_inb : ∀ (v3 : IVec S16 32) (v687 : IVec S16 32) (k1_hw75 : k1_chk75 v3 v687), ∀ a x, ((![v3, v687] : Fin 2 → IVec S16 32) a x).toNat < S16x1024.size a := fun v3 v687 k1_hw75 => k1_hw75

def k1_chk76 (v3 : IVec S16 32) (v691 : IVec S16 32) : Prop :=
  (∀ a x, ((![v3, v691] : Fin 2 → IVec S16 32) a x).toNat < S16x1024.size a)
theorem k1_idx76_inb : ∀ (v3 : IVec S16 32) (v691 : IVec S16 32) (k1_hw76 : k1_chk76 v3 v691), ∀ a x, ((![v3, v691] : Fin 2 → IVec S16 32) a x).toNat < S16x1024.size a := fun v3 v691 k1_hw76 => k1_hw76

def k1_chk77 (v3 : IVec S16 32) (v695 : IVec S16 32) : Prop :=
  (∀ a x, ((![v3, v695] : Fin 2 → IVec S16 32) a x).toNat < S16x1024.size a)
theorem k1_idx77_inb : ∀ (v3 : IVec S16 32) (v695 : IVec S16 32) (k1_hw77 : k1_chk77 v3 v695), ∀ a x, ((![v3, v695] : Fin 2 → IVec S16 32) a x).toNat < S16x1024.size a := fun v3 v695 k1_hw77 => k1_hw77

def k1_chk78 (v3 : IVec S16 32) (v699 : IVec S16 32) : Prop :=
  (∀ a x, ((![v3, v699] : Fin 2 → IVec S16 32) a x).toNat < S16x1024.size a)
theorem k1_idx78_inb : ∀ (v3 : IVec S16 32) (v699 : IVec S16 32) (k1_hw78 : k1_chk78 v3 v699), ∀ a x, ((![v3, v699] : Fin 2 → IVec S16 32) a x).toNat < S16x1024.size a := fun v3 v699 k1_hw78 => k1_hw78

def k1_chk79 (v3 : IVec S16 32) (v703 : IVec S16 32) : Prop :=
  (∀ a x, ((![v3, v703] : Fin 2 → IVec S16 32) a x).toNat < S16x1024.size a)
theorem k1_idx79_inb : ∀ (v3 : IVec S16 32) (v703 : IVec S16 32) (k1_hw79 : k1_chk79 v3 v703), ∀ a x, ((![v3, v703] : Fin 2 → IVec S16 32) a x).toNat < S16x1024.size a := fun v3 v703 k1_hw79 => k1_hw79

def k1_chk80 (v3 : IVec S16 32) (v707 : IVec S16 32) : Prop :=
  (∀ a x, ((![v3, v707] : Fin 2 → IVec S16 32) a x).toNat < S16x1024.size a)
theorem k1_idx80_inb : ∀ (v3 : IVec S16 32) (v707 : IVec S16 32) (k1_hw80 : k1_chk80 v3 v707), ∀ a x, ((![v3, v707] : Fin 2 → IVec S16 32) a x).toNat < S16x1024.size a := fun v3 v707 k1_hw80 => k1_hw80
@[reducible] def k1_t14_loop : Scf.Loop 32 :=
  let c0_i32_433 : BitVec 32 := 0#32
  let c8_i32_434 : BitVec 32 := 8#32
  let v709 : BitVec 32 := Scalar.addi c0_i32_433 c8_i32_434
  let c1_i32_435 : BitVec 32 := 1#32
  ⟨c0_i32_433, v709, c1_i32_435⟩
@[reducible] def k1_t15_loop : Scf.Loop 32 :=
  let c0_i32_437 : BitVec 32 := 0#32
  let c8_i32_438 : BitVec 32 := 8#32
  let v727 : BitVec 32 := Scalar.addi c0_i32_437 c8_i32_438
  let c1_i32_439 : BitVec 32 := 1#32
  ⟨c0_i32_437, v727, c1_i32_439⟩
@[reducible] def k1_t16_loop : Scf.Loop 32 :=
  let c0_i32_147 : BitVec 32 := 0#32
  let c64_i32_148 : BitVec 32 := 64#32
  let v228 : BitVec 32 := Scalar.addi c0_i32_147 c64_i32_148
  let c1_i32_149 : BitVec 32 := 1#32
  ⟨c0_i32_147, v228, c1_i32_149⟩

def k1_chk81 (v3 : IVec S16 32) (v647 : IVec S16 32) : Prop :=
  (∀ a x, ((![v3, v647] : Fin 2 → IVec S16 32) a x).toNat < S16x1024.size a)
theorem k1_idx81_inb : ∀ (v3 : IVec S16 32) (v647 : IVec S16 32) (k1_hw81 : k1_chk81 v3 v647), ∀ a x, ((![v3, v647] : Fin 2 → IVec S16 32) a x).toNat < S16x1024.size a := fun v3 v647 k1_hw81 => k1_hw81

def k1_chk82 (v3 : IVec S16 32) (v651 : IVec S16 32) : Prop :=
  (∀ a x, ((![v3, v651] : Fin 2 → IVec S16 32) a x).toNat < S16x1024.size a)
theorem k1_idx82_inb : ∀ (v3 : IVec S16 32) (v651 : IVec S16 32) (k1_hw82 : k1_chk82 v3 v651), ∀ a x, ((![v3, v651] : Fin 2 → IVec S16 32) a x).toNat < S16x1024.size a := fun v3 v651 k1_hw82 => k1_hw82

def k1_chk83 (v3 : IVec S16 32) (v655 : IVec S16 32) : Prop :=
  (∀ a x, ((![v3, v655] : Fin 2 → IVec S16 32) a x).toNat < S16x1024.size a)
theorem k1_idx83_inb : ∀ (v3 : IVec S16 32) (v655 : IVec S16 32) (k1_hw83 : k1_chk83 v3 v655), ∀ a x, ((![v3, v655] : Fin 2 → IVec S16 32) a x).toNat < S16x1024.size a := fun v3 v655 k1_hw83 => k1_hw83

def k1_chk84 (v3 : IVec S16 32) (v659 : IVec S16 32) : Prop :=
  (∀ a x, ((![v3, v659] : Fin 2 → IVec S16 32) a x).toNat < S16x1024.size a)
theorem k1_idx84_inb : ∀ (v3 : IVec S16 32) (v659 : IVec S16 32) (k1_hw84 : k1_chk84 v3 v659), ∀ a x, ((![v3, v659] : Fin 2 → IVec S16 32) a x).toNat < S16x1024.size a := fun v3 v659 k1_hw84 => k1_hw84

def k1_chk85 (v3 : IVec S16 32) (v663 : IVec S16 32) : Prop :=
  (∀ a x, ((![v3, v663] : Fin 2 → IVec S16 32) a x).toNat < S16x1024.size a)
theorem k1_idx85_inb : ∀ (v3 : IVec S16 32) (v663 : IVec S16 32) (k1_hw85 : k1_chk85 v3 v663), ∀ a x, ((![v3, v663] : Fin 2 → IVec S16 32) a x).toNat < S16x1024.size a := fun v3 v663 k1_hw85 => k1_hw85

def k1_chk86 (v3 : IVec S16 32) (v667 : IVec S16 32) : Prop :=
  (∀ a x, ((![v3, v667] : Fin 2 → IVec S16 32) a x).toNat < S16x1024.size a)
theorem k1_idx86_inb : ∀ (v3 : IVec S16 32) (v667 : IVec S16 32) (k1_hw86 : k1_chk86 v3 v667), ∀ a x, ((![v3, v667] : Fin 2 → IVec S16 32) a x).toNat < S16x1024.size a := fun v3 v667 k1_hw86 => k1_hw86

def k1_chk87 (v3 : IVec S16 32) (v671 : IVec S16 32) : Prop :=
  (∀ a x, ((![v3, v671] : Fin 2 → IVec S16 32) a x).toNat < S16x1024.size a)
theorem k1_idx87_inb : ∀ (v3 : IVec S16 32) (v671 : IVec S16 32) (k1_hw87 : k1_chk87 v3 v671), ∀ a x, ((![v3, v671] : Fin 2 → IVec S16 32) a x).toNat < S16x1024.size a := fun v3 v671 k1_hw87 => k1_hw87

def k1_chk88 (v3 : IVec S16 32) (v675 : IVec S16 32) : Prop :=
  (∀ a x, ((![v3, v675] : Fin 2 → IVec S16 32) a x).toNat < S16x1024.size a)
theorem k1_idx88_inb : ∀ (v3 : IVec S16 32) (v675 : IVec S16 32) (k1_hw88 : k1_chk88 v3 v675), ∀ a x, ((![v3, v675] : Fin 2 → IVec S16 32) a x).toNat < S16x1024.size a := fun v3 v675 k1_hw88 => k1_hw88

def k1_chk89 (v3 : IVec S16 32) (v679 : IVec S16 32) : Prop :=
  (∀ a x, ((![v3, v679] : Fin 2 → IVec S16 32) a x).toNat < S16x1024.size a)
theorem k1_idx89_inb : ∀ (v3 : IVec S16 32) (v679 : IVec S16 32) (k1_hw89 : k1_chk89 v3 v679), ∀ a x, ((![v3, v679] : Fin 2 → IVec S16 32) a x).toNat < S16x1024.size a := fun v3 v679 k1_hw89 => k1_hw89

def k1_chk90 (v3 : IVec S16 32) (v683 : IVec S16 32) : Prop :=
  (∀ a x, ((![v3, v683] : Fin 2 → IVec S16 32) a x).toNat < S16x1024.size a)
theorem k1_idx90_inb : ∀ (v3 : IVec S16 32) (v683 : IVec S16 32) (k1_hw90 : k1_chk90 v3 v683), ∀ a x, ((![v3, v683] : Fin 2 → IVec S16 32) a x).toNat < S16x1024.size a := fun v3 v683 k1_hw90 => k1_hw90

def k1_chk91 (v3 : IVec S16 32) (v687 : IVec S16 32) : Prop :=
  (∀ a x, ((![v3, v687] : Fin 2 → IVec S16 32) a x).toNat < S16x1024.size a)
theorem k1_idx91_inb : ∀ (v3 : IVec S16 32) (v687 : IVec S16 32) (k1_hw91 : k1_chk91 v3 v687), ∀ a x, ((![v3, v687] : Fin 2 → IVec S16 32) a x).toNat < S16x1024.size a := fun v3 v687 k1_hw91 => k1_hw91

def k1_chk92 (v3 : IVec S16 32) (v691 : IVec S16 32) : Prop :=
  (∀ a x, ((![v3, v691] : Fin 2 → IVec S16 32) a x).toNat < S16x1024.size a)
theorem k1_idx92_inb : ∀ (v3 : IVec S16 32) (v691 : IVec S16 32) (k1_hw92 : k1_chk92 v3 v691), ∀ a x, ((![v3, v691] : Fin 2 → IVec S16 32) a x).toNat < S16x1024.size a := fun v3 v691 k1_hw92 => k1_hw92

def k1_chk93 (v3 : IVec S16 32) (v695 : IVec S16 32) : Prop :=
  (∀ a x, ((![v3, v695] : Fin 2 → IVec S16 32) a x).toNat < S16x1024.size a)
theorem k1_idx93_inb : ∀ (v3 : IVec S16 32) (v695 : IVec S16 32) (k1_hw93 : k1_chk93 v3 v695), ∀ a x, ((![v3, v695] : Fin 2 → IVec S16 32) a x).toNat < S16x1024.size a := fun v3 v695 k1_hw93 => k1_hw93

def k1_chk94 (v3 : IVec S16 32) (v699 : IVec S16 32) : Prop :=
  (∀ a x, ((![v3, v699] : Fin 2 → IVec S16 32) a x).toNat < S16x1024.size a)
theorem k1_idx94_inb : ∀ (v3 : IVec S16 32) (v699 : IVec S16 32) (k1_hw94 : k1_chk94 v3 v699), ∀ a x, ((![v3, v699] : Fin 2 → IVec S16 32) a x).toNat < S16x1024.size a := fun v3 v699 k1_hw94 => k1_hw94

def k1_chk95 (v3 : IVec S16 32) (v703 : IVec S16 32) : Prop :=
  (∀ a x, ((![v3, v703] : Fin 2 → IVec S16 32) a x).toNat < S16x1024.size a)
theorem k1_idx95_inb : ∀ (v3 : IVec S16 32) (v703 : IVec S16 32) (k1_hw95 : k1_chk95 v3 v703), ∀ a x, ((![v3, v703] : Fin 2 → IVec S16 32) a x).toNat < S16x1024.size a := fun v3 v703 k1_hw95 => k1_hw95

def k1_chk96 (v3 : IVec S16 32) (v707 : IVec S16 32) : Prop :=
  (∀ a x, ((![v3, v707] : Fin 2 → IVec S16 32) a x).toNat < S16x1024.size a)
theorem k1_idx96_inb : ∀ (v3 : IVec S16 32) (v707 : IVec S16 32) (k1_hw96 : k1_chk96 v3 v707), ∀ a x, ((![v3, v707] : Fin 2 → IVec S16 32) a x).toNat < S16x1024.size a := fun v3 v707 k1_hw96 => k1_hw96
@[reducible] def k1_t17_loop : Scf.Loop 32 :=
  let c0_i32_433 : BitVec 32 := 0#32
  let c8_i32_434 : BitVec 32 := 8#32
  let v709 : BitVec 32 := Scalar.addi c0_i32_433 c8_i32_434
  let c1_i32_435 : BitVec 32 := 1#32
  ⟨c0_i32_433, v709, c1_i32_435⟩
@[reducible] def k1_t18_loop : Scf.Loop 32 :=
  let c0_i32_437 : BitVec 32 := 0#32
  let c8_i32_438 : BitVec 32 := 8#32
  let v727 : BitVec 32 := Scalar.addi c0_i32_437 c8_i32_438
  let c1_i32_439 : BitVec 32 := 1#32
  ⟨c0_i32_437, v727, c1_i32_439⟩
@[reducible] def k1_t19_loop : Scf.Loop 32 :=
  let c0_i32_172 : BitVec 32 := 0#32
  let c64_i32_173 : BitVec 32 := 64#32
  let v268 : BitVec 32 := Scalar.addi c0_i32_172 c64_i32_173
  let c1_i32_174 : BitVec 32 := 1#32
  ⟨c0_i32_172, v268, c1_i32_174⟩

def k1_chk97 (v3 : IVec S16 32) (v647 : IVec S16 32) : Prop :=
  (∀ a x, ((![v3, v647] : Fin 2 → IVec S16 32) a x).toNat < S16x1024.size a)
theorem k1_idx97_inb : ∀ (v3 : IVec S16 32) (v647 : IVec S16 32) (k1_hw97 : k1_chk97 v3 v647), ∀ a x, ((![v3, v647] : Fin 2 → IVec S16 32) a x).toNat < S16x1024.size a := fun v3 v647 k1_hw97 => k1_hw97

def k1_chk98 (v3 : IVec S16 32) (v651 : IVec S16 32) : Prop :=
  (∀ a x, ((![v3, v651] : Fin 2 → IVec S16 32) a x).toNat < S16x1024.size a)
theorem k1_idx98_inb : ∀ (v3 : IVec S16 32) (v651 : IVec S16 32) (k1_hw98 : k1_chk98 v3 v651), ∀ a x, ((![v3, v651] : Fin 2 → IVec S16 32) a x).toNat < S16x1024.size a := fun v3 v651 k1_hw98 => k1_hw98

def k1_chk99 (v3 : IVec S16 32) (v655 : IVec S16 32) : Prop :=
  (∀ a x, ((![v3, v655] : Fin 2 → IVec S16 32) a x).toNat < S16x1024.size a)
theorem k1_idx99_inb : ∀ (v3 : IVec S16 32) (v655 : IVec S16 32) (k1_hw99 : k1_chk99 v3 v655), ∀ a x, ((![v3, v655] : Fin 2 → IVec S16 32) a x).toNat < S16x1024.size a := fun v3 v655 k1_hw99 => k1_hw99

def k1_chk100 (v3 : IVec S16 32) (v659 : IVec S16 32) : Prop :=
  (∀ a x, ((![v3, v659] : Fin 2 → IVec S16 32) a x).toNat < S16x1024.size a)
theorem k1_idx100_inb : ∀ (v3 : IVec S16 32) (v659 : IVec S16 32) (k1_hw100 : k1_chk100 v3 v659), ∀ a x, ((![v3, v659] : Fin 2 → IVec S16 32) a x).toNat < S16x1024.size a := fun v3 v659 k1_hw100 => k1_hw100

def k1_chk101 (v3 : IVec S16 32) (v663 : IVec S16 32) : Prop :=
  (∀ a x, ((![v3, v663] : Fin 2 → IVec S16 32) a x).toNat < S16x1024.size a)
theorem k1_idx101_inb : ∀ (v3 : IVec S16 32) (v663 : IVec S16 32) (k1_hw101 : k1_chk101 v3 v663), ∀ a x, ((![v3, v663] : Fin 2 → IVec S16 32) a x).toNat < S16x1024.size a := fun v3 v663 k1_hw101 => k1_hw101

def k1_chk102 (v3 : IVec S16 32) (v667 : IVec S16 32) : Prop :=
  (∀ a x, ((![v3, v667] : Fin 2 → IVec S16 32) a x).toNat < S16x1024.size a)
theorem k1_idx102_inb : ∀ (v3 : IVec S16 32) (v667 : IVec S16 32) (k1_hw102 : k1_chk102 v3 v667), ∀ a x, ((![v3, v667] : Fin 2 → IVec S16 32) a x).toNat < S16x1024.size a := fun v3 v667 k1_hw102 => k1_hw102

def k1_chk103 (v3 : IVec S16 32) (v671 : IVec S16 32) : Prop :=
  (∀ a x, ((![v3, v671] : Fin 2 → IVec S16 32) a x).toNat < S16x1024.size a)
theorem k1_idx103_inb : ∀ (v3 : IVec S16 32) (v671 : IVec S16 32) (k1_hw103 : k1_chk103 v3 v671), ∀ a x, ((![v3, v671] : Fin 2 → IVec S16 32) a x).toNat < S16x1024.size a := fun v3 v671 k1_hw103 => k1_hw103

def k1_chk104 (v3 : IVec S16 32) (v675 : IVec S16 32) : Prop :=
  (∀ a x, ((![v3, v675] : Fin 2 → IVec S16 32) a x).toNat < S16x1024.size a)
theorem k1_idx104_inb : ∀ (v3 : IVec S16 32) (v675 : IVec S16 32) (k1_hw104 : k1_chk104 v3 v675), ∀ a x, ((![v3, v675] : Fin 2 → IVec S16 32) a x).toNat < S16x1024.size a := fun v3 v675 k1_hw104 => k1_hw104

def k1_chk105 (v3 : IVec S16 32) (v679 : IVec S16 32) : Prop :=
  (∀ a x, ((![v3, v679] : Fin 2 → IVec S16 32) a x).toNat < S16x1024.size a)
theorem k1_idx105_inb : ∀ (v3 : IVec S16 32) (v679 : IVec S16 32) (k1_hw105 : k1_chk105 v3 v679), ∀ a x, ((![v3, v679] : Fin 2 → IVec S16 32) a x).toNat < S16x1024.size a := fun v3 v679 k1_hw105 => k1_hw105

def k1_chk106 (v3 : IVec S16 32) (v683 : IVec S16 32) : Prop :=
  (∀ a x, ((![v3, v683] : Fin 2 → IVec S16 32) a x).toNat < S16x1024.size a)
theorem k1_idx106_inb : ∀ (v3 : IVec S16 32) (v683 : IVec S16 32) (k1_hw106 : k1_chk106 v3 v683), ∀ a x, ((![v3, v683] : Fin 2 → IVec S16 32) a x).toNat < S16x1024.size a := fun v3 v683 k1_hw106 => k1_hw106

def k1_chk107 (v3 : IVec S16 32) (v687 : IVec S16 32) : Prop :=
  (∀ a x, ((![v3, v687] : Fin 2 → IVec S16 32) a x).toNat < S16x1024.size a)
theorem k1_idx107_inb : ∀ (v3 : IVec S16 32) (v687 : IVec S16 32) (k1_hw107 : k1_chk107 v3 v687), ∀ a x, ((![v3, v687] : Fin 2 → IVec S16 32) a x).toNat < S16x1024.size a := fun v3 v687 k1_hw107 => k1_hw107

def k1_chk108 (v3 : IVec S16 32) (v691 : IVec S16 32) : Prop :=
  (∀ a x, ((![v3, v691] : Fin 2 → IVec S16 32) a x).toNat < S16x1024.size a)
theorem k1_idx108_inb : ∀ (v3 : IVec S16 32) (v691 : IVec S16 32) (k1_hw108 : k1_chk108 v3 v691), ∀ a x, ((![v3, v691] : Fin 2 → IVec S16 32) a x).toNat < S16x1024.size a := fun v3 v691 k1_hw108 => k1_hw108

def k1_chk109 (v3 : IVec S16 32) (v695 : IVec S16 32) : Prop :=
  (∀ a x, ((![v3, v695] : Fin 2 → IVec S16 32) a x).toNat < S16x1024.size a)
theorem k1_idx109_inb : ∀ (v3 : IVec S16 32) (v695 : IVec S16 32) (k1_hw109 : k1_chk109 v3 v695), ∀ a x, ((![v3, v695] : Fin 2 → IVec S16 32) a x).toNat < S16x1024.size a := fun v3 v695 k1_hw109 => k1_hw109

def k1_chk110 (v3 : IVec S16 32) (v699 : IVec S16 32) : Prop :=
  (∀ a x, ((![v3, v699] : Fin 2 → IVec S16 32) a x).toNat < S16x1024.size a)
theorem k1_idx110_inb : ∀ (v3 : IVec S16 32) (v699 : IVec S16 32) (k1_hw110 : k1_chk110 v3 v699), ∀ a x, ((![v3, v699] : Fin 2 → IVec S16 32) a x).toNat < S16x1024.size a := fun v3 v699 k1_hw110 => k1_hw110

def k1_chk111 (v3 : IVec S16 32) (v703 : IVec S16 32) : Prop :=
  (∀ a x, ((![v3, v703] : Fin 2 → IVec S16 32) a x).toNat < S16x1024.size a)
theorem k1_idx111_inb : ∀ (v3 : IVec S16 32) (v703 : IVec S16 32) (k1_hw111 : k1_chk111 v3 v703), ∀ a x, ((![v3, v703] : Fin 2 → IVec S16 32) a x).toNat < S16x1024.size a := fun v3 v703 k1_hw111 => k1_hw111

def k1_chk112 (v3 : IVec S16 32) (v707 : IVec S16 32) : Prop :=
  (∀ a x, ((![v3, v707] : Fin 2 → IVec S16 32) a x).toNat < S16x1024.size a)
theorem k1_idx112_inb : ∀ (v3 : IVec S16 32) (v707 : IVec S16 32) (k1_hw112 : k1_chk112 v3 v707), ∀ a x, ((![v3, v707] : Fin 2 → IVec S16 32) a x).toNat < S16x1024.size a := fun v3 v707 k1_hw112 => k1_hw112
@[reducible] def k1_t20_loop : Scf.Loop 32 :=
  let c0_i32_433 : BitVec 32 := 0#32
  let c8_i32_434 : BitVec 32 := 8#32
  let v709 : BitVec 32 := Scalar.addi c0_i32_433 c8_i32_434
  let c1_i32_435 : BitVec 32 := 1#32
  ⟨c0_i32_433, v709, c1_i32_435⟩
@[reducible] def k1_t21_loop : Scf.Loop 32 :=
  let c0_i32_437 : BitVec 32 := 0#32
  let c8_i32_438 : BitVec 32 := 8#32
  let v727 : BitVec 32 := Scalar.addi c0_i32_437 c8_i32_438
  let c1_i32_439 : BitVec 32 := 1#32
  ⟨c0_i32_437, v727, c1_i32_439⟩
@[reducible] def k1_t22_loop : Scf.Loop 32 :=
  let c0_i32_197 : BitVec 32 := 0#32
  let c64_i32_198 : BitVec 32 := 64#32
  let v308 : BitVec 32 := Scalar.addi c0_i32_197 c64_i32_198
  let c1_i32_199 : BitVec 32 := 1#32
  ⟨c0_i32_197, v308, c1_i32_199⟩

def k1_chk113 (v3 : IVec S16 32) (v647 : IVec S16 32) : Prop :=
  (∀ a x, ((![v3, v647] : Fin 2 → IVec S16 32) a x).toNat < S16x1024.size a)
theorem k1_idx113_inb : ∀ (v3 : IVec S16 32) (v647 : IVec S16 32) (k1_hw113 : k1_chk113 v3 v647), ∀ a x, ((![v3, v647] : Fin 2 → IVec S16 32) a x).toNat < S16x1024.size a := fun v3 v647 k1_hw113 => k1_hw113

def k1_chk114 (v3 : IVec S16 32) (v651 : IVec S16 32) : Prop :=
  (∀ a x, ((![v3, v651] : Fin 2 → IVec S16 32) a x).toNat < S16x1024.size a)
theorem k1_idx114_inb : ∀ (v3 : IVec S16 32) (v651 : IVec S16 32) (k1_hw114 : k1_chk114 v3 v651), ∀ a x, ((![v3, v651] : Fin 2 → IVec S16 32) a x).toNat < S16x1024.size a := fun v3 v651 k1_hw114 => k1_hw114

def k1_chk115 (v3 : IVec S16 32) (v655 : IVec S16 32) : Prop :=
  (∀ a x, ((![v3, v655] : Fin 2 → IVec S16 32) a x).toNat < S16x1024.size a)
theorem k1_idx115_inb : ∀ (v3 : IVec S16 32) (v655 : IVec S16 32) (k1_hw115 : k1_chk115 v3 v655), ∀ a x, ((![v3, v655] : Fin 2 → IVec S16 32) a x).toNat < S16x1024.size a := fun v3 v655 k1_hw115 => k1_hw115

def k1_chk116 (v3 : IVec S16 32) (v659 : IVec S16 32) : Prop :=
  (∀ a x, ((![v3, v659] : Fin 2 → IVec S16 32) a x).toNat < S16x1024.size a)
theorem k1_idx116_inb : ∀ (v3 : IVec S16 32) (v659 : IVec S16 32) (k1_hw116 : k1_chk116 v3 v659), ∀ a x, ((![v3, v659] : Fin 2 → IVec S16 32) a x).toNat < S16x1024.size a := fun v3 v659 k1_hw116 => k1_hw116

def k1_chk117 (v3 : IVec S16 32) (v663 : IVec S16 32) : Prop :=
  (∀ a x, ((![v3, v663] : Fin 2 → IVec S16 32) a x).toNat < S16x1024.size a)
theorem k1_idx117_inb : ∀ (v3 : IVec S16 32) (v663 : IVec S16 32) (k1_hw117 : k1_chk117 v3 v663), ∀ a x, ((![v3, v663] : Fin 2 → IVec S16 32) a x).toNat < S16x1024.size a := fun v3 v663 k1_hw117 => k1_hw117

def k1_chk118 (v3 : IVec S16 32) (v667 : IVec S16 32) : Prop :=
  (∀ a x, ((![v3, v667] : Fin 2 → IVec S16 32) a x).toNat < S16x1024.size a)
theorem k1_idx118_inb : ∀ (v3 : IVec S16 32) (v667 : IVec S16 32) (k1_hw118 : k1_chk118 v3 v667), ∀ a x, ((![v3, v667] : Fin 2 → IVec S16 32) a x).toNat < S16x1024.size a := fun v3 v667 k1_hw118 => k1_hw118

def k1_chk119 (v3 : IVec S16 32) (v671 : IVec S16 32) : Prop :=
  (∀ a x, ((![v3, v671] : Fin 2 → IVec S16 32) a x).toNat < S16x1024.size a)
theorem k1_idx119_inb : ∀ (v3 : IVec S16 32) (v671 : IVec S16 32) (k1_hw119 : k1_chk119 v3 v671), ∀ a x, ((![v3, v671] : Fin 2 → IVec S16 32) a x).toNat < S16x1024.size a := fun v3 v671 k1_hw119 => k1_hw119

def k1_chk120 (v3 : IVec S16 32) (v675 : IVec S16 32) : Prop :=
  (∀ a x, ((![v3, v675] : Fin 2 → IVec S16 32) a x).toNat < S16x1024.size a)
theorem k1_idx120_inb : ∀ (v3 : IVec S16 32) (v675 : IVec S16 32) (k1_hw120 : k1_chk120 v3 v675), ∀ a x, ((![v3, v675] : Fin 2 → IVec S16 32) a x).toNat < S16x1024.size a := fun v3 v675 k1_hw120 => k1_hw120

def k1_chk121 (v3 : IVec S16 32) (v679 : IVec S16 32) : Prop :=
  (∀ a x, ((![v3, v679] : Fin 2 → IVec S16 32) a x).toNat < S16x1024.size a)
theorem k1_idx121_inb : ∀ (v3 : IVec S16 32) (v679 : IVec S16 32) (k1_hw121 : k1_chk121 v3 v679), ∀ a x, ((![v3, v679] : Fin 2 → IVec S16 32) a x).toNat < S16x1024.size a := fun v3 v679 k1_hw121 => k1_hw121

def k1_chk122 (v3 : IVec S16 32) (v683 : IVec S16 32) : Prop :=
  (∀ a x, ((![v3, v683] : Fin 2 → IVec S16 32) a x).toNat < S16x1024.size a)
theorem k1_idx122_inb : ∀ (v3 : IVec S16 32) (v683 : IVec S16 32) (k1_hw122 : k1_chk122 v3 v683), ∀ a x, ((![v3, v683] : Fin 2 → IVec S16 32) a x).toNat < S16x1024.size a := fun v3 v683 k1_hw122 => k1_hw122

def k1_chk123 (v3 : IVec S16 32) (v687 : IVec S16 32) : Prop :=
  (∀ a x, ((![v3, v687] : Fin 2 → IVec S16 32) a x).toNat < S16x1024.size a)
theorem k1_idx123_inb : ∀ (v3 : IVec S16 32) (v687 : IVec S16 32) (k1_hw123 : k1_chk123 v3 v687), ∀ a x, ((![v3, v687] : Fin 2 → IVec S16 32) a x).toNat < S16x1024.size a := fun v3 v687 k1_hw123 => k1_hw123

def k1_chk124 (v3 : IVec S16 32) (v691 : IVec S16 32) : Prop :=
  (∀ a x, ((![v3, v691] : Fin 2 → IVec S16 32) a x).toNat < S16x1024.size a)
theorem k1_idx124_inb : ∀ (v3 : IVec S16 32) (v691 : IVec S16 32) (k1_hw124 : k1_chk124 v3 v691), ∀ a x, ((![v3, v691] : Fin 2 → IVec S16 32) a x).toNat < S16x1024.size a := fun v3 v691 k1_hw124 => k1_hw124

def k1_chk125 (v3 : IVec S16 32) (v695 : IVec S16 32) : Prop :=
  (∀ a x, ((![v3, v695] : Fin 2 → IVec S16 32) a x).toNat < S16x1024.size a)
theorem k1_idx125_inb : ∀ (v3 : IVec S16 32) (v695 : IVec S16 32) (k1_hw125 : k1_chk125 v3 v695), ∀ a x, ((![v3, v695] : Fin 2 → IVec S16 32) a x).toNat < S16x1024.size a := fun v3 v695 k1_hw125 => k1_hw125

def k1_chk126 (v3 : IVec S16 32) (v699 : IVec S16 32) : Prop :=
  (∀ a x, ((![v3, v699] : Fin 2 → IVec S16 32) a x).toNat < S16x1024.size a)
theorem k1_idx126_inb : ∀ (v3 : IVec S16 32) (v699 : IVec S16 32) (k1_hw126 : k1_chk126 v3 v699), ∀ a x, ((![v3, v699] : Fin 2 → IVec S16 32) a x).toNat < S16x1024.size a := fun v3 v699 k1_hw126 => k1_hw126

def k1_chk127 (v3 : IVec S16 32) (v703 : IVec S16 32) : Prop :=
  (∀ a x, ((![v3, v703] : Fin 2 → IVec S16 32) a x).toNat < S16x1024.size a)
theorem k1_idx127_inb : ∀ (v3 : IVec S16 32) (v703 : IVec S16 32) (k1_hw127 : k1_chk127 v3 v703), ∀ a x, ((![v3, v703] : Fin 2 → IVec S16 32) a x).toNat < S16x1024.size a := fun v3 v703 k1_hw127 => k1_hw127

def k1_chk128 (v3 : IVec S16 32) (v707 : IVec S16 32) : Prop :=
  (∀ a x, ((![v3, v707] : Fin 2 → IVec S16 32) a x).toNat < S16x1024.size a)
theorem k1_idx128_inb : ∀ (v3 : IVec S16 32) (v707 : IVec S16 32) (k1_hw128 : k1_chk128 v3 v707), ∀ a x, ((![v3, v707] : Fin 2 → IVec S16 32) a x).toNat < S16x1024.size a := fun v3 v707 k1_hw128 => k1_hw128
@[reducible] def k1_t23_loop : Scf.Loop 32 :=
  let c0_i32_433 : BitVec 32 := 0#32
  let c8_i32_434 : BitVec 32 := 8#32
  let v709 : BitVec 32 := Scalar.addi c0_i32_433 c8_i32_434
  let c1_i32_435 : BitVec 32 := 1#32
  ⟨c0_i32_433, v709, c1_i32_435⟩
@[reducible] def k1_t24_loop : Scf.Loop 32 :=
  let c0_i32_437 : BitVec 32 := 0#32
  let c8_i32_438 : BitVec 32 := 8#32
  let v727 : BitVec 32 := Scalar.addi c0_i32_437 c8_i32_438
  let c1_i32_439 : BitVec 32 := 1#32
  ⟨c0_i32_437, v727, c1_i32_439⟩
@[reducible] def k1_t25_loop : Scf.Loop 32 :=
  let c0_i32_222 : BitVec 32 := 0#32
  let c64_i32_223 : BitVec 32 := 64#32
  let v348 : BitVec 32 := Scalar.addi c0_i32_222 c64_i32_223
  let c1_i32_224 : BitVec 32 := 1#32
  ⟨c0_i32_222, v348, c1_i32_224⟩

def k1_chk129 (v3 : IVec S16 32) (v647 : IVec S16 32) : Prop :=
  (∀ a x, ((![v3, v647] : Fin 2 → IVec S16 32) a x).toNat < S16x1024.size a)
theorem k1_idx129_inb : ∀ (v3 : IVec S16 32) (v647 : IVec S16 32) (k1_hw129 : k1_chk129 v3 v647), ∀ a x, ((![v3, v647] : Fin 2 → IVec S16 32) a x).toNat < S16x1024.size a := fun v3 v647 k1_hw129 => k1_hw129

def k1_chk130 (v3 : IVec S16 32) (v651 : IVec S16 32) : Prop :=
  (∀ a x, ((![v3, v651] : Fin 2 → IVec S16 32) a x).toNat < S16x1024.size a)
theorem k1_idx130_inb : ∀ (v3 : IVec S16 32) (v651 : IVec S16 32) (k1_hw130 : k1_chk130 v3 v651), ∀ a x, ((![v3, v651] : Fin 2 → IVec S16 32) a x).toNat < S16x1024.size a := fun v3 v651 k1_hw130 => k1_hw130

def k1_chk131 (v3 : IVec S16 32) (v655 : IVec S16 32) : Prop :=
  (∀ a x, ((![v3, v655] : Fin 2 → IVec S16 32) a x).toNat < S16x1024.size a)
theorem k1_idx131_inb : ∀ (v3 : IVec S16 32) (v655 : IVec S16 32) (k1_hw131 : k1_chk131 v3 v655), ∀ a x, ((![v3, v655] : Fin 2 → IVec S16 32) a x).toNat < S16x1024.size a := fun v3 v655 k1_hw131 => k1_hw131

def k1_chk132 (v3 : IVec S16 32) (v659 : IVec S16 32) : Prop :=
  (∀ a x, ((![v3, v659] : Fin 2 → IVec S16 32) a x).toNat < S16x1024.size a)
theorem k1_idx132_inb : ∀ (v3 : IVec S16 32) (v659 : IVec S16 32) (k1_hw132 : k1_chk132 v3 v659), ∀ a x, ((![v3, v659] : Fin 2 → IVec S16 32) a x).toNat < S16x1024.size a := fun v3 v659 k1_hw132 => k1_hw132

def k1_chk133 (v3 : IVec S16 32) (v663 : IVec S16 32) : Prop :=
  (∀ a x, ((![v3, v663] : Fin 2 → IVec S16 32) a x).toNat < S16x1024.size a)
theorem k1_idx133_inb : ∀ (v3 : IVec S16 32) (v663 : IVec S16 32) (k1_hw133 : k1_chk133 v3 v663), ∀ a x, ((![v3, v663] : Fin 2 → IVec S16 32) a x).toNat < S16x1024.size a := fun v3 v663 k1_hw133 => k1_hw133

def k1_chk134 (v3 : IVec S16 32) (v667 : IVec S16 32) : Prop :=
  (∀ a x, ((![v3, v667] : Fin 2 → IVec S16 32) a x).toNat < S16x1024.size a)
theorem k1_idx134_inb : ∀ (v3 : IVec S16 32) (v667 : IVec S16 32) (k1_hw134 : k1_chk134 v3 v667), ∀ a x, ((![v3, v667] : Fin 2 → IVec S16 32) a x).toNat < S16x1024.size a := fun v3 v667 k1_hw134 => k1_hw134

def k1_chk135 (v3 : IVec S16 32) (v671 : IVec S16 32) : Prop :=
  (∀ a x, ((![v3, v671] : Fin 2 → IVec S16 32) a x).toNat < S16x1024.size a)
theorem k1_idx135_inb : ∀ (v3 : IVec S16 32) (v671 : IVec S16 32) (k1_hw135 : k1_chk135 v3 v671), ∀ a x, ((![v3, v671] : Fin 2 → IVec S16 32) a x).toNat < S16x1024.size a := fun v3 v671 k1_hw135 => k1_hw135

def k1_chk136 (v3 : IVec S16 32) (v675 : IVec S16 32) : Prop :=
  (∀ a x, ((![v3, v675] : Fin 2 → IVec S16 32) a x).toNat < S16x1024.size a)
theorem k1_idx136_inb : ∀ (v3 : IVec S16 32) (v675 : IVec S16 32) (k1_hw136 : k1_chk136 v3 v675), ∀ a x, ((![v3, v675] : Fin 2 → IVec S16 32) a x).toNat < S16x1024.size a := fun v3 v675 k1_hw136 => k1_hw136

def k1_chk137 (v3 : IVec S16 32) (v679 : IVec S16 32) : Prop :=
  (∀ a x, ((![v3, v679] : Fin 2 → IVec S16 32) a x).toNat < S16x1024.size a)
theorem k1_idx137_inb : ∀ (v3 : IVec S16 32) (v679 : IVec S16 32) (k1_hw137 : k1_chk137 v3 v679), ∀ a x, ((![v3, v679] : Fin 2 → IVec S16 32) a x).toNat < S16x1024.size a := fun v3 v679 k1_hw137 => k1_hw137

def k1_chk138 (v3 : IVec S16 32) (v683 : IVec S16 32) : Prop :=
  (∀ a x, ((![v3, v683] : Fin 2 → IVec S16 32) a x).toNat < S16x1024.size a)
theorem k1_idx138_inb : ∀ (v3 : IVec S16 32) (v683 : IVec S16 32) (k1_hw138 : k1_chk138 v3 v683), ∀ a x, ((![v3, v683] : Fin 2 → IVec S16 32) a x).toNat < S16x1024.size a := fun v3 v683 k1_hw138 => k1_hw138

def k1_chk139 (v3 : IVec S16 32) (v687 : IVec S16 32) : Prop :=
  (∀ a x, ((![v3, v687] : Fin 2 → IVec S16 32) a x).toNat < S16x1024.size a)
theorem k1_idx139_inb : ∀ (v3 : IVec S16 32) (v687 : IVec S16 32) (k1_hw139 : k1_chk139 v3 v687), ∀ a x, ((![v3, v687] : Fin 2 → IVec S16 32) a x).toNat < S16x1024.size a := fun v3 v687 k1_hw139 => k1_hw139

def k1_chk140 (v3 : IVec S16 32) (v691 : IVec S16 32) : Prop :=
  (∀ a x, ((![v3, v691] : Fin 2 → IVec S16 32) a x).toNat < S16x1024.size a)
theorem k1_idx140_inb : ∀ (v3 : IVec S16 32) (v691 : IVec S16 32) (k1_hw140 : k1_chk140 v3 v691), ∀ a x, ((![v3, v691] : Fin 2 → IVec S16 32) a x).toNat < S16x1024.size a := fun v3 v691 k1_hw140 => k1_hw140

def k1_chk141 (v3 : IVec S16 32) (v695 : IVec S16 32) : Prop :=
  (∀ a x, ((![v3, v695] : Fin 2 → IVec S16 32) a x).toNat < S16x1024.size a)
theorem k1_idx141_inb : ∀ (v3 : IVec S16 32) (v695 : IVec S16 32) (k1_hw141 : k1_chk141 v3 v695), ∀ a x, ((![v3, v695] : Fin 2 → IVec S16 32) a x).toNat < S16x1024.size a := fun v3 v695 k1_hw141 => k1_hw141

def k1_chk142 (v3 : IVec S16 32) (v699 : IVec S16 32) : Prop :=
  (∀ a x, ((![v3, v699] : Fin 2 → IVec S16 32) a x).toNat < S16x1024.size a)
theorem k1_idx142_inb : ∀ (v3 : IVec S16 32) (v699 : IVec S16 32) (k1_hw142 : k1_chk142 v3 v699), ∀ a x, ((![v3, v699] : Fin 2 → IVec S16 32) a x).toNat < S16x1024.size a := fun v3 v699 k1_hw142 => k1_hw142

def k1_chk143 (v3 : IVec S16 32) (v703 : IVec S16 32) : Prop :=
  (∀ a x, ((![v3, v703] : Fin 2 → IVec S16 32) a x).toNat < S16x1024.size a)
theorem k1_idx143_inb : ∀ (v3 : IVec S16 32) (v703 : IVec S16 32) (k1_hw143 : k1_chk143 v3 v703), ∀ a x, ((![v3, v703] : Fin 2 → IVec S16 32) a x).toNat < S16x1024.size a := fun v3 v703 k1_hw143 => k1_hw143

def k1_chk144 (v3 : IVec S16 32) (v707 : IVec S16 32) : Prop :=
  (∀ a x, ((![v3, v707] : Fin 2 → IVec S16 32) a x).toNat < S16x1024.size a)
theorem k1_idx144_inb : ∀ (v3 : IVec S16 32) (v707 : IVec S16 32) (k1_hw144 : k1_chk144 v3 v707), ∀ a x, ((![v3, v707] : Fin 2 → IVec S16 32) a x).toNat < S16x1024.size a := fun v3 v707 k1_hw144 => k1_hw144
@[reducible] def k1_t26_loop : Scf.Loop 32 :=
  let c0_i32_433 : BitVec 32 := 0#32
  let c8_i32_434 : BitVec 32 := 8#32
  let v709 : BitVec 32 := Scalar.addi c0_i32_433 c8_i32_434
  let c1_i32_435 : BitVec 32 := 1#32
  ⟨c0_i32_433, v709, c1_i32_435⟩
@[reducible] def k1_t27_loop : Scf.Loop 32 :=
  let c0_i32_437 : BitVec 32 := 0#32
  let c8_i32_438 : BitVec 32 := 8#32
  let v727 : BitVec 32 := Scalar.addi c0_i32_437 c8_i32_438
  let c1_i32_439 : BitVec 32 := 1#32
  ⟨c0_i32_437, v727, c1_i32_439⟩
@[reducible] def k1_t28_loop : Scf.Loop 32 :=
  let c0_i32_247 : BitVec 32 := 0#32
  let c64_i32_248 : BitVec 32 := 64#32
  let v388 : BitVec 32 := Scalar.addi c0_i32_247 c64_i32_248
  let c1_i32_249 : BitVec 32 := 1#32
  ⟨c0_i32_247, v388, c1_i32_249⟩

def k1_chk145 (v3 : IVec S16 32) (v647 : IVec S16 32) : Prop :=
  (∀ a x, ((![v3, v647] : Fin 2 → IVec S16 32) a x).toNat < S16x1024.size a)
theorem k1_idx145_inb : ∀ (v3 : IVec S16 32) (v647 : IVec S16 32) (k1_hw145 : k1_chk145 v3 v647), ∀ a x, ((![v3, v647] : Fin 2 → IVec S16 32) a x).toNat < S16x1024.size a := fun v3 v647 k1_hw145 => k1_hw145

def k1_chk146 (v3 : IVec S16 32) (v651 : IVec S16 32) : Prop :=
  (∀ a x, ((![v3, v651] : Fin 2 → IVec S16 32) a x).toNat < S16x1024.size a)
theorem k1_idx146_inb : ∀ (v3 : IVec S16 32) (v651 : IVec S16 32) (k1_hw146 : k1_chk146 v3 v651), ∀ a x, ((![v3, v651] : Fin 2 → IVec S16 32) a x).toNat < S16x1024.size a := fun v3 v651 k1_hw146 => k1_hw146

def k1_chk147 (v3 : IVec S16 32) (v655 : IVec S16 32) : Prop :=
  (∀ a x, ((![v3, v655] : Fin 2 → IVec S16 32) a x).toNat < S16x1024.size a)
theorem k1_idx147_inb : ∀ (v3 : IVec S16 32) (v655 : IVec S16 32) (k1_hw147 : k1_chk147 v3 v655), ∀ a x, ((![v3, v655] : Fin 2 → IVec S16 32) a x).toNat < S16x1024.size a := fun v3 v655 k1_hw147 => k1_hw147

def k1_chk148 (v3 : IVec S16 32) (v659 : IVec S16 32) : Prop :=
  (∀ a x, ((![v3, v659] : Fin 2 → IVec S16 32) a x).toNat < S16x1024.size a)
theorem k1_idx148_inb : ∀ (v3 : IVec S16 32) (v659 : IVec S16 32) (k1_hw148 : k1_chk148 v3 v659), ∀ a x, ((![v3, v659] : Fin 2 → IVec S16 32) a x).toNat < S16x1024.size a := fun v3 v659 k1_hw148 => k1_hw148

def k1_chk149 (v3 : IVec S16 32) (v663 : IVec S16 32) : Prop :=
  (∀ a x, ((![v3, v663] : Fin 2 → IVec S16 32) a x).toNat < S16x1024.size a)
theorem k1_idx149_inb : ∀ (v3 : IVec S16 32) (v663 : IVec S16 32) (k1_hw149 : k1_chk149 v3 v663), ∀ a x, ((![v3, v663] : Fin 2 → IVec S16 32) a x).toNat < S16x1024.size a := fun v3 v663 k1_hw149 => k1_hw149

def k1_chk150 (v3 : IVec S16 32) (v667 : IVec S16 32) : Prop :=
  (∀ a x, ((![v3, v667] : Fin 2 → IVec S16 32) a x).toNat < S16x1024.size a)
theorem k1_idx150_inb : ∀ (v3 : IVec S16 32) (v667 : IVec S16 32) (k1_hw150 : k1_chk150 v3 v667), ∀ a x, ((![v3, v667] : Fin 2 → IVec S16 32) a x).toNat < S16x1024.size a := fun v3 v667 k1_hw150 => k1_hw150

def k1_chk151 (v3 : IVec S16 32) (v671 : IVec S16 32) : Prop :=
  (∀ a x, ((![v3, v671] : Fin 2 → IVec S16 32) a x).toNat < S16x1024.size a)
theorem k1_idx151_inb : ∀ (v3 : IVec S16 32) (v671 : IVec S16 32) (k1_hw151 : k1_chk151 v3 v671), ∀ a x, ((![v3, v671] : Fin 2 → IVec S16 32) a x).toNat < S16x1024.size a := fun v3 v671 k1_hw151 => k1_hw151

def k1_chk152 (v3 : IVec S16 32) (v675 : IVec S16 32) : Prop :=
  (∀ a x, ((![v3, v675] : Fin 2 → IVec S16 32) a x).toNat < S16x1024.size a)
theorem k1_idx152_inb : ∀ (v3 : IVec S16 32) (v675 : IVec S16 32) (k1_hw152 : k1_chk152 v3 v675), ∀ a x, ((![v3, v675] : Fin 2 → IVec S16 32) a x).toNat < S16x1024.size a := fun v3 v675 k1_hw152 => k1_hw152

def k1_chk153 (v3 : IVec S16 32) (v679 : IVec S16 32) : Prop :=
  (∀ a x, ((![v3, v679] : Fin 2 → IVec S16 32) a x).toNat < S16x1024.size a)
theorem k1_idx153_inb : ∀ (v3 : IVec S16 32) (v679 : IVec S16 32) (k1_hw153 : k1_chk153 v3 v679), ∀ a x, ((![v3, v679] : Fin 2 → IVec S16 32) a x).toNat < S16x1024.size a := fun v3 v679 k1_hw153 => k1_hw153

def k1_chk154 (v3 : IVec S16 32) (v683 : IVec S16 32) : Prop :=
  (∀ a x, ((![v3, v683] : Fin 2 → IVec S16 32) a x).toNat < S16x1024.size a)
theorem k1_idx154_inb : ∀ (v3 : IVec S16 32) (v683 : IVec S16 32) (k1_hw154 : k1_chk154 v3 v683), ∀ a x, ((![v3, v683] : Fin 2 → IVec S16 32) a x).toNat < S16x1024.size a := fun v3 v683 k1_hw154 => k1_hw154

def k1_chk155 (v3 : IVec S16 32) (v687 : IVec S16 32) : Prop :=
  (∀ a x, ((![v3, v687] : Fin 2 → IVec S16 32) a x).toNat < S16x1024.size a)
theorem k1_idx155_inb : ∀ (v3 : IVec S16 32) (v687 : IVec S16 32) (k1_hw155 : k1_chk155 v3 v687), ∀ a x, ((![v3, v687] : Fin 2 → IVec S16 32) a x).toNat < S16x1024.size a := fun v3 v687 k1_hw155 => k1_hw155

def k1_chk156 (v3 : IVec S16 32) (v691 : IVec S16 32) : Prop :=
  (∀ a x, ((![v3, v691] : Fin 2 → IVec S16 32) a x).toNat < S16x1024.size a)
theorem k1_idx156_inb : ∀ (v3 : IVec S16 32) (v691 : IVec S16 32) (k1_hw156 : k1_chk156 v3 v691), ∀ a x, ((![v3, v691] : Fin 2 → IVec S16 32) a x).toNat < S16x1024.size a := fun v3 v691 k1_hw156 => k1_hw156

def k1_chk157 (v3 : IVec S16 32) (v695 : IVec S16 32) : Prop :=
  (∀ a x, ((![v3, v695] : Fin 2 → IVec S16 32) a x).toNat < S16x1024.size a)
theorem k1_idx157_inb : ∀ (v3 : IVec S16 32) (v695 : IVec S16 32) (k1_hw157 : k1_chk157 v3 v695), ∀ a x, ((![v3, v695] : Fin 2 → IVec S16 32) a x).toNat < S16x1024.size a := fun v3 v695 k1_hw157 => k1_hw157

def k1_chk158 (v3 : IVec S16 32) (v699 : IVec S16 32) : Prop :=
  (∀ a x, ((![v3, v699] : Fin 2 → IVec S16 32) a x).toNat < S16x1024.size a)
theorem k1_idx158_inb : ∀ (v3 : IVec S16 32) (v699 : IVec S16 32) (k1_hw158 : k1_chk158 v3 v699), ∀ a x, ((![v3, v699] : Fin 2 → IVec S16 32) a x).toNat < S16x1024.size a := fun v3 v699 k1_hw158 => k1_hw158

def k1_chk159 (v3 : IVec S16 32) (v703 : IVec S16 32) : Prop :=
  (∀ a x, ((![v3, v703] : Fin 2 → IVec S16 32) a x).toNat < S16x1024.size a)
theorem k1_idx159_inb : ∀ (v3 : IVec S16 32) (v703 : IVec S16 32) (k1_hw159 : k1_chk159 v3 v703), ∀ a x, ((![v3, v703] : Fin 2 → IVec S16 32) a x).toNat < S16x1024.size a := fun v3 v703 k1_hw159 => k1_hw159

def k1_chk160 (v3 : IVec S16 32) (v707 : IVec S16 32) : Prop :=
  (∀ a x, ((![v3, v707] : Fin 2 → IVec S16 32) a x).toNat < S16x1024.size a)
theorem k1_idx160_inb : ∀ (v3 : IVec S16 32) (v707 : IVec S16 32) (k1_hw160 : k1_chk160 v3 v707), ∀ a x, ((![v3, v707] : Fin 2 → IVec S16 32) a x).toNat < S16x1024.size a := fun v3 v707 k1_hw160 => k1_hw160
@[reducible] def k1_t29_loop : Scf.Loop 32 :=
  let c0_i32_433 : BitVec 32 := 0#32
  let c8_i32_434 : BitVec 32 := 8#32
  let v709 : BitVec 32 := Scalar.addi c0_i32_433 c8_i32_434
  let c1_i32_435 : BitVec 32 := 1#32
  ⟨c0_i32_433, v709, c1_i32_435⟩
@[reducible] def k1_t30_loop : Scf.Loop 32 :=
  let c0_i32_437 : BitVec 32 := 0#32
  let c8_i32_438 : BitVec 32 := 8#32
  let v727 : BitVec 32 := Scalar.addi c0_i32_437 c8_i32_438
  let c1_i32_439 : BitVec 32 := 1#32
  ⟨c0_i32_437, v727, c1_i32_439⟩
@[reducible] def k1_t31_loop : Scf.Loop 32 :=
  let c0_i32_272 : BitVec 32 := 0#32
  let c64_i32_273 : BitVec 32 := 64#32
  let v428 : BitVec 32 := Scalar.addi c0_i32_272 c64_i32_273
  let c1_i32_274 : BitVec 32 := 1#32
  ⟨c0_i32_272, v428, c1_i32_274⟩

def k1_chk161 (v3 : IVec S16 32) (v647 : IVec S16 32) : Prop :=
  (∀ a x, ((![v3, v647] : Fin 2 → IVec S16 32) a x).toNat < S16x1024.size a)
theorem k1_idx161_inb : ∀ (v3 : IVec S16 32) (v647 : IVec S16 32) (k1_hw161 : k1_chk161 v3 v647), ∀ a x, ((![v3, v647] : Fin 2 → IVec S16 32) a x).toNat < S16x1024.size a := fun v3 v647 k1_hw161 => k1_hw161

def k1_chk162 (v3 : IVec S16 32) (v651 : IVec S16 32) : Prop :=
  (∀ a x, ((![v3, v651] : Fin 2 → IVec S16 32) a x).toNat < S16x1024.size a)
theorem k1_idx162_inb : ∀ (v3 : IVec S16 32) (v651 : IVec S16 32) (k1_hw162 : k1_chk162 v3 v651), ∀ a x, ((![v3, v651] : Fin 2 → IVec S16 32) a x).toNat < S16x1024.size a := fun v3 v651 k1_hw162 => k1_hw162

def k1_chk163 (v3 : IVec S16 32) (v655 : IVec S16 32) : Prop :=
  (∀ a x, ((![v3, v655] : Fin 2 → IVec S16 32) a x).toNat < S16x1024.size a)
theorem k1_idx163_inb : ∀ (v3 : IVec S16 32) (v655 : IVec S16 32) (k1_hw163 : k1_chk163 v3 v655), ∀ a x, ((![v3, v655] : Fin 2 → IVec S16 32) a x).toNat < S16x1024.size a := fun v3 v655 k1_hw163 => k1_hw163

def k1_chk164 (v3 : IVec S16 32) (v659 : IVec S16 32) : Prop :=
  (∀ a x, ((![v3, v659] : Fin 2 → IVec S16 32) a x).toNat < S16x1024.size a)
theorem k1_idx164_inb : ∀ (v3 : IVec S16 32) (v659 : IVec S16 32) (k1_hw164 : k1_chk164 v3 v659), ∀ a x, ((![v3, v659] : Fin 2 → IVec S16 32) a x).toNat < S16x1024.size a := fun v3 v659 k1_hw164 => k1_hw164

def k1_chk165 (v3 : IVec S16 32) (v663 : IVec S16 32) : Prop :=
  (∀ a x, ((![v3, v663] : Fin 2 → IVec S16 32) a x).toNat < S16x1024.size a)
theorem k1_idx165_inb : ∀ (v3 : IVec S16 32) (v663 : IVec S16 32) (k1_hw165 : k1_chk165 v3 v663), ∀ a x, ((![v3, v663] : Fin 2 → IVec S16 32) a x).toNat < S16x1024.size a := fun v3 v663 k1_hw165 => k1_hw165

def k1_chk166 (v3 : IVec S16 32) (v667 : IVec S16 32) : Prop :=
  (∀ a x, ((![v3, v667] : Fin 2 → IVec S16 32) a x).toNat < S16x1024.size a)
theorem k1_idx166_inb : ∀ (v3 : IVec S16 32) (v667 : IVec S16 32) (k1_hw166 : k1_chk166 v3 v667), ∀ a x, ((![v3, v667] : Fin 2 → IVec S16 32) a x).toNat < S16x1024.size a := fun v3 v667 k1_hw166 => k1_hw166

def k1_chk167 (v3 : IVec S16 32) (v671 : IVec S16 32) : Prop :=
  (∀ a x, ((![v3, v671] : Fin 2 → IVec S16 32) a x).toNat < S16x1024.size a)
theorem k1_idx167_inb : ∀ (v3 : IVec S16 32) (v671 : IVec S16 32) (k1_hw167 : k1_chk167 v3 v671), ∀ a x, ((![v3, v671] : Fin 2 → IVec S16 32) a x).toNat < S16x1024.size a := fun v3 v671 k1_hw167 => k1_hw167

def k1_chk168 (v3 : IVec S16 32) (v675 : IVec S16 32) : Prop :=
  (∀ a x, ((![v3, v675] : Fin 2 → IVec S16 32) a x).toNat < S16x1024.size a)
theorem k1_idx168_inb : ∀ (v3 : IVec S16 32) (v675 : IVec S16 32) (k1_hw168 : k1_chk168 v3 v675), ∀ a x, ((![v3, v675] : Fin 2 → IVec S16 32) a x).toNat < S16x1024.size a := fun v3 v675 k1_hw168 => k1_hw168

def k1_chk169 (v3 : IVec S16 32) (v679 : IVec S16 32) : Prop :=
  (∀ a x, ((![v3, v679] : Fin 2 → IVec S16 32) a x).toNat < S16x1024.size a)
theorem k1_idx169_inb : ∀ (v3 : IVec S16 32) (v679 : IVec S16 32) (k1_hw169 : k1_chk169 v3 v679), ∀ a x, ((![v3, v679] : Fin 2 → IVec S16 32) a x).toNat < S16x1024.size a := fun v3 v679 k1_hw169 => k1_hw169

def k1_chk170 (v3 : IVec S16 32) (v683 : IVec S16 32) : Prop :=
  (∀ a x, ((![v3, v683] : Fin 2 → IVec S16 32) a x).toNat < S16x1024.size a)
theorem k1_idx170_inb : ∀ (v3 : IVec S16 32) (v683 : IVec S16 32) (k1_hw170 : k1_chk170 v3 v683), ∀ a x, ((![v3, v683] : Fin 2 → IVec S16 32) a x).toNat < S16x1024.size a := fun v3 v683 k1_hw170 => k1_hw170

def k1_chk171 (v3 : IVec S16 32) (v687 : IVec S16 32) : Prop :=
  (∀ a x, ((![v3, v687] : Fin 2 → IVec S16 32) a x).toNat < S16x1024.size a)
theorem k1_idx171_inb : ∀ (v3 : IVec S16 32) (v687 : IVec S16 32) (k1_hw171 : k1_chk171 v3 v687), ∀ a x, ((![v3, v687] : Fin 2 → IVec S16 32) a x).toNat < S16x1024.size a := fun v3 v687 k1_hw171 => k1_hw171

def k1_chk172 (v3 : IVec S16 32) (v691 : IVec S16 32) : Prop :=
  (∀ a x, ((![v3, v691] : Fin 2 → IVec S16 32) a x).toNat < S16x1024.size a)
theorem k1_idx172_inb : ∀ (v3 : IVec S16 32) (v691 : IVec S16 32) (k1_hw172 : k1_chk172 v3 v691), ∀ a x, ((![v3, v691] : Fin 2 → IVec S16 32) a x).toNat < S16x1024.size a := fun v3 v691 k1_hw172 => k1_hw172

def k1_chk173 (v3 : IVec S16 32) (v695 : IVec S16 32) : Prop :=
  (∀ a x, ((![v3, v695] : Fin 2 → IVec S16 32) a x).toNat < S16x1024.size a)
theorem k1_idx173_inb : ∀ (v3 : IVec S16 32) (v695 : IVec S16 32) (k1_hw173 : k1_chk173 v3 v695), ∀ a x, ((![v3, v695] : Fin 2 → IVec S16 32) a x).toNat < S16x1024.size a := fun v3 v695 k1_hw173 => k1_hw173

def k1_chk174 (v3 : IVec S16 32) (v699 : IVec S16 32) : Prop :=
  (∀ a x, ((![v3, v699] : Fin 2 → IVec S16 32) a x).toNat < S16x1024.size a)
theorem k1_idx174_inb : ∀ (v3 : IVec S16 32) (v699 : IVec S16 32) (k1_hw174 : k1_chk174 v3 v699), ∀ a x, ((![v3, v699] : Fin 2 → IVec S16 32) a x).toNat < S16x1024.size a := fun v3 v699 k1_hw174 => k1_hw174

def k1_chk175 (v3 : IVec S16 32) (v703 : IVec S16 32) : Prop :=
  (∀ a x, ((![v3, v703] : Fin 2 → IVec S16 32) a x).toNat < S16x1024.size a)
theorem k1_idx175_inb : ∀ (v3 : IVec S16 32) (v703 : IVec S16 32) (k1_hw175 : k1_chk175 v3 v703), ∀ a x, ((![v3, v703] : Fin 2 → IVec S16 32) a x).toNat < S16x1024.size a := fun v3 v703 k1_hw175 => k1_hw175

def k1_chk176 (v3 : IVec S16 32) (v707 : IVec S16 32) : Prop :=
  (∀ a x, ((![v3, v707] : Fin 2 → IVec S16 32) a x).toNat < S16x1024.size a)
theorem k1_idx176_inb : ∀ (v3 : IVec S16 32) (v707 : IVec S16 32) (k1_hw176 : k1_chk176 v3 v707), ∀ a x, ((![v3, v707] : Fin 2 → IVec S16 32) a x).toNat < S16x1024.size a := fun v3 v707 k1_hw176 => k1_hw176
@[reducible] def k1_t32_loop : Scf.Loop 32 :=
  let c0_i32_433 : BitVec 32 := 0#32
  let c8_i32_434 : BitVec 32 := 8#32
  let v709 : BitVec 32 := Scalar.addi c0_i32_433 c8_i32_434
  let c1_i32_435 : BitVec 32 := 1#32
  ⟨c0_i32_433, v709, c1_i32_435⟩
@[reducible] def k1_t33_loop : Scf.Loop 32 :=
  let c0_i32_437 : BitVec 32 := 0#32
  let c8_i32_438 : BitVec 32 := 8#32
  let v727 : BitVec 32 := Scalar.addi c0_i32_437 c8_i32_438
  let c1_i32_439 : BitVec 32 := 1#32
  ⟨c0_i32_437, v727, c1_i32_439⟩
@[reducible] def k1_t34_loop : Scf.Loop 32 :=
  let c0_i32_297 : BitVec 32 := 0#32
  let c64_i32_298 : BitVec 32 := 64#32
  let v468 : BitVec 32 := Scalar.addi c0_i32_297 c64_i32_298
  let c1_i32_299 : BitVec 32 := 1#32
  ⟨c0_i32_297, v468, c1_i32_299⟩

def k1_chk177 (v3 : IVec S16 32) (v647 : IVec S16 32) : Prop :=
  (∀ a x, ((![v3, v647] : Fin 2 → IVec S16 32) a x).toNat < S16x1024.size a)
theorem k1_idx177_inb : ∀ (v3 : IVec S16 32) (v647 : IVec S16 32) (k1_hw177 : k1_chk177 v3 v647), ∀ a x, ((![v3, v647] : Fin 2 → IVec S16 32) a x).toNat < S16x1024.size a := fun v3 v647 k1_hw177 => k1_hw177

def k1_chk178 (v3 : IVec S16 32) (v651 : IVec S16 32) : Prop :=
  (∀ a x, ((![v3, v651] : Fin 2 → IVec S16 32) a x).toNat < S16x1024.size a)
theorem k1_idx178_inb : ∀ (v3 : IVec S16 32) (v651 : IVec S16 32) (k1_hw178 : k1_chk178 v3 v651), ∀ a x, ((![v3, v651] : Fin 2 → IVec S16 32) a x).toNat < S16x1024.size a := fun v3 v651 k1_hw178 => k1_hw178

def k1_chk179 (v3 : IVec S16 32) (v655 : IVec S16 32) : Prop :=
  (∀ a x, ((![v3, v655] : Fin 2 → IVec S16 32) a x).toNat < S16x1024.size a)
theorem k1_idx179_inb : ∀ (v3 : IVec S16 32) (v655 : IVec S16 32) (k1_hw179 : k1_chk179 v3 v655), ∀ a x, ((![v3, v655] : Fin 2 → IVec S16 32) a x).toNat < S16x1024.size a := fun v3 v655 k1_hw179 => k1_hw179

def k1_chk180 (v3 : IVec S16 32) (v659 : IVec S16 32) : Prop :=
  (∀ a x, ((![v3, v659] : Fin 2 → IVec S16 32) a x).toNat < S16x1024.size a)
theorem k1_idx180_inb : ∀ (v3 : IVec S16 32) (v659 : IVec S16 32) (k1_hw180 : k1_chk180 v3 v659), ∀ a x, ((![v3, v659] : Fin 2 → IVec S16 32) a x).toNat < S16x1024.size a := fun v3 v659 k1_hw180 => k1_hw180

def k1_chk181 (v3 : IVec S16 32) (v663 : IVec S16 32) : Prop :=
  (∀ a x, ((![v3, v663] : Fin 2 → IVec S16 32) a x).toNat < S16x1024.size a)
theorem k1_idx181_inb : ∀ (v3 : IVec S16 32) (v663 : IVec S16 32) (k1_hw181 : k1_chk181 v3 v663), ∀ a x, ((![v3, v663] : Fin 2 → IVec S16 32) a x).toNat < S16x1024.size a := fun v3 v663 k1_hw181 => k1_hw181

def k1_chk182 (v3 : IVec S16 32) (v667 : IVec S16 32) : Prop :=
  (∀ a x, ((![v3, v667] : Fin 2 → IVec S16 32) a x).toNat < S16x1024.size a)
theorem k1_idx182_inb : ∀ (v3 : IVec S16 32) (v667 : IVec S16 32) (k1_hw182 : k1_chk182 v3 v667), ∀ a x, ((![v3, v667] : Fin 2 → IVec S16 32) a x).toNat < S16x1024.size a := fun v3 v667 k1_hw182 => k1_hw182

def k1_chk183 (v3 : IVec S16 32) (v671 : IVec S16 32) : Prop :=
  (∀ a x, ((![v3, v671] : Fin 2 → IVec S16 32) a x).toNat < S16x1024.size a)
theorem k1_idx183_inb : ∀ (v3 : IVec S16 32) (v671 : IVec S16 32) (k1_hw183 : k1_chk183 v3 v671), ∀ a x, ((![v3, v671] : Fin 2 → IVec S16 32) a x).toNat < S16x1024.size a := fun v3 v671 k1_hw183 => k1_hw183

def k1_chk184 (v3 : IVec S16 32) (v675 : IVec S16 32) : Prop :=
  (∀ a x, ((![v3, v675] : Fin 2 → IVec S16 32) a x).toNat < S16x1024.size a)
theorem k1_idx184_inb : ∀ (v3 : IVec S16 32) (v675 : IVec S16 32) (k1_hw184 : k1_chk184 v3 v675), ∀ a x, ((![v3, v675] : Fin 2 → IVec S16 32) a x).toNat < S16x1024.size a := fun v3 v675 k1_hw184 => k1_hw184

def k1_chk185 (v3 : IVec S16 32) (v679 : IVec S16 32) : Prop :=
  (∀ a x, ((![v3, v679] : Fin 2 → IVec S16 32) a x).toNat < S16x1024.size a)
theorem k1_idx185_inb : ∀ (v3 : IVec S16 32) (v679 : IVec S16 32) (k1_hw185 : k1_chk185 v3 v679), ∀ a x, ((![v3, v679] : Fin 2 → IVec S16 32) a x).toNat < S16x1024.size a := fun v3 v679 k1_hw185 => k1_hw185

def k1_chk186 (v3 : IVec S16 32) (v683 : IVec S16 32) : Prop :=
  (∀ a x, ((![v3, v683] : Fin 2 → IVec S16 32) a x).toNat < S16x1024.size a)
theorem k1_idx186_inb : ∀ (v3 : IVec S16 32) (v683 : IVec S16 32) (k1_hw186 : k1_chk186 v3 v683), ∀ a x, ((![v3, v683] : Fin 2 → IVec S16 32) a x).toNat < S16x1024.size a := fun v3 v683 k1_hw186 => k1_hw186

def k1_chk187 (v3 : IVec S16 32) (v687 : IVec S16 32) : Prop :=
  (∀ a x, ((![v3, v687] : Fin 2 → IVec S16 32) a x).toNat < S16x1024.size a)
theorem k1_idx187_inb : ∀ (v3 : IVec S16 32) (v687 : IVec S16 32) (k1_hw187 : k1_chk187 v3 v687), ∀ a x, ((![v3, v687] : Fin 2 → IVec S16 32) a x).toNat < S16x1024.size a := fun v3 v687 k1_hw187 => k1_hw187

def k1_chk188 (v3 : IVec S16 32) (v691 : IVec S16 32) : Prop :=
  (∀ a x, ((![v3, v691] : Fin 2 → IVec S16 32) a x).toNat < S16x1024.size a)
theorem k1_idx188_inb : ∀ (v3 : IVec S16 32) (v691 : IVec S16 32) (k1_hw188 : k1_chk188 v3 v691), ∀ a x, ((![v3, v691] : Fin 2 → IVec S16 32) a x).toNat < S16x1024.size a := fun v3 v691 k1_hw188 => k1_hw188

def k1_chk189 (v3 : IVec S16 32) (v695 : IVec S16 32) : Prop :=
  (∀ a x, ((![v3, v695] : Fin 2 → IVec S16 32) a x).toNat < S16x1024.size a)
theorem k1_idx189_inb : ∀ (v3 : IVec S16 32) (v695 : IVec S16 32) (k1_hw189 : k1_chk189 v3 v695), ∀ a x, ((![v3, v695] : Fin 2 → IVec S16 32) a x).toNat < S16x1024.size a := fun v3 v695 k1_hw189 => k1_hw189

def k1_chk190 (v3 : IVec S16 32) (v699 : IVec S16 32) : Prop :=
  (∀ a x, ((![v3, v699] : Fin 2 → IVec S16 32) a x).toNat < S16x1024.size a)
theorem k1_idx190_inb : ∀ (v3 : IVec S16 32) (v699 : IVec S16 32) (k1_hw190 : k1_chk190 v3 v699), ∀ a x, ((![v3, v699] : Fin 2 → IVec S16 32) a x).toNat < S16x1024.size a := fun v3 v699 k1_hw190 => k1_hw190

def k1_chk191 (v3 : IVec S16 32) (v703 : IVec S16 32) : Prop :=
  (∀ a x, ((![v3, v703] : Fin 2 → IVec S16 32) a x).toNat < S16x1024.size a)
theorem k1_idx191_inb : ∀ (v3 : IVec S16 32) (v703 : IVec S16 32) (k1_hw191 : k1_chk191 v3 v703), ∀ a x, ((![v3, v703] : Fin 2 → IVec S16 32) a x).toNat < S16x1024.size a := fun v3 v703 k1_hw191 => k1_hw191

def k1_chk192 (v3 : IVec S16 32) (v707 : IVec S16 32) : Prop :=
  (∀ a x, ((![v3, v707] : Fin 2 → IVec S16 32) a x).toNat < S16x1024.size a)
theorem k1_idx192_inb : ∀ (v3 : IVec S16 32) (v707 : IVec S16 32) (k1_hw192 : k1_chk192 v3 v707), ∀ a x, ((![v3, v707] : Fin 2 → IVec S16 32) a x).toNat < S16x1024.size a := fun v3 v707 k1_hw192 => k1_hw192
@[reducible] def k1_t35_loop : Scf.Loop 32 :=
  let c0_i32_433 : BitVec 32 := 0#32
  let c8_i32_434 : BitVec 32 := 8#32
  let v709 : BitVec 32 := Scalar.addi c0_i32_433 c8_i32_434
  let c1_i32_435 : BitVec 32 := 1#32
  ⟨c0_i32_433, v709, c1_i32_435⟩
@[reducible] def k1_t36_loop : Scf.Loop 32 :=
  let c0_i32_437 : BitVec 32 := 0#32
  let c8_i32_438 : BitVec 32 := 8#32
  let v727 : BitVec 32 := Scalar.addi c0_i32_437 c8_i32_438
  let c1_i32_439 : BitVec 32 := 1#32
  ⟨c0_i32_437, v727, c1_i32_439⟩
@[reducible] def k1_t37_loop : Scf.Loop 32 :=
  let c0_i32_322 : BitVec 32 := 0#32
  let c64_i32_323 : BitVec 32 := 64#32
  let v508 : BitVec 32 := Scalar.addi c0_i32_322 c64_i32_323
  let c1_i32_324 : BitVec 32 := 1#32
  ⟨c0_i32_322, v508, c1_i32_324⟩

def k1_chk193 (v3 : IVec S16 32) (v647 : IVec S16 32) : Prop :=
  (∀ a x, ((![v3, v647] : Fin 2 → IVec S16 32) a x).toNat < S16x1024.size a)
theorem k1_idx193_inb : ∀ (v3 : IVec S16 32) (v647 : IVec S16 32) (k1_hw193 : k1_chk193 v3 v647), ∀ a x, ((![v3, v647] : Fin 2 → IVec S16 32) a x).toNat < S16x1024.size a := fun v3 v647 k1_hw193 => k1_hw193

def k1_chk194 (v3 : IVec S16 32) (v651 : IVec S16 32) : Prop :=
  (∀ a x, ((![v3, v651] : Fin 2 → IVec S16 32) a x).toNat < S16x1024.size a)
theorem k1_idx194_inb : ∀ (v3 : IVec S16 32) (v651 : IVec S16 32) (k1_hw194 : k1_chk194 v3 v651), ∀ a x, ((![v3, v651] : Fin 2 → IVec S16 32) a x).toNat < S16x1024.size a := fun v3 v651 k1_hw194 => k1_hw194

def k1_chk195 (v3 : IVec S16 32) (v655 : IVec S16 32) : Prop :=
  (∀ a x, ((![v3, v655] : Fin 2 → IVec S16 32) a x).toNat < S16x1024.size a)
theorem k1_idx195_inb : ∀ (v3 : IVec S16 32) (v655 : IVec S16 32) (k1_hw195 : k1_chk195 v3 v655), ∀ a x, ((![v3, v655] : Fin 2 → IVec S16 32) a x).toNat < S16x1024.size a := fun v3 v655 k1_hw195 => k1_hw195

def k1_chk196 (v3 : IVec S16 32) (v659 : IVec S16 32) : Prop :=
  (∀ a x, ((![v3, v659] : Fin 2 → IVec S16 32) a x).toNat < S16x1024.size a)
theorem k1_idx196_inb : ∀ (v3 : IVec S16 32) (v659 : IVec S16 32) (k1_hw196 : k1_chk196 v3 v659), ∀ a x, ((![v3, v659] : Fin 2 → IVec S16 32) a x).toNat < S16x1024.size a := fun v3 v659 k1_hw196 => k1_hw196

def k1_chk197 (v3 : IVec S16 32) (v663 : IVec S16 32) : Prop :=
  (∀ a x, ((![v3, v663] : Fin 2 → IVec S16 32) a x).toNat < S16x1024.size a)
theorem k1_idx197_inb : ∀ (v3 : IVec S16 32) (v663 : IVec S16 32) (k1_hw197 : k1_chk197 v3 v663), ∀ a x, ((![v3, v663] : Fin 2 → IVec S16 32) a x).toNat < S16x1024.size a := fun v3 v663 k1_hw197 => k1_hw197

def k1_chk198 (v3 : IVec S16 32) (v667 : IVec S16 32) : Prop :=
  (∀ a x, ((![v3, v667] : Fin 2 → IVec S16 32) a x).toNat < S16x1024.size a)
theorem k1_idx198_inb : ∀ (v3 : IVec S16 32) (v667 : IVec S16 32) (k1_hw198 : k1_chk198 v3 v667), ∀ a x, ((![v3, v667] : Fin 2 → IVec S16 32) a x).toNat < S16x1024.size a := fun v3 v667 k1_hw198 => k1_hw198

def k1_chk199 (v3 : IVec S16 32) (v671 : IVec S16 32) : Prop :=
  (∀ a x, ((![v3, v671] : Fin 2 → IVec S16 32) a x).toNat < S16x1024.size a)
theorem k1_idx199_inb : ∀ (v3 : IVec S16 32) (v671 : IVec S16 32) (k1_hw199 : k1_chk199 v3 v671), ∀ a x, ((![v3, v671] : Fin 2 → IVec S16 32) a x).toNat < S16x1024.size a := fun v3 v671 k1_hw199 => k1_hw199

def k1_chk200 (v3 : IVec S16 32) (v675 : IVec S16 32) : Prop :=
  (∀ a x, ((![v3, v675] : Fin 2 → IVec S16 32) a x).toNat < S16x1024.size a)
theorem k1_idx200_inb : ∀ (v3 : IVec S16 32) (v675 : IVec S16 32) (k1_hw200 : k1_chk200 v3 v675), ∀ a x, ((![v3, v675] : Fin 2 → IVec S16 32) a x).toNat < S16x1024.size a := fun v3 v675 k1_hw200 => k1_hw200

def k1_chk201 (v3 : IVec S16 32) (v679 : IVec S16 32) : Prop :=
  (∀ a x, ((![v3, v679] : Fin 2 → IVec S16 32) a x).toNat < S16x1024.size a)
theorem k1_idx201_inb : ∀ (v3 : IVec S16 32) (v679 : IVec S16 32) (k1_hw201 : k1_chk201 v3 v679), ∀ a x, ((![v3, v679] : Fin 2 → IVec S16 32) a x).toNat < S16x1024.size a := fun v3 v679 k1_hw201 => k1_hw201

def k1_chk202 (v3 : IVec S16 32) (v683 : IVec S16 32) : Prop :=
  (∀ a x, ((![v3, v683] : Fin 2 → IVec S16 32) a x).toNat < S16x1024.size a)
theorem k1_idx202_inb : ∀ (v3 : IVec S16 32) (v683 : IVec S16 32) (k1_hw202 : k1_chk202 v3 v683), ∀ a x, ((![v3, v683] : Fin 2 → IVec S16 32) a x).toNat < S16x1024.size a := fun v3 v683 k1_hw202 => k1_hw202

def k1_chk203 (v3 : IVec S16 32) (v687 : IVec S16 32) : Prop :=
  (∀ a x, ((![v3, v687] : Fin 2 → IVec S16 32) a x).toNat < S16x1024.size a)
theorem k1_idx203_inb : ∀ (v3 : IVec S16 32) (v687 : IVec S16 32) (k1_hw203 : k1_chk203 v3 v687), ∀ a x, ((![v3, v687] : Fin 2 → IVec S16 32) a x).toNat < S16x1024.size a := fun v3 v687 k1_hw203 => k1_hw203

def k1_chk204 (v3 : IVec S16 32) (v691 : IVec S16 32) : Prop :=
  (∀ a x, ((![v3, v691] : Fin 2 → IVec S16 32) a x).toNat < S16x1024.size a)
theorem k1_idx204_inb : ∀ (v3 : IVec S16 32) (v691 : IVec S16 32) (k1_hw204 : k1_chk204 v3 v691), ∀ a x, ((![v3, v691] : Fin 2 → IVec S16 32) a x).toNat < S16x1024.size a := fun v3 v691 k1_hw204 => k1_hw204

def k1_chk205 (v3 : IVec S16 32) (v695 : IVec S16 32) : Prop :=
  (∀ a x, ((![v3, v695] : Fin 2 → IVec S16 32) a x).toNat < S16x1024.size a)
theorem k1_idx205_inb : ∀ (v3 : IVec S16 32) (v695 : IVec S16 32) (k1_hw205 : k1_chk205 v3 v695), ∀ a x, ((![v3, v695] : Fin 2 → IVec S16 32) a x).toNat < S16x1024.size a := fun v3 v695 k1_hw205 => k1_hw205

def k1_chk206 (v3 : IVec S16 32) (v699 : IVec S16 32) : Prop :=
  (∀ a x, ((![v3, v699] : Fin 2 → IVec S16 32) a x).toNat < S16x1024.size a)
theorem k1_idx206_inb : ∀ (v3 : IVec S16 32) (v699 : IVec S16 32) (k1_hw206 : k1_chk206 v3 v699), ∀ a x, ((![v3, v699] : Fin 2 → IVec S16 32) a x).toNat < S16x1024.size a := fun v3 v699 k1_hw206 => k1_hw206

def k1_chk207 (v3 : IVec S16 32) (v703 : IVec S16 32) : Prop :=
  (∀ a x, ((![v3, v703] : Fin 2 → IVec S16 32) a x).toNat < S16x1024.size a)
theorem k1_idx207_inb : ∀ (v3 : IVec S16 32) (v703 : IVec S16 32) (k1_hw207 : k1_chk207 v3 v703), ∀ a x, ((![v3, v703] : Fin 2 → IVec S16 32) a x).toNat < S16x1024.size a := fun v3 v703 k1_hw207 => k1_hw207

def k1_chk208 (v3 : IVec S16 32) (v707 : IVec S16 32) : Prop :=
  (∀ a x, ((![v3, v707] : Fin 2 → IVec S16 32) a x).toNat < S16x1024.size a)
theorem k1_idx208_inb : ∀ (v3 : IVec S16 32) (v707 : IVec S16 32) (k1_hw208 : k1_chk208 v3 v707), ∀ a x, ((![v3, v707] : Fin 2 → IVec S16 32) a x).toNat < S16x1024.size a := fun v3 v707 k1_hw208 => k1_hw208
@[reducible] def k1_t38_loop : Scf.Loop 32 :=
  let c0_i32_433 : BitVec 32 := 0#32
  let c8_i32_434 : BitVec 32 := 8#32
  let v709 : BitVec 32 := Scalar.addi c0_i32_433 c8_i32_434
  let c1_i32_435 : BitVec 32 := 1#32
  ⟨c0_i32_433, v709, c1_i32_435⟩
@[reducible] def k1_t39_loop : Scf.Loop 32 :=
  let c0_i32_437 : BitVec 32 := 0#32
  let c8_i32_438 : BitVec 32 := 8#32
  let v727 : BitVec 32 := Scalar.addi c0_i32_437 c8_i32_438
  let c1_i32_439 : BitVec 32 := 1#32
  ⟨c0_i32_437, v727, c1_i32_439⟩
@[reducible] def k1_t40_loop : Scf.Loop 32 :=
  let c0_i32_347 : BitVec 32 := 0#32
  let c64_i32_348 : BitVec 32 := 64#32
  let v548 : BitVec 32 := Scalar.addi c0_i32_347 c64_i32_348
  let c1_i32_349 : BitVec 32 := 1#32
  ⟨c0_i32_347, v548, c1_i32_349⟩

def k1_chk209 (v3 : IVec S16 32) (v647 : IVec S16 32) : Prop :=
  (∀ a x, ((![v3, v647] : Fin 2 → IVec S16 32) a x).toNat < S16x1024.size a)
theorem k1_idx209_inb : ∀ (v3 : IVec S16 32) (v647 : IVec S16 32) (k1_hw209 : k1_chk209 v3 v647), ∀ a x, ((![v3, v647] : Fin 2 → IVec S16 32) a x).toNat < S16x1024.size a := fun v3 v647 k1_hw209 => k1_hw209

def k1_chk210 (v3 : IVec S16 32) (v651 : IVec S16 32) : Prop :=
  (∀ a x, ((![v3, v651] : Fin 2 → IVec S16 32) a x).toNat < S16x1024.size a)
theorem k1_idx210_inb : ∀ (v3 : IVec S16 32) (v651 : IVec S16 32) (k1_hw210 : k1_chk210 v3 v651), ∀ a x, ((![v3, v651] : Fin 2 → IVec S16 32) a x).toNat < S16x1024.size a := fun v3 v651 k1_hw210 => k1_hw210

def k1_chk211 (v3 : IVec S16 32) (v655 : IVec S16 32) : Prop :=
  (∀ a x, ((![v3, v655] : Fin 2 → IVec S16 32) a x).toNat < S16x1024.size a)
theorem k1_idx211_inb : ∀ (v3 : IVec S16 32) (v655 : IVec S16 32) (k1_hw211 : k1_chk211 v3 v655), ∀ a x, ((![v3, v655] : Fin 2 → IVec S16 32) a x).toNat < S16x1024.size a := fun v3 v655 k1_hw211 => k1_hw211

def k1_chk212 (v3 : IVec S16 32) (v659 : IVec S16 32) : Prop :=
  (∀ a x, ((![v3, v659] : Fin 2 → IVec S16 32) a x).toNat < S16x1024.size a)
theorem k1_idx212_inb : ∀ (v3 : IVec S16 32) (v659 : IVec S16 32) (k1_hw212 : k1_chk212 v3 v659), ∀ a x, ((![v3, v659] : Fin 2 → IVec S16 32) a x).toNat < S16x1024.size a := fun v3 v659 k1_hw212 => k1_hw212

def k1_chk213 (v3 : IVec S16 32) (v663 : IVec S16 32) : Prop :=
  (∀ a x, ((![v3, v663] : Fin 2 → IVec S16 32) a x).toNat < S16x1024.size a)
theorem k1_idx213_inb : ∀ (v3 : IVec S16 32) (v663 : IVec S16 32) (k1_hw213 : k1_chk213 v3 v663), ∀ a x, ((![v3, v663] : Fin 2 → IVec S16 32) a x).toNat < S16x1024.size a := fun v3 v663 k1_hw213 => k1_hw213

def k1_chk214 (v3 : IVec S16 32) (v667 : IVec S16 32) : Prop :=
  (∀ a x, ((![v3, v667] : Fin 2 → IVec S16 32) a x).toNat < S16x1024.size a)
theorem k1_idx214_inb : ∀ (v3 : IVec S16 32) (v667 : IVec S16 32) (k1_hw214 : k1_chk214 v3 v667), ∀ a x, ((![v3, v667] : Fin 2 → IVec S16 32) a x).toNat < S16x1024.size a := fun v3 v667 k1_hw214 => k1_hw214

def k1_chk215 (v3 : IVec S16 32) (v671 : IVec S16 32) : Prop :=
  (∀ a x, ((![v3, v671] : Fin 2 → IVec S16 32) a x).toNat < S16x1024.size a)
theorem k1_idx215_inb : ∀ (v3 : IVec S16 32) (v671 : IVec S16 32) (k1_hw215 : k1_chk215 v3 v671), ∀ a x, ((![v3, v671] : Fin 2 → IVec S16 32) a x).toNat < S16x1024.size a := fun v3 v671 k1_hw215 => k1_hw215

def k1_chk216 (v3 : IVec S16 32) (v675 : IVec S16 32) : Prop :=
  (∀ a x, ((![v3, v675] : Fin 2 → IVec S16 32) a x).toNat < S16x1024.size a)
theorem k1_idx216_inb : ∀ (v3 : IVec S16 32) (v675 : IVec S16 32) (k1_hw216 : k1_chk216 v3 v675), ∀ a x, ((![v3, v675] : Fin 2 → IVec S16 32) a x).toNat < S16x1024.size a := fun v3 v675 k1_hw216 => k1_hw216

def k1_chk217 (v3 : IVec S16 32) (v679 : IVec S16 32) : Prop :=
  (∀ a x, ((![v3, v679] : Fin 2 → IVec S16 32) a x).toNat < S16x1024.size a)
theorem k1_idx217_inb : ∀ (v3 : IVec S16 32) (v679 : IVec S16 32) (k1_hw217 : k1_chk217 v3 v679), ∀ a x, ((![v3, v679] : Fin 2 → IVec S16 32) a x).toNat < S16x1024.size a := fun v3 v679 k1_hw217 => k1_hw217

def k1_chk218 (v3 : IVec S16 32) (v683 : IVec S16 32) : Prop :=
  (∀ a x, ((![v3, v683] : Fin 2 → IVec S16 32) a x).toNat < S16x1024.size a)
theorem k1_idx218_inb : ∀ (v3 : IVec S16 32) (v683 : IVec S16 32) (k1_hw218 : k1_chk218 v3 v683), ∀ a x, ((![v3, v683] : Fin 2 → IVec S16 32) a x).toNat < S16x1024.size a := fun v3 v683 k1_hw218 => k1_hw218

def k1_chk219 (v3 : IVec S16 32) (v687 : IVec S16 32) : Prop :=
  (∀ a x, ((![v3, v687] : Fin 2 → IVec S16 32) a x).toNat < S16x1024.size a)
theorem k1_idx219_inb : ∀ (v3 : IVec S16 32) (v687 : IVec S16 32) (k1_hw219 : k1_chk219 v3 v687), ∀ a x, ((![v3, v687] : Fin 2 → IVec S16 32) a x).toNat < S16x1024.size a := fun v3 v687 k1_hw219 => k1_hw219

def k1_chk220 (v3 : IVec S16 32) (v691 : IVec S16 32) : Prop :=
  (∀ a x, ((![v3, v691] : Fin 2 → IVec S16 32) a x).toNat < S16x1024.size a)
theorem k1_idx220_inb : ∀ (v3 : IVec S16 32) (v691 : IVec S16 32) (k1_hw220 : k1_chk220 v3 v691), ∀ a x, ((![v3, v691] : Fin 2 → IVec S16 32) a x).toNat < S16x1024.size a := fun v3 v691 k1_hw220 => k1_hw220

def k1_chk221 (v3 : IVec S16 32) (v695 : IVec S16 32) : Prop :=
  (∀ a x, ((![v3, v695] : Fin 2 → IVec S16 32) a x).toNat < S16x1024.size a)
theorem k1_idx221_inb : ∀ (v3 : IVec S16 32) (v695 : IVec S16 32) (k1_hw221 : k1_chk221 v3 v695), ∀ a x, ((![v3, v695] : Fin 2 → IVec S16 32) a x).toNat < S16x1024.size a := fun v3 v695 k1_hw221 => k1_hw221

def k1_chk222 (v3 : IVec S16 32) (v699 : IVec S16 32) : Prop :=
  (∀ a x, ((![v3, v699] : Fin 2 → IVec S16 32) a x).toNat < S16x1024.size a)
theorem k1_idx222_inb : ∀ (v3 : IVec S16 32) (v699 : IVec S16 32) (k1_hw222 : k1_chk222 v3 v699), ∀ a x, ((![v3, v699] : Fin 2 → IVec S16 32) a x).toNat < S16x1024.size a := fun v3 v699 k1_hw222 => k1_hw222

def k1_chk223 (v3 : IVec S16 32) (v703 : IVec S16 32) : Prop :=
  (∀ a x, ((![v3, v703] : Fin 2 → IVec S16 32) a x).toNat < S16x1024.size a)
theorem k1_idx223_inb : ∀ (v3 : IVec S16 32) (v703 : IVec S16 32) (k1_hw223 : k1_chk223 v3 v703), ∀ a x, ((![v3, v703] : Fin 2 → IVec S16 32) a x).toNat < S16x1024.size a := fun v3 v703 k1_hw223 => k1_hw223

def k1_chk224 (v3 : IVec S16 32) (v707 : IVec S16 32) : Prop :=
  (∀ a x, ((![v3, v707] : Fin 2 → IVec S16 32) a x).toNat < S16x1024.size a)
theorem k1_idx224_inb : ∀ (v3 : IVec S16 32) (v707 : IVec S16 32) (k1_hw224 : k1_chk224 v3 v707), ∀ a x, ((![v3, v707] : Fin 2 → IVec S16 32) a x).toNat < S16x1024.size a := fun v3 v707 k1_hw224 => k1_hw224
@[reducible] def k1_t41_loop : Scf.Loop 32 :=
  let c0_i32_433 : BitVec 32 := 0#32
  let c8_i32_434 : BitVec 32 := 8#32
  let v709 : BitVec 32 := Scalar.addi c0_i32_433 c8_i32_434
  let c1_i32_435 : BitVec 32 := 1#32
  ⟨c0_i32_433, v709, c1_i32_435⟩
@[reducible] def k1_t42_loop : Scf.Loop 32 :=
  let c0_i32_437 : BitVec 32 := 0#32
  let c8_i32_438 : BitVec 32 := 8#32
  let v727 : BitVec 32 := Scalar.addi c0_i32_437 c8_i32_438
  let c1_i32_439 : BitVec 32 := 1#32
  ⟨c0_i32_437, v727, c1_i32_439⟩
@[reducible] def k1_t43_loop : Scf.Loop 32 :=
  let c0_i32_372 : BitVec 32 := 0#32
  let c64_i32_373 : BitVec 32 := 64#32
  let v588 : BitVec 32 := Scalar.addi c0_i32_372 c64_i32_373
  let c1_i32_374 : BitVec 32 := 1#32
  ⟨c0_i32_372, v588, c1_i32_374⟩

def k1_chk225 (v3 : IVec S16 32) (v647 : IVec S16 32) : Prop :=
  (∀ a x, ((![v3, v647] : Fin 2 → IVec S16 32) a x).toNat < S16x1024.size a)
theorem k1_idx225_inb : ∀ (v3 : IVec S16 32) (v647 : IVec S16 32) (k1_hw225 : k1_chk225 v3 v647), ∀ a x, ((![v3, v647] : Fin 2 → IVec S16 32) a x).toNat < S16x1024.size a := fun v3 v647 k1_hw225 => k1_hw225

def k1_chk226 (v3 : IVec S16 32) (v651 : IVec S16 32) : Prop :=
  (∀ a x, ((![v3, v651] : Fin 2 → IVec S16 32) a x).toNat < S16x1024.size a)
theorem k1_idx226_inb : ∀ (v3 : IVec S16 32) (v651 : IVec S16 32) (k1_hw226 : k1_chk226 v3 v651), ∀ a x, ((![v3, v651] : Fin 2 → IVec S16 32) a x).toNat < S16x1024.size a := fun v3 v651 k1_hw226 => k1_hw226

def k1_chk227 (v3 : IVec S16 32) (v655 : IVec S16 32) : Prop :=
  (∀ a x, ((![v3, v655] : Fin 2 → IVec S16 32) a x).toNat < S16x1024.size a)
theorem k1_idx227_inb : ∀ (v3 : IVec S16 32) (v655 : IVec S16 32) (k1_hw227 : k1_chk227 v3 v655), ∀ a x, ((![v3, v655] : Fin 2 → IVec S16 32) a x).toNat < S16x1024.size a := fun v3 v655 k1_hw227 => k1_hw227

def k1_chk228 (v3 : IVec S16 32) (v659 : IVec S16 32) : Prop :=
  (∀ a x, ((![v3, v659] : Fin 2 → IVec S16 32) a x).toNat < S16x1024.size a)
theorem k1_idx228_inb : ∀ (v3 : IVec S16 32) (v659 : IVec S16 32) (k1_hw228 : k1_chk228 v3 v659), ∀ a x, ((![v3, v659] : Fin 2 → IVec S16 32) a x).toNat < S16x1024.size a := fun v3 v659 k1_hw228 => k1_hw228

def k1_chk229 (v3 : IVec S16 32) (v663 : IVec S16 32) : Prop :=
  (∀ a x, ((![v3, v663] : Fin 2 → IVec S16 32) a x).toNat < S16x1024.size a)
theorem k1_idx229_inb : ∀ (v3 : IVec S16 32) (v663 : IVec S16 32) (k1_hw229 : k1_chk229 v3 v663), ∀ a x, ((![v3, v663] : Fin 2 → IVec S16 32) a x).toNat < S16x1024.size a := fun v3 v663 k1_hw229 => k1_hw229

def k1_chk230 (v3 : IVec S16 32) (v667 : IVec S16 32) : Prop :=
  (∀ a x, ((![v3, v667] : Fin 2 → IVec S16 32) a x).toNat < S16x1024.size a)
theorem k1_idx230_inb : ∀ (v3 : IVec S16 32) (v667 : IVec S16 32) (k1_hw230 : k1_chk230 v3 v667), ∀ a x, ((![v3, v667] : Fin 2 → IVec S16 32) a x).toNat < S16x1024.size a := fun v3 v667 k1_hw230 => k1_hw230

def k1_chk231 (v3 : IVec S16 32) (v671 : IVec S16 32) : Prop :=
  (∀ a x, ((![v3, v671] : Fin 2 → IVec S16 32) a x).toNat < S16x1024.size a)
theorem k1_idx231_inb : ∀ (v3 : IVec S16 32) (v671 : IVec S16 32) (k1_hw231 : k1_chk231 v3 v671), ∀ a x, ((![v3, v671] : Fin 2 → IVec S16 32) a x).toNat < S16x1024.size a := fun v3 v671 k1_hw231 => k1_hw231

def k1_chk232 (v3 : IVec S16 32) (v675 : IVec S16 32) : Prop :=
  (∀ a x, ((![v3, v675] : Fin 2 → IVec S16 32) a x).toNat < S16x1024.size a)
theorem k1_idx232_inb : ∀ (v3 : IVec S16 32) (v675 : IVec S16 32) (k1_hw232 : k1_chk232 v3 v675), ∀ a x, ((![v3, v675] : Fin 2 → IVec S16 32) a x).toNat < S16x1024.size a := fun v3 v675 k1_hw232 => k1_hw232

def k1_chk233 (v3 : IVec S16 32) (v679 : IVec S16 32) : Prop :=
  (∀ a x, ((![v3, v679] : Fin 2 → IVec S16 32) a x).toNat < S16x1024.size a)
theorem k1_idx233_inb : ∀ (v3 : IVec S16 32) (v679 : IVec S16 32) (k1_hw233 : k1_chk233 v3 v679), ∀ a x, ((![v3, v679] : Fin 2 → IVec S16 32) a x).toNat < S16x1024.size a := fun v3 v679 k1_hw233 => k1_hw233

def k1_chk234 (v3 : IVec S16 32) (v683 : IVec S16 32) : Prop :=
  (∀ a x, ((![v3, v683] : Fin 2 → IVec S16 32) a x).toNat < S16x1024.size a)
theorem k1_idx234_inb : ∀ (v3 : IVec S16 32) (v683 : IVec S16 32) (k1_hw234 : k1_chk234 v3 v683), ∀ a x, ((![v3, v683] : Fin 2 → IVec S16 32) a x).toNat < S16x1024.size a := fun v3 v683 k1_hw234 => k1_hw234

def k1_chk235 (v3 : IVec S16 32) (v687 : IVec S16 32) : Prop :=
  (∀ a x, ((![v3, v687] : Fin 2 → IVec S16 32) a x).toNat < S16x1024.size a)
theorem k1_idx235_inb : ∀ (v3 : IVec S16 32) (v687 : IVec S16 32) (k1_hw235 : k1_chk235 v3 v687), ∀ a x, ((![v3, v687] : Fin 2 → IVec S16 32) a x).toNat < S16x1024.size a := fun v3 v687 k1_hw235 => k1_hw235

def k1_chk236 (v3 : IVec S16 32) (v691 : IVec S16 32) : Prop :=
  (∀ a x, ((![v3, v691] : Fin 2 → IVec S16 32) a x).toNat < S16x1024.size a)
theorem k1_idx236_inb : ∀ (v3 : IVec S16 32) (v691 : IVec S16 32) (k1_hw236 : k1_chk236 v3 v691), ∀ a x, ((![v3, v691] : Fin 2 → IVec S16 32) a x).toNat < S16x1024.size a := fun v3 v691 k1_hw236 => k1_hw236

def k1_chk237 (v3 : IVec S16 32) (v695 : IVec S16 32) : Prop :=
  (∀ a x, ((![v3, v695] : Fin 2 → IVec S16 32) a x).toNat < S16x1024.size a)
theorem k1_idx237_inb : ∀ (v3 : IVec S16 32) (v695 : IVec S16 32) (k1_hw237 : k1_chk237 v3 v695), ∀ a x, ((![v3, v695] : Fin 2 → IVec S16 32) a x).toNat < S16x1024.size a := fun v3 v695 k1_hw237 => k1_hw237

def k1_chk238 (v3 : IVec S16 32) (v699 : IVec S16 32) : Prop :=
  (∀ a x, ((![v3, v699] : Fin 2 → IVec S16 32) a x).toNat < S16x1024.size a)
theorem k1_idx238_inb : ∀ (v3 : IVec S16 32) (v699 : IVec S16 32) (k1_hw238 : k1_chk238 v3 v699), ∀ a x, ((![v3, v699] : Fin 2 → IVec S16 32) a x).toNat < S16x1024.size a := fun v3 v699 k1_hw238 => k1_hw238

def k1_chk239 (v3 : IVec S16 32) (v703 : IVec S16 32) : Prop :=
  (∀ a x, ((![v3, v703] : Fin 2 → IVec S16 32) a x).toNat < S16x1024.size a)
theorem k1_idx239_inb : ∀ (v3 : IVec S16 32) (v703 : IVec S16 32) (k1_hw239 : k1_chk239 v3 v703), ∀ a x, ((![v3, v703] : Fin 2 → IVec S16 32) a x).toNat < S16x1024.size a := fun v3 v703 k1_hw239 => k1_hw239

def k1_chk240 (v3 : IVec S16 32) (v707 : IVec S16 32) : Prop :=
  (∀ a x, ((![v3, v707] : Fin 2 → IVec S16 32) a x).toNat < S16x1024.size a)
theorem k1_idx240_inb : ∀ (v3 : IVec S16 32) (v707 : IVec S16 32) (k1_hw240 : k1_chk240 v3 v707), ∀ a x, ((![v3, v707] : Fin 2 → IVec S16 32) a x).toNat < S16x1024.size a := fun v3 v707 k1_hw240 => k1_hw240
@[reducible] def k1_t44_loop : Scf.Loop 32 :=
  let c0_i32_433 : BitVec 32 := 0#32
  let c8_i32_434 : BitVec 32 := 8#32
  let v709 : BitVec 32 := Scalar.addi c0_i32_433 c8_i32_434
  let c1_i32_435 : BitVec 32 := 1#32
  ⟨c0_i32_433, v709, c1_i32_435⟩
@[reducible] def k1_t45_loop : Scf.Loop 32 :=
  let c0_i32_437 : BitVec 32 := 0#32
  let c8_i32_438 : BitVec 32 := 8#32
  let v727 : BitVec 32 := Scalar.addi c0_i32_437 c8_i32_438
  let c1_i32_439 : BitVec 32 := 1#32
  ⟨c0_i32_437, v727, c1_i32_439⟩
@[reducible] def k1_t46_loop : Scf.Loop 32 :=
  let c0_i32_395 : BitVec 32 := 0#32
  let c64_i32_396 : BitVec 32 := 64#32
  let v625 : BitVec 32 := Scalar.addi c0_i32_395 c64_i32_396
  let c1_i32_397 : BitVec 32 := 1#32
  ⟨c0_i32_395, v625, c1_i32_397⟩

def k1_chk241 (v3 : IVec S16 32) (v647 : IVec S16 32) : Prop :=
  (∀ a x, ((![v3, v647] : Fin 2 → IVec S16 32) a x).toNat < S16x1024.size a)
theorem k1_idx241_inb : ∀ (v3 : IVec S16 32) (v647 : IVec S16 32) (k1_hw241 : k1_chk241 v3 v647), ∀ a x, ((![v3, v647] : Fin 2 → IVec S16 32) a x).toNat < S16x1024.size a := fun v3 v647 k1_hw241 => k1_hw241

def k1_chk242 (v3 : IVec S16 32) (v651 : IVec S16 32) : Prop :=
  (∀ a x, ((![v3, v651] : Fin 2 → IVec S16 32) a x).toNat < S16x1024.size a)
theorem k1_idx242_inb : ∀ (v3 : IVec S16 32) (v651 : IVec S16 32) (k1_hw242 : k1_chk242 v3 v651), ∀ a x, ((![v3, v651] : Fin 2 → IVec S16 32) a x).toNat < S16x1024.size a := fun v3 v651 k1_hw242 => k1_hw242

def k1_chk243 (v3 : IVec S16 32) (v655 : IVec S16 32) : Prop :=
  (∀ a x, ((![v3, v655] : Fin 2 → IVec S16 32) a x).toNat < S16x1024.size a)
theorem k1_idx243_inb : ∀ (v3 : IVec S16 32) (v655 : IVec S16 32) (k1_hw243 : k1_chk243 v3 v655), ∀ a x, ((![v3, v655] : Fin 2 → IVec S16 32) a x).toNat < S16x1024.size a := fun v3 v655 k1_hw243 => k1_hw243

def k1_chk244 (v3 : IVec S16 32) (v659 : IVec S16 32) : Prop :=
  (∀ a x, ((![v3, v659] : Fin 2 → IVec S16 32) a x).toNat < S16x1024.size a)
theorem k1_idx244_inb : ∀ (v3 : IVec S16 32) (v659 : IVec S16 32) (k1_hw244 : k1_chk244 v3 v659), ∀ a x, ((![v3, v659] : Fin 2 → IVec S16 32) a x).toNat < S16x1024.size a := fun v3 v659 k1_hw244 => k1_hw244

def k1_chk245 (v3 : IVec S16 32) (v663 : IVec S16 32) : Prop :=
  (∀ a x, ((![v3, v663] : Fin 2 → IVec S16 32) a x).toNat < S16x1024.size a)
theorem k1_idx245_inb : ∀ (v3 : IVec S16 32) (v663 : IVec S16 32) (k1_hw245 : k1_chk245 v3 v663), ∀ a x, ((![v3, v663] : Fin 2 → IVec S16 32) a x).toNat < S16x1024.size a := fun v3 v663 k1_hw245 => k1_hw245

def k1_chk246 (v3 : IVec S16 32) (v667 : IVec S16 32) : Prop :=
  (∀ a x, ((![v3, v667] : Fin 2 → IVec S16 32) a x).toNat < S16x1024.size a)
theorem k1_idx246_inb : ∀ (v3 : IVec S16 32) (v667 : IVec S16 32) (k1_hw246 : k1_chk246 v3 v667), ∀ a x, ((![v3, v667] : Fin 2 → IVec S16 32) a x).toNat < S16x1024.size a := fun v3 v667 k1_hw246 => k1_hw246

def k1_chk247 (v3 : IVec S16 32) (v671 : IVec S16 32) : Prop :=
  (∀ a x, ((![v3, v671] : Fin 2 → IVec S16 32) a x).toNat < S16x1024.size a)
theorem k1_idx247_inb : ∀ (v3 : IVec S16 32) (v671 : IVec S16 32) (k1_hw247 : k1_chk247 v3 v671), ∀ a x, ((![v3, v671] : Fin 2 → IVec S16 32) a x).toNat < S16x1024.size a := fun v3 v671 k1_hw247 => k1_hw247

def k1_chk248 (v3 : IVec S16 32) (v675 : IVec S16 32) : Prop :=
  (∀ a x, ((![v3, v675] : Fin 2 → IVec S16 32) a x).toNat < S16x1024.size a)
theorem k1_idx248_inb : ∀ (v3 : IVec S16 32) (v675 : IVec S16 32) (k1_hw248 : k1_chk248 v3 v675), ∀ a x, ((![v3, v675] : Fin 2 → IVec S16 32) a x).toNat < S16x1024.size a := fun v3 v675 k1_hw248 => k1_hw248

def k1_chk249 (v3 : IVec S16 32) (v679 : IVec S16 32) : Prop :=
  (∀ a x, ((![v3, v679] : Fin 2 → IVec S16 32) a x).toNat < S16x1024.size a)
theorem k1_idx249_inb : ∀ (v3 : IVec S16 32) (v679 : IVec S16 32) (k1_hw249 : k1_chk249 v3 v679), ∀ a x, ((![v3, v679] : Fin 2 → IVec S16 32) a x).toNat < S16x1024.size a := fun v3 v679 k1_hw249 => k1_hw249

def k1_chk250 (v3 : IVec S16 32) (v683 : IVec S16 32) : Prop :=
  (∀ a x, ((![v3, v683] : Fin 2 → IVec S16 32) a x).toNat < S16x1024.size a)
theorem k1_idx250_inb : ∀ (v3 : IVec S16 32) (v683 : IVec S16 32) (k1_hw250 : k1_chk250 v3 v683), ∀ a x, ((![v3, v683] : Fin 2 → IVec S16 32) a x).toNat < S16x1024.size a := fun v3 v683 k1_hw250 => k1_hw250

def k1_chk251 (v3 : IVec S16 32) (v687 : IVec S16 32) : Prop :=
  (∀ a x, ((![v3, v687] : Fin 2 → IVec S16 32) a x).toNat < S16x1024.size a)
theorem k1_idx251_inb : ∀ (v3 : IVec S16 32) (v687 : IVec S16 32) (k1_hw251 : k1_chk251 v3 v687), ∀ a x, ((![v3, v687] : Fin 2 → IVec S16 32) a x).toNat < S16x1024.size a := fun v3 v687 k1_hw251 => k1_hw251

def k1_chk252 (v3 : IVec S16 32) (v691 : IVec S16 32) : Prop :=
  (∀ a x, ((![v3, v691] : Fin 2 → IVec S16 32) a x).toNat < S16x1024.size a)
theorem k1_idx252_inb : ∀ (v3 : IVec S16 32) (v691 : IVec S16 32) (k1_hw252 : k1_chk252 v3 v691), ∀ a x, ((![v3, v691] : Fin 2 → IVec S16 32) a x).toNat < S16x1024.size a := fun v3 v691 k1_hw252 => k1_hw252

def k1_chk253 (v3 : IVec S16 32) (v695 : IVec S16 32) : Prop :=
  (∀ a x, ((![v3, v695] : Fin 2 → IVec S16 32) a x).toNat < S16x1024.size a)
theorem k1_idx253_inb : ∀ (v3 : IVec S16 32) (v695 : IVec S16 32) (k1_hw253 : k1_chk253 v3 v695), ∀ a x, ((![v3, v695] : Fin 2 → IVec S16 32) a x).toNat < S16x1024.size a := fun v3 v695 k1_hw253 => k1_hw253

def k1_chk254 (v3 : IVec S16 32) (v699 : IVec S16 32) : Prop :=
  (∀ a x, ((![v3, v699] : Fin 2 → IVec S16 32) a x).toNat < S16x1024.size a)
theorem k1_idx254_inb : ∀ (v3 : IVec S16 32) (v699 : IVec S16 32) (k1_hw254 : k1_chk254 v3 v699), ∀ a x, ((![v3, v699] : Fin 2 → IVec S16 32) a x).toNat < S16x1024.size a := fun v3 v699 k1_hw254 => k1_hw254

def k1_chk255 (v3 : IVec S16 32) (v703 : IVec S16 32) : Prop :=
  (∀ a x, ((![v3, v703] : Fin 2 → IVec S16 32) a x).toNat < S16x1024.size a)
theorem k1_idx255_inb : ∀ (v3 : IVec S16 32) (v703 : IVec S16 32) (k1_hw255 : k1_chk255 v3 v703), ∀ a x, ((![v3, v703] : Fin 2 → IVec S16 32) a x).toNat < S16x1024.size a := fun v3 v703 k1_hw255 => k1_hw255

def k1_chk256 (v3 : IVec S16 32) (v707 : IVec S16 32) : Prop :=
  (∀ a x, ((![v3, v707] : Fin 2 → IVec S16 32) a x).toNat < S16x1024.size a)
theorem k1_idx256_inb : ∀ (v3 : IVec S16 32) (v707 : IVec S16 32) (k1_hw256 : k1_chk256 v3 v707), ∀ a x, ((![v3, v707] : Fin 2 → IVec S16 32) a x).toNat < S16x1024.size a := fun v3 v707 k1_hw256 => k1_hw256
@[reducible] def k1_t47_loop : Scf.Loop 32 :=
  let c0_i32_433 : BitVec 32 := 0#32
  let c8_i32_434 : BitVec 32 := 8#32
  let v709 : BitVec 32 := Scalar.addi c0_i32_433 c8_i32_434
  let c1_i32_435 : BitVec 32 := 1#32
  ⟨c0_i32_433, v709, c1_i32_435⟩
@[reducible] def k1_t48_loop : Scf.Loop 32 :=
  let c0_i32_437 : BitVec 32 := 0#32
  let c8_i32_438 : BitVec 32 := 8#32
  let v727 : BitVec 32 := Scalar.addi c0_i32_437 c8_i32_438
  let c1_i32_439 : BitVec 32 := 1#32
  ⟨c0_i32_437, v727, c1_i32_439⟩
def k1_off3 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_400 : BitVec 32 := 16#32
  let v644 : BitVec 32 := Scalar.muli v1 c16_i32_400
  let c0_i32_401_r0 : BitVec 32 := 0#32
  ![v644.toNat, 0]
abbrev grid2 : Pipeline.Grid := ⟨2, ![8, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x256x3 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1024x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x256x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x256x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x1024x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x256x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 1 → Memref sig .tc .vmem S256x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S256x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 2 → Memref sig .tc .vmem S1x256x256 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x1024x3 : Shape := ⟨3, ![8, 1024, 3]⟩
abbrev S8x256x1024 : Shape := ⟨3, ![8, 256, 1024]⟩
abbrev S8x1024x256 : Shape := ⟨3, ![8, 1024, 256]⟩
abbrev S256x256 : Shape := ⟨2, ![256, 256]⟩
abbrev S256 : Shape := ⟨1, ![256]⟩
abbrev S8x3x1024 : Shape := ⟨3, ![8, 3, 1024]⟩
abbrev S8x1024x1024 : Shape := ⟨3, ![8, 1024, 1024]⟩
abbrev S_ : Shape := ⟨0, ![]⟩
abbrev S8x1024 : Shape := ⟨2, ![8, 1024]⟩
abbrev S8x1x1024 : Shape := ⟨3, ![8, 1, 1024]⟩
abbrev S8x1024x1 : Shape := ⟨3, ![8, 1024, 1]⟩
abbrev S8x1024x16 : Shape := ⟨3, ![8, 1024, 16]⟩
abbrev S8 : Shape := ⟨1, ![8]⟩
abbrev S8x1x1 : Shape := ⟨3, ![8, 1, 1]⟩
abbrev S131072 : Shape := ⟨1, ![131072]⟩
abbrev S8192x256 : Shape := ⟨2, ![8192, 256]⟩
abbrev S131072x1 : Shape := ⟨2, ![131072, 1]⟩
abbrev S1 : Shape := ⟨1, ![1]⟩
abbrev S1x1 : Shape := ⟨2, ![1, 1]⟩
abbrev S131072x256 : Shape := ⟨2, ![131072, 256]⟩
abbrev S8x1024x16x256 : Shape := ⟨4, ![8, 1024, 16, 256]⟩
abbrev S8x1024x1x256 : Shape := ⟨4, ![8, 1024, 1, 256]⟩
abbrev S8192x16x256 : Shape := ⟨3, ![8192, 16, 256]⟩
abbrev S1x256 : Shape := ⟨2, ![1, 256]⟩
abbrev S8192x1x256 : Shape := ⟨3, ![8192, 1, 256]⟩
abbrev S8192x256x16 : Shape := ⟨3, ![8192, 256, 16]⟩
abbrev S1x256x1 : Shape := ⟨3, ![1, 256, 1]⟩
abbrev S8192x1x16 : Shape := ⟨3, ![8192, 1, 16]⟩
abbrev S8192x1 : Shape := ⟨2, ![8192, 1]⟩
abbrev S8192x1x1 : Shape := ⟨3, ![8192, 1, 1]⟩

abbrev nBuf : Space → Nat
  | .hbm => 130
  | .vmem => 0
  | .smem => 0
  | _ => 0

abbrev hbmTy0_0 (i : Nat) : BufTy := match i % 128 with
  | 0 => ⟨S8x1024x3, .f32⟩
  | 1 => ⟨S8x256x1024, .f32⟩
  | 2 => ⟨S8x1024x256, .f32⟩
  | 3 => ⟨S256x256, .f32⟩
  | 4 => ⟨S256, .f32⟩
  | 5 => ⟨S256x256, .f32⟩
  | 6 => ⟨S256, .f32⟩
  | 7 => ⟨S8x3x1024, .f32⟩
  | 8 => ⟨S8x1024x3, .f32⟩
  | 9 => ⟨S8x1024x1024, .f32⟩
  | 10 => ⟨S_, .f32⟩
  | 11 => ⟨S8x1024x1024, .f32⟩
  | 12 => ⟨S8x1024x1024, .f32⟩
  | 13 => ⟨S8x3x1024, .f32⟩
  | 14 => ⟨S_, .f32⟩
  | 15 => ⟨S8x1024, .f32⟩
  | 16 => ⟨S8x1x1024, .f32⟩
  | 17 => ⟨S8x1x1024, .f32⟩
  | 18 => ⟨S8x1024x1024, .f32⟩
  | 19 => ⟨S8x1024x1024, .f32⟩
  | 20 => ⟨S8x1024x1, .f32⟩
  | 21 => ⟨S8x1024x1024, .f32⟩
  | 22 => ⟨S8x1024x1024, .f32⟩
  | 23 => ⟨S8x1024x16, .f32⟩
  | 24 => ⟨S8x1024x16, .i32⟩
  | 25 => ⟨S8, .i32⟩
  | 26 => ⟨S_, .i32⟩
  | 27 => ⟨S8, .i32⟩
  | 28 => ⟨S8, .i32⟩
  | 29 => ⟨S8x1x1, .i32⟩
  | 30 => ⟨S8x1024x16, .i32⟩
  | 31 => ⟨S8x1024x16, .i32⟩
  | 32 => ⟨S131072, .i32⟩
  | 33 => ⟨S8192x256, .f32⟩
  | 34 => ⟨S_, .i32⟩
  | 35 => ⟨S131072, .i32⟩
  | 36 => ⟨S131072, .i1⟩
  | 37 => ⟨S_, .i32⟩
  | 38 => ⟨S131072, .i32⟩
  | 39 => ⟨S131072, .i32⟩
  | 40 => ⟨S131072, .i32⟩
  | 41 => ⟨S131072x1, .i32⟩
  | 42 => ⟨S1, .i32⟩
  | 43 => ⟨S_, .i32⟩
  | 44 => ⟨S131072x1, .i32⟩
  | 45 => ⟨S131072x1, .i1⟩
  | 46 => ⟨S1x1, .i32⟩
  | 47 => ⟨S131072x1, .i32⟩
  | 48 => ⟨S131072x1, .i1⟩
  | 49 => ⟨S131072x1, .i1⟩
  | 50 => ⟨S_, .i1⟩
  | 51 => ⟨S131072, .i1⟩
  | 52 => ⟨S131072x256, .f32⟩
  | 53 => ⟨S131072x256, .i1⟩
  | 54 => ⟨S_, .f32⟩
  | 55 => ⟨S131072x256, .f32⟩
  | 56 => ⟨S131072x256, .f32⟩
  | 57 => ⟨S8x1024x16x256, .f32⟩
  | 58 => ⟨S8x1024x256, .f32⟩
  | 59 => ⟨S8, .i32⟩
  | 60 => ⟨S_, .i32⟩
  | 61 => ⟨S8, .i32⟩
  | 62 => ⟨S8, .i32⟩
  | 63 => ⟨S8x1x1, .i32⟩
  | 64 => ⟨S8x1024x16, .i32⟩
  | 65 => ⟨S8x1024x16, .i32⟩
  | 66 => ⟨S131072, .i32⟩
  | 67 => ⟨S8192x256, .f32⟩
  | 68 => ⟨S_, .i32⟩
  | 69 => ⟨S131072, .i32⟩
  | 70 => ⟨S131072, .i1⟩
  | 71 => ⟨S_, .i32⟩
  | 72 => ⟨S131072, .i32⟩
  | 73 => ⟨S131072, .i32⟩
  | 74 => ⟨S131072, .i32⟩
  | 75 => ⟨S131072x1, .i32⟩
  | 76 => ⟨S1, .i32⟩
  | 77 => ⟨S_, .i32⟩
  | 78 => ⟨S131072x1, .i32⟩
  | 79 => ⟨S131072x1, .i1⟩
  | 80 => ⟨S1x1, .i32⟩
  | 81 => ⟨S131072x1, .i32⟩
  | 82 => ⟨S131072x1, .i1⟩
  | 83 => ⟨S131072x1, .i1⟩
  | 84 => ⟨S_, .i1⟩
  | 85 => ⟨S131072, .i1⟩
  | 86 => ⟨S131072x256, .f32⟩
  | 87 => ⟨S131072x256, .i1⟩
  | 88 => ⟨S_, .f32⟩
  | 89 => ⟨S131072x256, .f32⟩
  | 90 => ⟨S131072x256, .f32⟩
  | 91 => ⟨S8x1024x16x256, .f32⟩
  | 92 => ⟨S8x1024x1x256, .f32⟩
  | 93 => ⟨S8x1024x16x256, .f32⟩
  | 94 => ⟨S8x1024x16x256, .f32⟩
  | 95 => ⟨S8192x16x256, .f32⟩
  | 96 => ⟨S8192x16x256, .f32⟩
  | 97 => ⟨S8192x256, .f32⟩
  | 98 => ⟨S256x256, .f32⟩
  | 99 => ⟨S8192x256, .f32⟩
  | 100 => ⟨S1x256, .f32⟩
  | 101 => ⟨S8192x256, .f32⟩
  | 102 => ⟨S8192x256, .f32⟩
  | 103 => ⟨S8192x1x256, .f32⟩
  | 104 => ⟨S8192x16x256, .f32⟩
  | 105 => ⟨S8192x256x16, .f32⟩
  | 106 => ⟨S1x256x1, .f32⟩
  | 107 => ⟨S8192x256x16, .f32⟩
  | 108 => ⟨S8192x256x16, .f32⟩
  | 109 => ⟨S8192x1x16, .f32⟩
  | 110 => ⟨S_, .f32⟩
  | 111 => ⟨S8192x1x16, .f32⟩
  | 112 => ⟨S8192x1x16, .f32⟩
  | 113 => ⟨S_, .f32⟩
  | 114 => ⟨S8192x1, .f32⟩
  | 115 => ⟨S_, .f32⟩
  | 116 => ⟨S8192x1, .f32⟩
  | 117 => ⟨S8192x1, .f32⟩
  | 118 => ⟨S8192x1x1, .f32⟩
  | 119 => ⟨S8192x1x16, .f32⟩
  | 120 => ⟨S8192x1x16, .f32⟩
  | 121 => ⟨S8192x1x16, .f32⟩
  | 122 => ⟨S_, .f32⟩
  | 123 => ⟨S8192x1, .f32⟩
  | 124 => ⟨S8192x1x1, .f32⟩
  | 125 => ⟨S8192x1x16, .f32⟩
  | 126 => ⟨S8192x1x16, .f32⟩
  | 127 => ⟨S8192x1x256, .f32⟩
  | _ => ⟨S8x1024x3, .f32⟩

abbrev hbmTy0_1 (i : Nat) : BufTy := match i % 128 with
  | 0 => ⟨S8x1024x256, .f32⟩
  | 1 => ⟨S8x256x1024, .f32⟩
  | _ => ⟨S8x1024x3, .f32⟩

abbrev hbmTy (i : Nat) : BufTy := match i / 128 with
  | 0 => hbmTy0_0 i
  | 1 => hbmTy0_1 i
  | _ => ⟨S8x1024x3, .f32⟩

abbrev bufTy : (tb : Table) → Fin (tcTables nBuf tb) → BufTy
  | .hbm, ⟨i, _⟩ => hbmTy i
  | _, _ => ⟨S8x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_values : Ref sig .tc := ⟨.hbm, 23, rfl⟩
abbrev main_indices : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_c : Ref sig .tc := ⟨.hbm, 34, rfl⟩
abbrev main_call0_v0 : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_c_1 : Ref sig .tc := ⟨.hbm, 42, rfl⟩
abbrev main_call0_c_2 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_3 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_call0_cst : Ref sig .tc := ⟨.hbm, 54, rfl⟩
abbrev main_call0_v15 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_c_1 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_call1_c : Ref sig .tc := ⟨.hbm, 68, rfl⟩
abbrev main_call1_v0 : Ref sig .tc := ⟨.hbm, 69, rfl⟩
abbrev main_call1_v1 : Ref sig .tc := ⟨.hbm, 70, rfl⟩
abbrev main_call1_c_0 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_c_1 : Ref sig .tc := ⟨.hbm, 76, rfl⟩
abbrev main_call1_c_2 : Ref sig .tc := ⟨.hbm, 77, rfl⟩
abbrev main_call1_v6 : Ref sig .tc := ⟨.hbm, 78, rfl⟩
abbrev main_call1_v7 : Ref sig .tc := ⟨.hbm, 79, rfl⟩
abbrev main_call1_v8 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_c_3 : Ref sig .tc := ⟨.hbm, 84, rfl⟩
abbrev main_call1_v12 : Ref sig .tc := ⟨.hbm, 85, rfl⟩
abbrev main_call1_v13 : Ref sig .tc := ⟨.hbm, 86, rfl⟩
abbrev main_call1_v14 : Ref sig .tc := ⟨.hbm, 87, rfl⟩
abbrev main_call1_cst : Ref sig .tc := ⟨.hbm, 88, rfl⟩
abbrev main_call1_v15 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_cst_2 : Ref sig .tc := ⟨.hbm, 110, rfl⟩
abbrev main_v53 : Ref sig .tc := ⟨.hbm, 111, rfl⟩
abbrev main_v54 : Ref sig .tc := ⟨.hbm, 112, rfl⟩
abbrev main_cst_3 : Ref sig .tc := ⟨.hbm, 113, rfl⟩
abbrev main_v55 : Ref sig .tc := ⟨.hbm, 114, rfl⟩
abbrev main_cst_4 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_cst_5 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩

abbrev nD : Nat := 1
abbrev τ : Topo := Topo.v7x

variable {F : FTy → Type} [FloatOps F]
-- ==== Proof.Network.lean ====
/-
  The sorting network of the kernel, as mathematics: sixteen values sorted by eight double rounds of an odd-even
  transposition network, the merge of two sorted lists of sixteen that keeps the sixteen greatest, and the sixteenth
  greatest of 1024 values as the least of what sixty-four such merges keep.
-/
module

public import Idealize.ShloMosaic.Lib.SortNet.TopkSpec
public import Idealize.ShloMosaic.Lib.SortFacts
public import Mathlib.Algebra.BigOperators.Fin
public import Mathlib.Algebra.Order.BigOperators.Group.Finset
public import Mathlib.Tactic.Ring
public import Mathlib.Tactic.Positivity

@[expose] public section

namespace Cert.Thresh

/-- The first half of a double round: the pairs (0, 1), (2, 3), …, the lesser value to the lower place. -/
def evens {α : Type} (mn mx : α → α → α) (a : Fin 16 → α) : Fin 16 → α :=
  ![mn (a 0) (a 1), mx (a 0) (a 1), mn (a 2) (a 3), mx (a 2) (a 3), mn (a 4) (a 5), mx (a 4) (a 5), mn (a 6) (a 7), mx (a 6) (a 7), mn (a 8) (a 9), mx (a 8) (a 9), mn (a 10) (a 11), mx (a 10) (a 11), mn (a 12) (a 13), mx (a 12) (a 13), mn (a 14) (a 15), mx (a 14) (a 15)]

/-- The second half: the pairs (1, 2), (3, 4), …, (13, 14). -/
def odds {α : Type} (mn mx : α → α → α) (a : Fin 16 → α) : Fin 16 → α :=
  ![a 0, mn (a 1) (a 2), mx (a 1) (a 2), mn (a 3) (a 4), mx (a 3) (a 4), mn (a 5) (a 6), mx (a 5) (a 6), mn (a 7) (a 8), mx (a 7) (a 8), mn (a 9) (a 10), mx (a 9) (a 10), mn (a 11) (a 12), mx (a 11) (a 12), mn (a 13) (a 14), mx (a 13) (a 14), a 15]

/-- Eight double rounds. -/
def sorted {α : Type} (mn mx : α → α → α) (a : Fin 16 → α) : Fin 16 → α :=
  (fun b => odds mn mx (evens mn mx b))^[8] a

section Hom

variable {α β : Type} {mn mx : α → α → α} {mn' mx' : β → β → β} (f : α → β)
  (hmn : ∀ x y, f (mn x y) = mn' (f x) (f y)) (hmx : ∀ x y, f (mx x y) = mx' (f x) (f y))

include hmn hmx

theorem evens_hom (a : Fin 16 → α) : evens mn' mx' (f ∘ a) = f ∘ evens mn mx a := by
  funext i; fin_cases i <;> simp [evens, hmn, hmx]

theorem odds_hom (a : Fin 16 → α) : odds mn' mx' (f ∘ a) = f ∘ odds mn mx a := by
  funext i; fin_cases i <;> simp [odds, hmn, hmx]

/-- The network commutes with every map that respects the two operations. -/
theorem sorted_hom (a : Fin 16 → α) : sorted mn' mx' (f ∘ a) = f ∘ sorted mn mx a := by
  unfold sorted
  generalize (8 : ℕ) = n
  induction n generalizing a with
  | zero => rfl
  | succ n ih =>
    rw [Function.iterate_succ_apply, Function.iterate_succ_apply, evens_hom f hmn hmx, odds_hom f hmn hmx, ih]

end Hom

/-! ## Truth tables

A natural number below `2 ^ 2 ^ m` is the truth table of a function of `m` truth values; `tab m i` is the table of the
`i`-th of them. The network run on the sixteen tables with `and` for the lesser and `or` for the greater is run on all
`2 ^ 16` inputs at once. -/

def tab : ℕ → ℕ → ℕ
  | 0, _ => 0
  | m + 1, i => if i < m then tab m i ||| (tab m i <<< 2 ^ m) else (2 ^ 2 ^ m - 1) <<< 2 ^ m

theorem tab_lt (m i : ℕ) : tab m i < 2 ^ 2 ^ m := by
  induction m with
  | zero => simp [tab]
  | succ m ih =>
    have hp : (2 : ℕ) ^ 2 ^ (m + 1) = 2 ^ 2 ^ m * 2 ^ 2 ^ m := by rw [← pow_add]; congr 1; rw [pow_succ]; ring
    have hs : ∀ y, y < 2 ^ 2 ^ m → y <<< 2 ^ m < 2 ^ 2 ^ (m + 1) := by
      intro y hy
      rw [Nat.shiftLeft_eq, hp]
      exact Nat.mul_lt_mul_of_pos_right hy (by positivity)
    unfold tab
    split
    · refine Nat.or_lt_two_pow (lt_of_lt_of_le ih ?_) (hs _ ih)
      exact Nat.pow_le_pow_right (by norm_num) (Nat.pow_le_pow_right (by norm_num) (Nat.le_succ m))
    · exact hs _ (Nat.sub_lt (by positivity) (by norm_num))

/-- Place `k` of the table of the `i`-th truth value is bit `i` of `k`. -/
theorem testBit_tab (m i k : ℕ) (hi : i < m) (hk : k < 2 ^ m) : (tab m i).testBit k = k.testBit i := by
  induction m generalizing k with
  | zero => omega
  | succ m ih =>
    unfold tab
    by_cases him : i < m
    · rw [if_pos him, Nat.testBit_or, Nat.testBit_shiftLeft]
      by_cases hkm : k < 2 ^ m
      · rw [ih k him hkm]
        simp [Nat.not_le.mpr hkm]
      · have hkm' : 2 ^ m ≤ k := Nat.not_lt.mp hkm
        have h0 : (tab m i).testBit k = false :=
          Nat.testBit_lt_two_pow (lt_of_lt_of_le (tab_lt m i) (Nat.pow_le_pow_right (by norm_num) hkm'))
        have hd : k - 2 ^ m < 2 ^ m := by rw [pow_succ] at hk; omega
        rw [h0, ih _ him hd]
        simp only [Bool.false_or, decide_eq_true hkm', Bool.true_and, ge_iff_le]
        obtain ⟨j, rfl⟩ := Nat.exists_eq_add_of_le hkm'
        rw [Nat.add_sub_cancel_left, Nat.testBit_two_pow_add_gt him]
    · have him' : i = m := by omega
      subst him'
      rw [if_neg him, Nat.testBit_shiftLeft, Nat.testBit_two_pow_sub_one]
      by_cases hkm : k < 2 ^ i
      · rw [Nat.testBit_lt_two_pow hkm]; simp [Nat.not_le.mpr hkm]
      · have hkm' : 2 ^ i ≤ k := Nat.not_lt.mp hkm
        have hd : k - 2 ^ i < 2 ^ i := by rw [pow_succ] at hk; omega
        obtain ⟨j, rfl⟩ := Nat.exists_eq_add_of_le hkm'
        have hj : j < 2 ^ i := by omega
        rw [Nat.testBit_two_pow_add_eq, Nat.testBit_lt_two_pow hj]
        simp [hj]

/-- On truth tables the network sorts: an output's table implies the next one's. -/
theorem sorted_tab : ∀ i : Fin 15, sorted (· &&& ·) (· ||| ·) (fun k : Fin 16 => tab 16 k) i.castSucc |||
    sorted (· &&& ·) (· ||| ·) (fun k : Fin 16 => tab 16 k) i.succ
      = sorted (· &&& ·) (· ||| ·) (fun k : Fin 16 => tab 16 k) i.succ := by
  decide +kernel

/-- So it sorts every list of sixteen truth values, … -/
theorem sorted_bool (b : Fin 16 → Bool) (i : Fin 15) :
    sorted and or b i.castSucc = true → sorted and or b i.succ = true := by
  have hb : b = (fun n : ℕ => n.testBit (Nat.ofBits b)) ∘ fun k : Fin 16 => tab 16 k := by
    funext k
    show b k = (tab 16 k).testBit (Nat.ofBits b)
    rw [testBit_tab 16 k _ k.isLt (Nat.ofBits_lt_two_pow b), Nat.testBit_ofBits_lt b k k.isLt]
  rw [hb, sorted_hom (mn := (· &&& ·)) (mx := (· ||| ·)) (fun n : ℕ => n.testBit (Nat.ofBits b))
    (fun x y => Nat.testBit_and x y _) (fun x y => Nat.testBit_or x y _)]
  intro h
  have h' := congrArg (fun n : ℕ => n.testBit (Nat.ofBits b)) (sorted_tab i)
  simp only [Nat.testBit_or] at h'
  simp only [Function.comp_apply] at h ⊢
  rw [h] at h'
  simpa using h'.symm

section Order

variable {α : Type} [LinearOrder α]

/-- … and, by thresholds, every list of sixteen values of a linear order. -/
theorem sorted_mono (a : Fin 16 → α) : Monotone (sorted min max a) := by
  refine Fin.monotone_iff_le_succ.mpr fun i => ?_
  set c := sorted min max a i.castSucc with hc
  have e := sorted_hom (mn := min) (mx := max) (mn' := and) (mx' := or) (fun x : α => decide (c ≤ x))
    (fun x y => by simp [le_min_iff]) (fun x y => by simp [le_max_iff]) a
  have h := sorted_bool ((fun x : α => decide (c ≤ x)) ∘ a) i
  rw [e] at h
  simp only [Function.comp_apply, decide_eq_true_eq] at h
  exact h (le_of_eq hc)

/-! ## Counting the values at least `c` -/

/-- One if the value is at least `c`, else nothing. -/
def ind (c x : α) : ℕ := if c ≤ x then 1 else 0

/-- How many of the sixteen values are at least `c`. -/
def cnt (c : α) (a : Fin 16 → α) : ℕ := ∑ i, ind c (a i)

theorem pair_cnt (c x y : α) : ind c (min x y) + ind c (max x y) = ind c x + ind c y := by
  by_cases hx : c ≤ x <;> by_cases hy : c ≤ y <;> simp [ind, le_min_iff, le_max_iff, hx, hy]

theorem cnt_evens (c : α) (a : Fin 16 → α) : cnt c (evens min max a) = cnt c a := by
  have h := fun i j : Fin 16 => pair_cnt c (a i) (a j)
  have h0 := h 0 1; have h1 := h 2 3; have h2 := h 4 5; have h3 := h 6 7
  have h4 := h 8 9; have h5 := h 10 11; have h6 := h 12 13; have h7 := h 14 15
  simp only [cnt, Fin.sum_univ_castSucc, Fin.sum_univ_zero]
  simp only [evens]
  simp only [Fin.reduceLast, Fin.reduceCastSucc, Fin.isValue, Matrix.cons_val]
  omega

theorem cnt_odds (c : α) (a : Fin 16 → α) : cnt c (odds min max a) = cnt c a := by
  have h := fun i j : Fin 16 => pair_cnt c (a i) (a j)
  have h1 := h 1 2; have h2 := h 3 4; have h3 := h 5 6
  have h4 := h 7 8; have h5 := h 9 10; have h6 := h 11 12; have h7 := h 13 14
  simp only [cnt, Fin.sum_univ_castSucc, Fin.sum_univ_zero]
  simp only [odds]
  simp only [Fin.reduceLast, Fin.reduceCastSucc, Fin.isValue, Matrix.cons_val]
  omega

/-- Sorting keeps the counts. -/
theorem cnt_sorted (c : α) (a : Fin 16 → α) : cnt c (sorted min max a) = cnt c a := by
  unfold sorted
  generalize (8 : ℕ) = n
  induction n generalizing a with
  | zero => rfl
  | succ n ih => rw [Function.iterate_succ_apply, ih, cnt_odds, cnt_evens]

/-- Of a sorted list the values at least `c` are the last `p`. -/
theorem exists_cut (c : α) (a : Fin 16 → α) (ha : Monotone a) :
    ∃ p : Fin 17, ∀ i : Fin 16, c ≤ a i ↔ 16 ≤ i.val + p.val := by
  by_cases h : ∃ n : ℕ, ∃ hn : n < 16, c ≤ a ⟨n, hn⟩
  · classical
    obtain ⟨hn, hc⟩ := Nat.find_spec h
    refine ⟨⟨16 - Nat.find h, by omega⟩, fun i => ⟨fun hi => ?_, fun hi => ?_⟩⟩
    · have := Nat.find_min' h ⟨i.isLt, hi⟩
      show 16 ≤ i.val + (16 - Nat.find h)
      omega
    · have hi' : 16 ≤ i.val + (16 - Nat.find h) := hi
      exact hc.trans (ha (by show Nat.find h ≤ i.val; omega))
  · refine ⟨0, fun i => ⟨fun hi => absurd ⟨i.val, i.isLt, hi⟩ h, fun hi => ?_⟩⟩
    have : 16 ≤ i.val + 0 := hi
    omega

theorem cut_sum : ∀ p : Fin 17, (∑ i : Fin 16, if 16 ≤ i.val + p.val then 1 else 0) = p.val := by decide +kernel

theorem cut_merge : ∀ p q : Fin 17, (∑ i : Fin 16, if 16 ≤ i.val + p.val ∨ 16 ≤ (15 - i : Fin 16).val + q.val then 1 else 0)
    = min 16 (p.val + q.val) := by decide +kernel

/-- Two sorted lists of sixteen, one against the other reversed: the greater of each pair are the sixteen greatest. -/
def merged (t x : Fin 16 → α) : Fin 16 → α := fun i => max (t i) (x (15 - i))

theorem cnt_merged (c : α) (t x : Fin 16 → α) (ht : Monotone t) (hx : Monotone x) :
    cnt c (merged t x) = min 16 (cnt c t + cnt c x) := by
  obtain ⟨p, hp⟩ := exists_cut c t ht
  obtain ⟨q, hq⟩ := exists_cut c x hx
  have e1 : cnt c t = p.val := by rw [← cut_sum p]; exact Finset.sum_congr rfl fun i _ => by simp only [ind, hp]
  have e2 : cnt c x = q.val := by rw [← cut_sum q]; exact Finset.sum_congr rfl fun i _ => by simp only [ind, hq]
  rw [e1, e2, ← cut_merge p q]
  exact Finset.sum_congr rfl fun i _ => by simp only [ind, merged, le_max_iff, hp, hq]

/-- The registers after `k` batches, from `t`. -/
def kept (x : ℕ → Fin 16 → α) (t : Fin 16 → α) : ℕ → Fin 16 → α
  | 0 => t
  | k + 1 => sorted min max (merged (kept x t k) (sorted min max (x k)))

theorem kept_mono (x : ℕ → Fin 16 → α) (t : Fin 16 → α) (ht : Monotone t) : ∀ k, Monotone (kept x t k)
  | 0 => ht
  | _ + 1 => sorted_mono _

theorem cnt_kept (x : ℕ → Fin 16 → α) (t : Fin 16 → α) (ht : Monotone t) (c : α) (k : ℕ) :
    min 16 (cnt c (kept x t k)) = min 16 (cnt c t + ∑ j ∈ Finset.range k, cnt c (x j)) := by
  induction k with
  | zero => simp [kept]
  | succ k ih =>
    rw [kept, cnt_sorted, cnt_merged c _ _ (kept_mono x t ht k) (sorted_mono _), cnt_sorted, Finset.sum_range_succ]
    omega

theorem cnt_le (c : α) (a : Fin 16 → α) : cnt c a ≤ 16 := by
  refine (Finset.sum_le_card_nsmul _ _ 1 fun i _ => ?_).trans (by simp)
  unfold ind; split <;> simp

theorem cnt_eq_iff (c : α) (a : Fin 16 → α) : 16 ≤ cnt c a ↔ ∀ i, c ≤ a i := by
  constructor
  · intro h i
    by_contra hi
    have : cnt c a < ∑ _i : Fin 16, 1 := Finset.sum_lt_sum (fun j _ => by unfold ind; split <;> simp) ⟨i, Finset.mem_univ _, by simp [ind, hi]⟩
    simp at this
    omega
  · intro h
    simp [cnt, ind, h]

/-- The least of the sixteen registers, in the kernel's order of association. -/
def least (a : Fin 16 → α) : α :=
  min (min (min (min (min (min (min (min (min (min (min (min (min (min (min (a 0) (a 1)) (a 2)) (a 3)) (a 4)) (a 5)) (a 6)) (a 7))
    (a 8)) (a 9)) (a 10)) (a 11)) (a 12)) (a 13)) (a 14)) (a 15)

theorem le_least (c : α) (a : Fin 16 → α) : c ≤ least a ↔ ∀ i, c ≤ a i := by
  simp only [least, le_min_iff]
  constructor
  · intro h i
    fin_cases i <;> simp_all
  · intro h
    simp [h]

/-- Of `n` values read in descending order along `σ`, value 15 is at least `c` exactly if sixteen of them are. -/
theorem le_rank {n : ℕ} (hn : 15 < n) (y : Fin n → α) (σ : Fin n → Fin n) (hσ : Function.Bijective σ)
    (hd : ∀ i j, i < j → y (σ j) ≤ y (σ i)) (c : α) :
    c ≤ y (σ ⟨15, hn⟩) ↔ 16 ≤ ∑ j, ind c (y j) := by
  have e : (∑ j, ind c (y j)) = ∑ k, ind c (y (σ k)) :=
    (Function.Bijective.sum_comp hσ fun j => ind c (y j)).symm
  rw [e]
  simp only [ind]
  rw [← Finset.card_filter]
  constructor
  · intro h
    have hsub : (Finset.univ.filter fun k : Fin n => k ≤ ⟨15, hn⟩) ⊆ Finset.univ.filter fun k => c ≤ y (σ k) := by
      intro k hk
      simp only [Finset.mem_filter, Finset.mem_univ, true_and] at hk ⊢
      rcases hk.lt_or_eq with h1 | h1
      · exact h.trans (hd _ _ h1)
      · rw [h1]; exact h
    refine le_trans (le_of_eq ?_) (Finset.card_le_card hsub)
    have : (Finset.univ.filter fun k : Fin n => k ≤ ⟨15, hn⟩) = Finset.Iic ⟨15, hn⟩ := by ext; simp
    rw [this, Fin.card_Iic]
  · intro h
    by_contra hc
    have hsub : (Finset.univ.filter fun k => c ≤ y (σ k)) ⊆ Finset.Iio ⟨15, hn⟩ := by
      intro k hk
      simp only [Finset.mem_filter, Finset.mem_univ, true_and, Finset.mem_Iio] at hk ⊢
      by_contra hk'
      rcases (not_lt.mp hk').lt_or_eq with h1 | h1
      · exact hc (hk.trans (hd _ _ h1))
      · rw [← h1] at hk; exact hc hk
    have := Finset.card_le_card hsub
    rw [Fin.card_Iio] at this
    simp at this
    omega

/-- THE THRESHOLD. Of 1024 values taken in sixty-four batches of sixteen, the least that the merges keep, starting from
    the least element of the order, is the sixteenth in descending order. -/
theorem least_kept_eq [OrderBot α] (y : Fin 1024 → α) (x : ℕ → Fin 16 → α)
    (hx : ∀ (j : Fin 64) (i : Fin 16), x j.val i = y ⟨16 * j.val + i.val, by omega⟩)
    (σ : Fin 1024 → Fin 1024) (hσ : Function.Bijective σ) (hd : ∀ i j, i < j → y (σ j) ≤ y (σ i)) :
    least (kept x (fun _ => ⊥) 64) = y (σ 15) := by
  refine eq_of_forall_le_iff fun c => ?_
  rw [show (15 : Fin 1024) = ⟨15, by omega⟩ from rfl, le_rank (by omega) y σ hσ hd c, le_least, ← cnt_eq_iff]
  have hk := cnt_kept x (fun _ => ⊥) monotone_const c 64
  have hs : ∑ j ∈ Finset.range 64, cnt c (x j) = ∑ n, ind c (y n) := by
    rw [← Fin.sum_univ_eq_sum_range (fun j => cnt c (x j)) 64, ← (finProdFinEquiv (m := 64) (n := 16)).sum_comp,
      Fintype.sum_prod_type]
    refine Finset.sum_congr rfl fun j _ => Finset.sum_congr rfl fun i _ => ?_
    rw [hx]
    have : (⟨16 * j.val + i.val, by omega⟩ : Fin 1024) = finProdFinEquiv (j, i) := by
      ext; simp [finProdFinEquiv]; omega
    rw [this]
  rw [hs] at hk
  by_cases hc : c = ⊥
  · subst hc
    have h1 : (∑ n : Fin 1024, ind (⊥ : α) (y n)) = 1024 := by simp [ind]
    rw [h1] at hk ⊢
    have h2 := cnt_le (⊥ : α) (kept x (fun _ => ⊥) 64)
    omega
  · have h0 : cnt c (fun _ => (⊥ : α)) = 0 := by simp [cnt, ind, hc]
    rw [h0] at hk
    omega

end Order

end Cert.Thresh
-- ==== Proof.Regs.lean ====
/-
  The sixteen registers of a tile: the pure functions the kernel computes on them, a trip of its batch loop, the loop and the
  threshold vector, over any float values; and, at the ideal values, what each lane of them is in the network's mathematics.
-/
module

public import proofs.«01_k».proof.Defs
public import proofs.«01_k».proof.Proof.Network
public import Idealize.ShloMosaic.Lib.Exec
public import Idealize.ShloMosaic.Lib.Tactic

@[expose] public section

noncomputable section

namespace Cert.Thresh

open Cert.KernelIdeal
open Idealize.ShloMosaic

variable {F : FTy → Type}

/-- Sixteen registers of sixteen lanes. -/
abbrev Regs (F : FTy → Type) : Type :=
  FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32

/-- Register `i`. -/
def reg (r : Regs F) : Fin 16 → FVec F S16 .f32 :=
  ![r.1, r.2.1, r.2.2.1, r.2.2.2.1, r.2.2.2.2.1, r.2.2.2.2.2.1, r.2.2.2.2.2.2.1, r.2.2.2.2.2.2.2.1, r.2.2.2.2.2.2.2.2.1, r.2.2.2.2.2.2.2.2.2.1, r.2.2.2.2.2.2.2.2.2.2.1, r.2.2.2.2.2.2.2.2.2.2.2.1, r.2.2.2.2.2.2.2.2.2.2.2.2.1, r.2.2.2.2.2.2.2.2.2.2.2.2.2.1, r.2.2.2.2.2.2.2.2.2.2.2.2.2.2.1, r.2.2.2.2.2.2.2.2.2.2.2.2.2.2.2]

/-- Column `n` of the tile's block: one value of each of its sixteen rows. -/
def col (x : Vec F S16x1024 .f32) (n : ℕ) : FVec F S16 .f32 :=
  fun l => x fun a => match a with | 0 => l 0 | 1 => ⟨n % 1024, Nat.mod_lt _ (by decide)⟩

/-- The sixteen columns of batch `j`. -/
def cols (x : Vec F S16x1024 .f32) (j : ℕ) : Regs F :=
  (col x (16 * j + 0), col x (16 * j + 1), col x (16 * j + 2), col x (16 * j + 3), col x (16 * j + 4), col x (16 * j + 5), col x (16 * j + 6), col x (16 * j + 7), col x (16 * j + 8), col x (16 * j + 9), col x (16 * j + 10), col x (16 * j + 11), col x (16 * j + 12), col x (16 * j + 13), col x (16 * j + 14), col x (16 * j + 15))

section Ops

variable [FloatOps F]

/-- One double round of the sorting network, on registers. -/
def passR : Regs F → Regs F := fun (a0, a1, a2, a3, a4, a5, a6, a7, a8, a9, a10, a11, a12, a13, a14, a15) =>
   (minimumf a0 a1,
    minimumf (maximumf a0 a1) (minimumf a2 a3),
    maximumf (maximumf a0 a1) (minimumf a2 a3),
    minimumf (maximumf a2 a3) (minimumf a4 a5),
    maximumf (maximumf a2 a3) (minimumf a4 a5),
    minimumf (maximumf a4 a5) (minimumf a6 a7),
    maximumf (maximumf a4 a5) (minimumf a6 a7),
    minimumf (maximumf a6 a7) (minimumf a8 a9),
    maximumf (maximumf a6 a7) (minimumf a8 a9),
    minimumf (maximumf a8 a9) (minimumf a10 a11),
    maximumf (maximumf a8 a9) (minimumf a10 a11),
    minimumf (maximumf a10 a11) (minimumf a12 a13),
    maximumf (maximumf a10 a11) (minimumf a12 a13),
    minimumf (maximumf a12 a13) (minimumf a14 a15),
    maximumf (maximumf a12 a13) (minimumf a14 a15),
    maximumf a14 a15)

/-- Eight double rounds. -/
def sortR (r : Regs F) : Regs F := passR^[8] r

/-- The merge of two sorted lists of registers. -/
def mergeR : Regs F → Regs F → Regs F := fun (a0, a1, a2, a3, a4, a5, a6, a7, a8, a9, a10, a11, a12, a13, a14, a15) (b0, b1, b2, b3, b4, b5, b6, b7, b8, b9, b10, b11, b12, b13, b14, b15) =>
  (maximumf a0 b15, maximumf a1 b14, maximumf a2 b13, maximumf a3 b12, maximumf a4 b11, maximumf a5 b10, maximumf a6 b9, maximumf a7 b8, maximumf a8 b7, maximumf a9 b6, maximumf a10 b5, maximumf a11 b4, maximumf a12 b3, maximumf a13 b2, maximumf a14 b1, maximumf a15 b0)

/-- A trip of the batch loop. -/
def tripR (x : Vec F S16x1024 .f32) (j : ℕ) (r : Regs F) : Regs F := sortR (mergeR r (sortR (cols x j)))

/-- The registers after `k` trips, from −∞ everywhere. -/
def keptR (x : Vec F S16x1024 .f32) : ℕ → Regs F
  | 0 => (botV, botV, botV, botV, botV, botV, botV, botV, botV, botV, botV, botV, botV, botV, botV, botV)
  | k + 1 => tripR x k (keptR x k)
where
  /-- −∞ in every lane. -/
  botV : FVec F S16 .f32 := broadcast S16 (Scalar.ofBits .f32 0xFF800000#32)

/-- The least of the sixteen registers. -/
def leastR : Regs F → FVec F S16 .f32 := fun (a0, a1, a2, a3, a4, a5, a6, a7, a8, a9, a10, a11, a12, a13, a14, a15) =>
  minimumf (minimumf (minimumf (minimumf (minimumf (minimumf (minimumf (minimumf (minimumf (minimumf (minimumf (minimumf (minimumf (minimumf (minimumf a0 a1) a2) a3) a4) a5) a6) a7) a8) a9) a10) a11) a12) a13) a14) a15

/-- The thresholds of a block of sixteen rows. -/
def thresh (x : Vec F S16x1024 .f32) : FVec F S16 .f32 := leastR (keptR x 64)

/-- The kernel's counted loop of eight trips is the eight double rounds. -/
theorem fold_pass (n : ℕ) (r : Regs F) : Scf.fold (n := n) (fun _ acc => passR acc) r = passR^[n] r := by
  rw [Scf.fold_eq]
  have h : ∀ (l : List (Fin n)) (r : Regs F), l.foldl (fun acc _ => passR acc) r = passR^[l.length] r := by
    intro l
    induction l with
    | nil => intro r; rfl
    | cons a l ih => intro r; rw [List.foldl_cons, ih, List.length_cons, Function.iterate_succ_apply]
  rw [h, List.length_finRange]

end Ops

/-! ## The lanes, at the ideal values -/

/-- Lane `l` of the sixteen registers. -/
def lane (r : Regs Ideal) (l : S16.Idx) : Fin 16 → EReal := fun i => reg r i l

theorem lane_pass (r : Regs Ideal) (l : S16.Idx) : lane (passR r) l = odds min max (evens min max (lane r l)) := by
  funext i; fin_cases i <;> rfl

theorem lane_sort (r : Regs Ideal) (l : S16.Idx) : lane (sortR r) l = sorted min max (lane r l) := by
  unfold sortR sorted
  generalize (8 : ℕ) = n
  induction n generalizing r with
  | zero => rfl
  | succ n ih => rw [Function.iterate_succ_apply, Function.iterate_succ_apply, ih, lane_pass]

theorem lane_merge (r s : Regs Ideal) (l : S16.Idx) : lane (mergeR r s) l = merged (lane r l) (lane s l) := by
  funext i; fin_cases i <;> rfl

theorem lane_bot (x : Vec Ideal S16x1024 .f32) (l : S16.Idx) : lane (keptR x 0) l = fun _ => ⊥ := by
  have h : (Scalar.ofBits .f32 0xFF800000#32 : Ideal .f32) = (⊥ : EReal) := by
    show Ideal.ofBits .f32 0xFF800000#32 = ⊥
    simp [Ideal.ofBits, Ideal.ieee]
  funext i; fin_cases i <;> exact h

theorem lane_kept (x : Vec Ideal S16x1024 .f32) (l : S16.Idx) (k : ℕ) :
    lane (keptR x k) l = kept (fun j => lane (cols x j) l) (fun _ => ⊥) k := by
  induction k with
  | zero => exact lane_bot x l
  | succ k ih => rw [keptR, tripR, lane_sort, lane_merge, lane_sort, ih, kept]

theorem least_lane (r : Regs Ideal) (l : S16.Idx) : leastR r l = least (lane r l) := rfl

theorem lane_cols (x : Vec Ideal S16x1024 .f32) (j : Fin 64) (l : S16.Idx) (i : Fin 16) :
    lane (cols x j) l i = x fun a => match a with | 0 => l 0 | 1 => ⟨16 * j.val + i.val, by show _ < 1024; omega⟩ := by
  have h : lane (cols x j) l i = col x (16 * j.val + i.val) l := by fin_cases i <;> rfl
  rw [h, col]
  congr 1; funext a
  match a with
  | 0 => rfl
  | 1 => exact Fin.ext (Nat.mod_eq_of_lt (by omega))

/-- THE THRESHOLDS: lane `l` is the sixteenth of row `l` of the block in descending order. -/
theorem thresh_eq (x : Vec Ideal S16x1024 .f32) (l : S16.Idx) (y : Fin 1024 → EReal)
    (hy : ∀ n : Fin 1024, y n = x fun a => match a with | 0 => l 0 | 1 => n)
    (σ : Fin 1024 → Fin 1024) (hσ : Function.Bijective σ) (hd : ∀ i j, i < j → y (σ j) ≤ y (σ i)) :
    thresh x l = y (σ 15) := by
  rw [thresh, least_lane, lane_kept]
  exact least_kept_eq y _ (fun j i => (lane_cols x j l i).trans (hy _).symm) σ hσ hd

end Cert.Thresh

end
-- ==== Proof.Trip.lean ====
/-
  A trip of the tile's batch loop: sixteen gathers out of the row buffer, the batch sorted, merged into the registers.
-/
module

public import proofs.«01_k».proof.Defs
public import proofs.«01_k».proof.Proof.Regs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Thresh

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev 𝒱₀ : Variants := Variants.none

/-- The handshakes' rounds, the pipelines' rounds and the transfers' counters. -/
abbrev UH : Type := URounds (GSem nD τ sig) ℕ
abbrev UU : Type := UH × (UR sig nD τ × Counters)

local notation "𝕄" => MT nD τ sig (HIx 1) (Elt F) ℕ UU ℕ

abbrev cV (L : grid1.Coords) : Fin τ.nSC := (L 0).castLE hcore1
abbrev jV (L : grid1.Coords) : Fin τ.nSub := (L 1).castLE hsub1

/-- The lane numbers, as the body makes them. -/
abbrev lanesV : IVec S16 32 := iota .scVector S16 32 [0] iota_S16_d0_w32_scVector

/-- The word of column `16 * k + c`, as a trip computes it. -/
abbrev colW (k : Fin k1_t1_loop.trips) (c : BitVec 32) : BitVec 32 :=
  Scalar.addi (Scalar.muli (Scf.iv 0#32 1#32 k) 16#32) c

theorem colW_toNat (k : Fin 64) (c : BitVec 32) (hc : c.toNat < 16) : (colW k c).toNat = 16 * k.val + c.toNat := by
  have h : ∀ (k : Fin 64) (n : Fin 16), (colW k (BitVec.ofNat 32 n.val)).toNat = 16 * k.val + n.val := by decide +kernel
  have := h k ⟨c.toNat, hc⟩
  rwa [BitVec.ofNat_toNat, BitVec.setWidth_eq] at this

theorem lanes_toNat : ∀ l : S16.Idx, (lanesV l).toNat = (l 0).val := by
  intro l
  simp [lanesV, iota]
  have h : (l 0).val < 16 := (l 0).isLt
  omega

/-- The indices a trip gathers at are inside the block, … -/
theorem chk_of {w : IVec S16 32} (k : Fin 64) (c : BitVec 32) (hw : w = broadcast S16 (colW k c)) (hc : c.toNat < 16) :
    ∀ a x, ((![lanesV, w] : Fin 2 → IVec S16 32) a x).toNat < S16x1024.size a := by
  intro a x
  subst hw
  match a with
  | 0 => exact lt_of_eq_of_lt (lanes_toNat x) (x 0).isLt
  | 1 => exact lt_of_eq_of_lt (colW_toNat k c hc) (by show _ < 1024; omega)

/-- … and what it gathers is a column. -/
theorem load_col (x : Vec F S16x1024 .f32) {w : IVec S16 32} (k : Fin 64) (c : BitVec 32) (hw : w = broadcast S16 (colW k c)) (hc : c.toNat < 16)
    (h : ∀ a y, ((![lanesV, w] : Fin 2 → IVec S16 32) a y).toNat < S16x1024.size a) :
    loadIdx x ![lanesV, w] h = col x (16 * k.val + c.toNat) := by
  funext l
  subst hw
  unfold loadIdx col
  congr 1; funext a
  match a with
  | 0 => exact Fin.ext (lanes_toNat l)
  | 1 => exact Fin.ext ((colW_toNat k c hc).trans (Nat.mod_eq_of_lt (by omega)).symm)

variable [FloatOps F]

section Trip

variable (d : Dev nD) (L : grid1.Coords)
  (arg2 : Memref sig .scVector .hbm S8192x1024 .f32) (harg2 : arg2.IsWhole) (arg3 : Memref sig .scVector .hbm S512x16 .f32) (harg3 : arg3.IsWhole)
  (arg4 : Memref sig .scVector .vmem S16x1024 .f32) (harg4 : arg4.IsWhole) (arg5 : Memref sig .scVector .vmem S16x1024 .f32) (harg5 : arg5.IsWhole)
  (arg6 : Memref sig .scVector .vmem S16x16 .f32) (harg6 : arg6.IsWhole) (arg7 : DmaSems sig S_) (arg8 : DmaSems sig S_) (arg9 : DmaSems sig S_)
  (v2 : BitVec 32) (u : Regs F)

set_option maxHeartbeats 4000000 in
theorem wp_trip (k : Fin k1_t1_loop.trips) (acc : Regs F) (f : Buf (Elt F) (arg4.view.loc (V d (cV L) (jV L)))) :
    (arg4.view.loc (V d (cV L) (jV L)) ↦{fullShare} f : sProp 𝕄)
      ⊢ wp frame (wpE (defs₀ (F := F)) 𝒱₀ (V d (cV L) (jV L)) none) Set.univ
          (k1_t1_body (F := F) L arg2 harg2 arg3 harg3 arg4 harg4 arg5 harg5 arg6 harg6 arg7 arg8 arg9 v2 lanesV
            u.1 u.1 u.1 u.1 u.1 u.1 u.1 u.1 u.1 u.1 u.1 u.1 u.1 u.1 u.1 u.1 0#32 k acc)
          fun r => iprop(⌜r = tripR (View.readAt (Elt F) arg4.view (LoadRect.whole S16x1024) f) k.val acc⌝ ∗ arg4.view.loc (V d (cV L) (jV L)) ↦{fullShare} f) := by
  obtain ⟨a0, a1, a2, a3, a4, a5, a6, a7, a8, a9, a10, a11, a12, a13, a14, a15⟩ := acc
  iintro H
  sl_unfold [k1_t1_body, k1_part1, SparseCore.vectorLoadIdx]
  sl_exec (disch := exact chk_of k _ rfl (by decide))
  sl_unfold [k1_part2, SparseCore.vectorLoadIdx]
  sl_exec (disch := exact chk_of k _ rfl (by decide))
  sl_step
  isplitr [H]
  swap; · iexact H
  ipureintro
  set x := View.readAt (Elt F) arg4.view (LoadRect.whole S16x1024) f with hx
  have trips2 : k1_t2_loop.trips = 8 := by decide
  have e1 : Scf.fold (n := k1_t2_loop.trips) (fun _ acc => passR acc) (cols x k.val) = sortR (cols x k.val) := by
    rw [fold_pass, trips2]; rfl
  have e2 : Scf.fold (n := k1_t3_loop.trips) (fun _ acc => passR acc)
        (mergeR (a0, a1, a2, a3, a4, a5, a6, a7, a8, a9, a10, a11, a12, a13, a14, a15) (sortR (cols x k.val)))
      = sortR (mergeR (a0, a1, a2, a3, a4, a5, a6, a7, a8, a9, a10, a11, a12, a13, a14, a15) (sortR (cols x k.val))) := by
    rw [fold_pass, show k1_t3_loop.trips = 8 by decide]; rfl
  unfold tripR
  rw [← e2, ← e1]
  have h0 : wp_trip.sl.r d L arg4 k f = Scf.fold (n := k1_t2_loop.trips) (fun _ acc => passR acc) (cols x k.val) := by
    unfold wp_trip.sl.r
    refine congrArg (Scf.fold (n := k1_t2_loop.trips) (fun _ acc => passR acc)) ?_
    unfold cols
    refine congrArg₂ Prod.mk (load_col x k 0#32 rfl (by decide) _) ?_
    refine congrArg₂ Prod.mk (load_col x k 1#32 rfl (by decide) _) ?_
    refine congrArg₂ Prod.mk (load_col x k 2#32 rfl (by decide) _) ?_
    refine congrArg₂ Prod.mk (load_col x k 3#32 rfl (by decide) _) ?_
    refine congrArg₂ Prod.mk (load_col x k 4#32 rfl (by decide) _) ?_
    refine congrArg₂ Prod.mk (load_col x k 5#32 rfl (by decide) _) ?_
    refine congrArg₂ Prod.mk (load_col x k 6#32 rfl (by decide) _) ?_
    refine congrArg₂ Prod.mk (load_col x k 7#32 rfl (by decide) _) ?_
    refine congrArg₂ Prod.mk (load_col x k 8#32 rfl (by decide) _) ?_
    refine congrArg₂ Prod.mk (load_col x k 9#32 rfl (by decide) _) ?_
    refine congrArg₂ Prod.mk (load_col x k 10#32 rfl (by decide) _) ?_
    refine congrArg₂ Prod.mk (load_col x k 11#32 rfl (by decide) _) ?_
    refine congrArg₂ Prod.mk (load_col x k 12#32 rfl (by decide) _) ?_
    refine congrArg₂ Prod.mk (load_col x k 13#32 rfl (by decide) _) ?_
    refine congrArg₂ Prod.mk (load_col x k 14#32 rfl (by decide) _) ?_
    exact load_col x k 15#32 rfl (by decide) _
  rw [← h0]
  show wp_trip.sl.r_17 d L arg4 k f a0 a1 a2 a3 a4 a5 a6 a7 a8 a9 a10 a11 a12 a13 a14 a15 = _
  unfold wp_trip.sl.r_17
  exact congrArg (Scf.fold (n := k1_t3_loop.trips) (fun _ acc => passR acc)) rfl

/-- The whole batch loop: the registers it leaves. -/
theorem wp_batch (f : Buf (Elt F) (arg4.view.loc (V d (cV L) (jV L)))) {β : Type} {Q : β → sProp 𝕄}
    (kk : Regs F → Prog (TpuEff nD τ sig (Elt F) Λ₀ (.scVector (cV L) (jV L))) β) :
    (arg4.view.loc (V d (cV L) (jV L)) ↦{fullShare} f : sProp 𝕄)
      ⊢ iprop(((arg4.view.loc (V d (cV L) (jV L)) ↦{fullShare} f)
            -∗ wp frame (wpE (defs₀ (F := F)) 𝒱₀ (V d (cV L) (jV L)) none) Set.univ
                (kk (keptR (View.readAt (Elt F) arg4.view (LoadRect.whole S16x1024) f) 64)) Q)
          -∗ wp frame (wpE (defs₀ (F := F)) 𝒱₀ (V d (cV L) (jV L)) none) Set.univ
              (Scf.Loop.for k1_t1_loop k1_t1_ok (keptR (View.readAt (Elt F) arg4.view (LoadRect.whole S16x1024) f) 0)
                (k1_t1_body (F := F) L arg2 harg2 arg3 harg3 arg4 harg4 arg5 harg5 arg6 harg6 arg7 arg8 arg9 v2 lanesV
                  u.1 u.1 u.1 u.1 u.1 u.1 u.1 u.1 u.1 u.1 u.1 u.1 u.1 u.1 u.1 u.1 0#32) >>= kk) Q) := by
  iintro H HK
  iapply (Scf.wp_for_bind frame (wpE (defs₀ (F := F)) 𝒱₀ (V d (cV L) (jV L)) none) Set.univ
    k1_t1_loop.lb k1_t1_loop.ub k1_t1_loop.st k1_t1_ok _ _
    (fun n acc => iprop(⌜acc = keptR (View.readAt (Elt F) arg4.view (LoadRect.whole S16x1024) f) n⌝
      ∗ arg4.view.loc (V d (cV L) (jV L)) ↦{fullShare} f)) ?_) $$ [H]
  · intro k acc
    iintro ⟨%hacc, H⟩
    rw [hacc]
    iapply (wp_trip d L arg2 harg2 arg3 harg3 arg4 harg4 arg5 harg5 arg6 harg6 arg7 arg8 arg9 v2 u k _ f)
    iexact H
  · isplitr [H]
    · ipureintro; rfl
    · iexact H
  · iintro %acc ⟨%hacc, H⟩
    rw [hacc]
    iapply HK
    iexact H

end Trip

end Cert.Thresh

end
-- ==== Proof.Tile.lean ====
/-
  One tile's task: the sixteen row blocks fetched in turn into the two buffers, each one's thresholds computed and stored as a row of
  the staging buffer, and the staging buffer copied out.
-/
module

public import proofs.«01_k».proof.Proof.Trip
public import Idealize.ShloMosaic.Lib.Pipeline.Value

@[expose] public section

noncomputable section

namespace Cert.Thresh

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev ΛP : Labels := Pipeline.Sig Λ₀ (Fin 2) fun p => (pcfgs (F := F) p).Adm
abbrev K : SparseCore.Cfg τ sig (ΛP (F := F)) 1 := sc (F := F)

/-- The argument and the result, as locations of device `d`. -/
abbrev xLoc (d : Dev nD) : Loc nD τ sig := (SparseCore.T d).loc main_v1
abbrev oLoc (d : Dev nD) : Loc nD τ sig := (SparseCore.T d).loc main_v2

local notation "xV" => (Memref.whole Cert.KernelIdeal.main_v1_scv : Memref Cert.KernelIdeal.sig Kind.scVector Space.hbm Cert.KernelIdeal.S8192x1024 EltTy.f32)
local notation "oV" => (Memref.whole Cert.KernelIdeal.main_v2_scv : Memref Cert.KernelIdeal.sig Kind.scVector Space.hbm Cert.KernelIdeal.S512x16 EltTy.f32)
local notation "bA" => (Memref.whole Cert.KernelIdeal.cc1_scratch0 : Memref Cert.KernelIdeal.sig Kind.scVector Space.vmem Cert.KernelIdeal.S16x1024 EltTy.f32)
local notation "bB" => (Memref.whole Cert.KernelIdeal.cc1_scratch1 : Memref Cert.KernelIdeal.sig Kind.scVector Space.vmem Cert.KernelIdeal.S16x1024 EltTy.f32)
local notation "bT" => (Memref.whole Cert.KernelIdeal.cc1_scratch2 : Memref Cert.KernelIdeal.sig Kind.scVector Space.vmem Cert.KernelIdeal.S16x16 EltTy.f32)

/-! ## What the result holds -/

/-- Rows `16 * r` to `16 * r + 15` of the argument. -/
def block (x : Vec F S8192x1024 .f32) (r : ℕ) : Vec F S16x1024 .f32 :=
  fun a => x fun | 0 => ⟨(16 * r + (a 0).val) % 8192, Nat.mod_lt _ (by decide)⟩ | 1 => a 1

/-- Row `r` of the result: the thresholds of row block `r`. -/
def outOf [FloatOps F] (x : Vec F S8192x1024 .f32) : Vec F S512x16 .f32 :=
  fun j => thresh (block x (j 0).val) fun | 0 => j 1

/-! ## A tile's rows of the result -/

/-- The number of tile `(c, s)`: twice its subcore, plus its core. -/
abbrev wid (L : grid1.Coords) : Fin 32 := ⟨2 * (L 1).val + (L 0).val, by
  have h0 : (L 0).val < 2 := (L 0).isLt
  have h1 : (L 1).val < 16 := (L 1).isLt
  omega⟩

theorem hdiv : 32 ∣ S512x16.size 0 := ⟨16, rfl⟩
/-- Sixteen rows of the result: one tile's. -/
abbrev row (i : Fin 32) : Rect S512x16 := Rect.part (s := S512x16) (a₀ := 0) hdiv i
abbrev rowSet (i : Fin 32) : Finset S512x16.Idx := ((oV).view.slice (row i)).set

/-- The same rows as the body slices them. -/
abbrev rowK (L : grid1.Coords) : Rect S512x16 := Rect.unit (s := S512x16) (k1_off3 L) S16x16.size (k1_off3_inb L)
abbrev oRowK (L : grid1.Coords) : Memref sig .scVector .hbm S16x16 .f32 := (oV).slice (rowK L) (fun _ => rfl)

theorem rowK_eq (L : grid1.Coords) : rowK L = row (wid L) := by
  unfold rowK row Rect.part Rect.block
  congr 1 <;> funext a
  · rw [k1_off3_eq]
    match a with
    | 0 => simp [Shape.partIx, Shape.partSize, wid]; ring
    | 1 => simp [Shape.partIx, Shape.partSize]
  · match a with
    | 0 => simp [Shape.partSize]
    | 1 => simp [Shape.partSize]

theorem set_oRowK (L : grid1.Coords) : (oRowK L).view.set = rowSet (wid L) := by
  show ((oV).view.slice (rowK L)).set = ((oV).view.slice (row (wid L))).set
  exact rowK_eq L ▸ rfl

section Tile

variable (d : Dev nD) (L : grid1.Coords)

theorem pts_oRowK (f : Buf (Elt F) (oLoc d)) :
    ((oRowK L).view.loc (V d (cV L) (jV L)) ↦[(oRowK L).view.set]{fullShare} f : sProp 𝕄) = oLoc d ↦[rowSet (wid L)]{fullShare} f := by
  rw [set_oRowK]
theorem pts_xV (q : PosShare TreeShare) (f : Buf (Elt F) (xLoc d)) :
    ((xV).view.loc (V d (cV L) (jV L)) ↦{q} f : sProp 𝕄) = xLoc d ↦{q} f := rfl
theorem pts_bA (f : Buf (Elt F) ((V d (cV L) (jV L)).loc cc1_scratch0)) :
    ((bA).view.loc (V d (cV L) (jV L)) ↦{fullShare} f : sProp 𝕄) = (V d (cV L) (jV L)).loc cc1_scratch0 ↦{fullShare} f := rfl
theorem pts_bB (f : Buf (Elt F) ((V d (cV L) (jV L)).loc cc1_scratch1)) :
    ((bB).view.loc (V d (cV L) (jV L)) ↦{fullShare} f : sProp 𝕄) = (V d (cV L) (jV L)).loc cc1_scratch1 ↦{fullShare} f := rfl
theorem pts_bT (f : Buf (Elt F) ((V d (cV L) (jV L)).loc cc1_scratch2)) :
    ((bT).view.loc (V d (cV L) (jV L)) ↦{fullShare} f : sProp 𝕄) = (V d (cV L) (jV L)).loc cc1_scratch2 ↦{fullShare} f := rfl

/-- The scoped DMA cells the body names: one per row buffer, and the write-out's. -/
abbrev cAcell (d : Dev nD) (c : Fin τ.nSC) (i : Fin τ.nSub) : GSem nD τ sig := (V d c i, .dma cc1_scratch3.sem)
abbrev cBcell (d : Dev nD) (c : Fin τ.nSC) (i : Fin τ.nSub) : GSem nD τ sig := (V d c i, .dma cc1_scratch4.sem)
abbrev cTcell (d : Dev nD) (c : Fin τ.nSC) (i : Fin τ.nSub) : GSem nD τ sig := (V d c i, .dma cc1_scoped0.sem)

theorem ownSems0_V :
    (ownSems0 (V d (cV L) (jV L)) : sProp 𝕄)
      = iprop(semVal (cAcell d (cV L) (jV L)) 0 ∗ semVal (cBcell d (cV L) (jV L)) 0 ∗ semVal (cTcell d (cV L) (jV L)) 0
          ∗ bigSep ((((ownCells (V d (cV L) (jV L))).erase (cAcell d (cV L) (jV L))).erase (cBcell d (cV L) (jV L))).erase (cTcell d (cV L) (jV L)))
              fun g => semVal g 0) := by
  unfold SparseCore.Cfg.ownSems0
  rw [SparseCore.bigSep_erase' ((mem_ownCells (g := cAcell d (cV L) (jV L))).mpr ⟨rfl, by
      show (SemLoc.dma cc1_scratch3.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scratch4.sem : SemLoc sig).isScoped .scVector = true; decide⟩⟩),
    SparseCore.bigSep_erase' (Finset.mem_erase.mpr ⟨by simp [cBcell, cTcell]; decide, Finset.mem_erase.mpr ⟨by simp [cAcell, cTcell]; decide,
      (mem_ownCells (g := cTcell d (cV L) (jV L))).mpr ⟨rfl, by show (SemLoc.dma cc1_scoped0.sem : SemLoc sig).isScoped .scVector = true; decide⟩⟩⟩)]

theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
      SparseCore.Cfg.mem_ownRefs_of_owner (p := Proc.scVector (cV L) (jV L)) (b := (Proc.scVector (cV L) (jV L)).devRef cc1_scratch2) rfl⟩⟩)]

variable [FloatOps F]

/-! ## What a fetch leaves in a row buffer -/

omit [FloatOps F] in
/-- A fetch of sixteen rows of the argument, from row `16 * n`, delivers row block `n`. -/
theorem fetch_eq (x : Buf (Elt F) (xLoc d)) (n : ℕ) (hn : n < 512) (off : Fin 2 → ℕ) (inb : ∀ a, off a + S16x1024.size a ≤ S8192x1024.size a)
    (h) (ho : off = ![16 * n, 0]) :
    ReadAs.same.apply (View.read (Elt F) ((xV).slice (Rect.unit (s := S8192x1024) off S16x1024.size inb) h).view x) = block x n := by
  subst ho
  funext a
  have h0 : (a 0).val < 16 := (a 0).isLt
  show x _ = x _
  congr 1
  funext k
  apply Fin.ext
  match k with
  | 0 => show 16 * n + 1 * (a 0).val = (16 * n + (a 0).val) % 8192; omega
  | 1 => show 0 + 1 * (a 1).val = (a 1).val; omega

omit [FloatOps F] in
/-- Reading the whole of a view written whole gives what was written. -/
theorem readAt_written {sp : Space} (v : View sig .scVector sp S16x1024 .f32) (f : v.ty.Contents (Elt F)) (p : S16x1024.Idx → Elt F .f32) :
    View.readAt (Elt F) v (LoadRect.whole S16x1024) (View.write (Elt F) v f p Finset.univ) = p := by
  have e : ∀ y : S16x1024.Idx, (LoadRect.whole S16x1024).idx y = y := fun y => funext fun a => Fin.ext (by
    show 0 + 1 * (y a).val = (y a).val; omega)
  funext y
  rw [View.readAt_apply, e, View.read_write_univ]

/-- The first row of row block `g` of tile `(c, s)`. -/
theorem off_first (g : Fin 2) :
    k1_off1 L (BitVec.ofNat 32 (16 * g.val)) = ![16 * (16 * (wid L).val + g.val), 0] := by
  have h := k1_off1_eq L g
  have e : 512 * (L 1).val + 256 * (L 0).val + 16 * g.val = 16 * (16 * (wid L).val + g.val) := by
    show _ = 16 * (16 * (2 * (L 1).val + (L 0).val) + g.val); ring
  rw [e] at h
  exact h

theorem off_next (r : Fin 15) :
    k1_off2 L (BitVec.ofNat 32 (16 + 16 * r.val)) = ![16 * (16 * (wid L).val + (r.val + 1)), 0] := by
  have h := k1_off2_eq L r
  have e : 512 * (L 1).val + 256 * (L 0).val + 16 * r.val + 16 = 16 * (16 * (wid L).val + (r.val + 1)) := by
    show _ = 16 * (16 * (2 * (L 1).val + (L 0).val) + (r.val + 1)); ring
  rw [e] at h
  exact h

/-- The filler the batch loop's text passes in unused places. -/
abbrev junk : FVec F S16 .f32 := (keptR (fun _ => Scalar.ofBits .f32 0#32) 0 : Regs F).1

/-- The batch loop at a freshly fetched buffer: it ends with the sixteen kept registers of row block `n`. -/
theorem wp_fetched (arg4 : Memref sig .scVector .vmem S16x1024 .f32) (harg4 : arg4.IsWhole) (arg5 : Memref sig .scVector .vmem S16x1024 .f32)
    (harg5 : arg5.IsWhole) (f : Buf (Elt F) (arg4.view.loc (V d (cV L) (jV L)))) (v2 : BitVec 32)
    (p : S16x1024.Idx → Elt F .f32) (x : Buf (Elt F) (xLoc d)) (n : ℕ) (hp : p = block x n)
    {β : Type} {Q : β → sProp 𝕄} (kk : Regs F → Prog (TpuEff nD τ sig (Elt F) Λ₀ (.scVector (cV L) (jV L))) β) :
    (arg4.view.loc (V d (cV L) (jV L)) ↦{fullShare} View.write (Elt F) arg4.view f p Finset.univ : sProp 𝕄)
      ⊢ iprop((∀ r : Regs F, ⌜leastR r = thresh (block x n)⌝ -∗ (∃ f', arg4.view.loc (V d (cV L) (jV L)) ↦{fullShare} f')
            -∗ wp frame (wpE (defs₀ (F := F)) 𝒱₀ (V d (cV L) (jV L)) none) Set.univ (kk r) Q)
          -∗ wp frame (wpE (defs₀ (F := F)) 𝒱₀ (V d (cV L) (jV L)) none) Set.univ
              (Scf.Loop.for k1_t1_loop k1_t1_ok (keptR (block x n) 0)
                (k1_t1_body (F := F) L xV (Memref.isWhole_whole _) oV (Memref.isWhole_whole _) arg4 harg4 arg5 harg5 bT (Memref.isWhole_whole _)
                  cc1_scratch3 cc1_scratch4 cc1_scoped0 v2 lanesV
                  junk junk junk junk junk junk junk junk junk junk junk junk junk junk junk junk 0#32) >>= kk) Q) := by
  subst hp
  have h := wp_batch d L xV (Memref.isWhole_whole _) oV (Memref.isWhole_whole _) arg4 harg4 arg5 harg5
    bT (Memref.isWhole_whole _) cc1_scratch3 cc1_scratch4 cc1_scoped0 v2 (keptR (fun _ => Scalar.ofBits .f32 0#32) 0)
    (View.write (Elt F) arg4.view f (block x n) Finset.univ) (Q := Q) kk
  rw [readAt_written] at h
  iintro H HK
  iapply h $$ H
  iintro H
  iapply HK
  · ipureintro; rfl
  · iexists _
    iexact H

theorem block_lt (g : Fin 16) : 16 * (wid L).val + g.val < 512 := by have := (wid L).isLt; have := g.isLt; omega

/-! ## What the write-out leaves -/

theorem inbRow (g : Fin 16) : ∀ a : Fin 2, ![g.val, 0] a + S1x16.size a ≤ S16x16.size a := fun a => by
  match a with
  | 0 => show g.val + 1 ≤ 16; omega
  | 1 => show 0 + 16 ≤ 16; omega

/-- The store of row `g` of the staging buffer. -/
abbrev stored (g : Fin 16) (v : FVec F S16 .f32) : View.Piece (Elt F) S16x16 .f32 :=
  ⟨Rect.unit (s := S16x16) ![g.val, 0] S1x16.size (inbRow g), shapeCast S1x16 v shapeCasts_S16_S1x16⟩

/-- The sixteen stores, the last one first. -/
abbrev storedAll (v : Fin 16 → FVec F S16 .f32) : List (View.Piece (Elt F) S16x16 .f32) :=
  [stored 15 (v 15), stored 14 (v 14), stored 13 (v 13), stored 12 (v 12), stored 11 (v 11), stored 10 (v 10), stored 9 (v 9), stored 8 (v 8),
    stored 7 (v 7), stored 6 (v 6), stored 5 (v 5), stored 4 (v 4), stored 3 (v 3), stored 2 (v 2), stored 1 (v 1), stored 0 (v 0)]

theorem mem_storedAll (v : Fin 16 → FVec F S16 .f32) (p : View.Piece (Elt F) S16x16 .f32) : p ∈ storedAll v ↔ ∃ g, p = stored g (v g) := by
  simp only [storedAll, List.mem_cons, List.not_mem_nil, or_false]
  constructor
  · rintro (h | h | h | h | h | h | h | h | h | h | h | h | h | h | h | h) <;> exact ⟨_, h⟩
  · rintro ⟨g, h⟩
    fin_cases g <;> simp_all

theorem stored_apply (g : Fin 16) (v : FVec F S16 .f32) (z : (stored g v).1.shape.Idx) : (stored g v).2 z = v fun | 0 => z 1 := by
  refine (shapeCast_apply v shapeCasts_S16_S1x16 z _ ?_)
  have hz : (z 0).val < 1 := (z 0).isLt
  rw [Shape.rowMajor_val_one, Shape.rowMajor_val_two]
  show (z 1).val = (z 0).val * 16 + (z 1).val
  omega

/-- The row an index of the staging buffer lies in. -/
abbrev rowOf (y : S16x16.Idx) : Fin 16 := y 0

/-- The staging buffer after the sixteen stores: row `g` is `v g`. -/
theorem staged_apply (ft : Buf (Elt F) ((bT).view.loc (V d (cV L) (jV L)))) (v : Fin 16 → FVec F S16 .f32) (y : S16x16.Idx) :
    View.read (Elt F) (bT).view ((bT).view.writes (Elt F) ft (storedAll v)) y = v (rowOf y) fun | 0 => y 1 := by
  refine View.read_writes_apply_of_pieces (Val := Elt F) (e := .f32) _ _ (fun y : S16x16.Idx => (v (rowOf y) (fun | 0 => y 1) : Elt F .f32)) _ ?_ y ?_
  · intro p hp z
    obtain ⟨g, rfl⟩ := (mem_storedAll v p).mp hp
    rw [stored_apply]
    have hz : (z 0).val < 1 := (z 0).isLt
    have e : (stored g (v g)).1.emb z = fun a => match a with | 0 => g | 1 => z 1 := by
      funext a
      apply Fin.ext
      match a with
      | 0 => show g.val + 1 * (z 0).val = g.val; omega
      | 1 => show 0 + 1 * (z 1).val = (z 1).val; omega
    rw [e]
  · refine ⟨_, (mem_storedAll v _).mpr ⟨rowOf y, rfl⟩, (LoadRect.mem_set _).mpr fun a => ?_⟩
    match a with
    | 0 => exact ⟨0, by show 0 < 1; decide, rfl⟩
    | 1 => exact ⟨(y 1).val, (y 1).isLt, by show _ = 0 + 1 * _; omega⟩

/-- The tile's rows of the result after the write-out. -/
theorem close_eq (x : Buf (Elt F) (xLoc d)) (o : Buf (Elt F) (oLoc d)) (ft : Buf (Elt F) ((bT).view.loc (V d (cV L) (jV L))))
    (v : Fin 16 → FVec F S16 .f32) (hv : ∀ g : Fin 16, v g = thresh (block x (16 * (wid L).val + g.val))) :
    ∀ i ∈ (oRowK L).view.set, (oRowK L).view.writes (Elt F) o [⟨Rect.whole S16x16,
      ReadAs.same.apply (View.read (Elt F) (bT).view ((bT).view.writes (Elt F) ft (storedAll v)))⟩] i = outOf x i := by
  intro i hi
  obtain ⟨y, -, rfl⟩ := Finset.mem_map.mp hi
  have h := View.read_writes_cons_hit_of_coords (oRowK L).view o (Rect.whole S16x16)
    (ReadAs.same.apply (View.read (Elt F) (bT).view ((bT).view.writes (Elt F) ft (storedAll v)))) [] y y
    (fun a => by show (y a).val = 0 + 1 * (y a).val; omega)
  refine Eq.trans h ((staged_apply d L ft v y).trans ?_)
  rw [hv (rowOf y)]
  have e0 : ((oRowK L).view.emb y 0 : Fin 512).val = 16 * (wid L).val + (y 0).val := by
    show k1_off3 L 0 + 1 * (y 0).val = _
    rw [k1_off3_eq]
    show 32 * (L 1).val + 16 * (L 0).val + 1 * (y 0).val = 16 * (2 * (L 1).val + (L 0).val) + (y 0).val
    ring
  have e1 : ((oRowK L).view.emb y 1 : Fin 16) = y 1 := Fin.ext (by
    show k1_off3 L 1 + 1 * (y 1).val = _
    rw [k1_off3_eq]
    show 0 + 1 * (y 1).val = _
    omega)
  unfold outOf
  rw [e0, e1]

theorem close_pts (x : Buf (Elt F) (xLoc d)) (o : Buf (Elt F) (oLoc d)) (ft : Buf (Elt F) ((bT).view.loc (V d (cV L) (jV L))))
    (v : Fin 16 → FVec F S16 .f32) (hv : ∀ g : Fin 16, v g = thresh (block x (16 * (wid L).val + g.val))) (w : S16x16.Idx → Elt F .f32)
    (hw : w = ReadAs.same.apply (View.read (Elt F) (bT).view ((bT).view.writes (Elt F) ft (storedAll v)))) :
    ((oRowK L).view.loc (V d (cV L) (jV L)) ↦[(oRowK L).view.set]{fullShare} (oRowK L).view.writes (Elt F) o [⟨Rect.whole S16x16, w⟩] : sProp 𝕄)
      ⊢ oLoc d ↦[rowSet (wid L)]{fullShare} outOf x := by
  subst hw
  rw [← pts_oRowK d L]
  exact Entails.of_eq (pointsTo_congr (ℓ := (oRowK L).view.loc (V d (cV L) (jV L))) (close_eq d L x o ft v hv))

/-- The task, holding a share of the whole argument and its own rows of the result. -/
theorem tile_body (hF : (K (F := F)).Facts) (q : PosShare TreeShare) (x : Buf (Elt F) (xLoc d)) (o : Buf (Elt F) (oLoc d))
    (O : CellTallies nD τ sig (HIx 1)) (W : Waits sig (HIx 1)) (hO : ∀ g, O g none = 0) :
    iprop(levAts (K (F := F)).L (K (F := F)).lev ∗ emp
        ∗ ((xLoc d ↦{q} x) ∗ oLoc d ↦[rowSet (wid L)]{fullShare} o)
        ∗ scopedBufs (V d (cV L) (jV L)) ∗ scopedSems0 (V d (cV L) (jV L)) ∗ owes (V d (cV L) (jV L)) O W)
      ⊢ wp (M := 𝕄) frame (wpE (defs₀ (F := F)) 𝒱₀ (V d (cV L) (jV L)) none) Set.univ
          (cc1__thresh_sc_body L xV (Memref.isWhole_whole _) oV (Memref.isWhole_whole _) bA (Memref.isWhole_whole _) bB (Memref.isWhole_whole _)
            bT (Memref.isWhole_whole _) cc1_scratch3 cc1_scratch4 cc1_scoped0)
          fun _ => iprop(((xLoc d ↦{q} x) ∗ oLoc d ↦[rowSet (wid L)]{fullShare} outOf x)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨⟨%fa, Ha⟩, ⟨%fb, Hb⟩, ⟨%ft, Ht⟩, Hbufs⟩, ⟨HsemA, HsemB, HsemT, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xV (F := F) d L q _).symm) $$ Hx
  ihave Ho' := (Entails.of_eq (pts_oRowK (F := F) d L _).symm) $$ Ho
  ihave Ha' := (Entails.of_eq (pts_bA (F := F) d L _).symm) $$ Ha
  ihave Hb' := (Entails.of_eq (pts_bB (F := F) d L _).symm) $$ Hb
  ihave Ht' := (Entails.of_eq (pts_bT (F := F) d L _).symm) $$ Ht
  sl_unfold [cc1__thresh_sc_body, k1_part33, k1_part34]
  sl_exec (disch := exact View.amount_pos _ _ (show 0 < S16x1024.numel by decide))
  iapply (wp_fetched d L bA (Memref.isWhole_whole _) bB (Memref.isWhole_whole _) _ 0#32 _ x (16 * (wid L).val + 0)
    ?hp0 _) $$ Ha'
  case hp0 => exact fetch_eq d x _ (block_lt L 0) _ _ _ (off_first L 0)
  iintro %r0 %hr0 ⟨%f0, Ha'⟩
  obtain ⟨a0_0, a0_1, a0_2, a0_3, a0_4, a0_5, a0_6, a0_7, a0_8, a0_9, a0_10, a0_11, a0_12, a0_13, a0_14, a0_15⟩ := r0
  sl_exec (disch := exact View.amount_pos _ _ (show 0 < S16x1024.numel by decide))
  iapply (wp_fetched d L bB (Memref.isWhole_whole _) bA (Memref.isWhole_whole _) _ 0#32 _ x (16 * (wid L).val + 1)
    ?hp1 _) $$ Hb'
  case hp1 => exact fetch_eq d x _ (block_lt L 1) _ _ _ (off_first L 1)
  iintro %r1 %hr1 ⟨%f1, Hb'⟩
  obtain ⟨a1_0, a1_1, a1_2, a1_3, a1_4, a1_5, a1_6, a1_7, a1_8, a1_9, a1_10, a1_11, a1_12, a1_13, a1_14, a1_15⟩ := r1
  sl_exec (disch := exact View.amount_pos _ _ (show 0 < S16x1024.numel by decide))
  iapply (wp_fetched d L bA (Memref.isWhole_whole _) bB (Memref.isWhole_whole _) _ 0#32 _ x (16 * (wid L).val + 2)
    ?hp2 _) $$ Ha'
  case hp2 => exact fetch_eq d x _ (block_lt L 2) _ _ _ (off_next L 1)
  iintro %r2 %hr2 ⟨%f2, Ha'⟩
  obtain ⟨a2_0, a2_1, a2_2, a2_3, a2_4, a2_5, a2_6, a2_7, a2_8, a2_9, a2_10, a2_11, a2_12, a2_13, a2_14, a2_15⟩ := r2
  sl_exec (disch := exact View.amount_pos _ _ (show 0 < S16x1024.numel by decide))
  iapply (wp_fetched d L bB (Memref.isWhole_whole _) bA (Memref.isWhole_whole _) _ 0#32 _ x (16 * (wid L).val + 3)
    ?hp3 _) $$ Hb'
  case hp3 => exact fetch_eq d x _ (block_lt L 3) _ _ _ (off_next L 2)
  iintro %r3 %hr3 ⟨%f3, Hb'⟩
  obtain ⟨a3_0, a3_1, a3_2, a3_3, a3_4, a3_5, a3_6, a3_7, a3_8, a3_9, a3_10, a3_11, a3_12, a3_13, a3_14, a3_15⟩ := r3
  sl_exec (disch := exact View.amount_pos _ _ (show 0 < S16x1024.numel by decide))
  iapply (wp_fetched d L bA (Memref.isWhole_whole _) bB (Memref.isWhole_whole _) _ 0#32 _ x (16 * (wid L).val + 4)
    ?hp4 _) $$ Ha'
  case hp4 => exact fetch_eq d x _ (block_lt L 4) _ _ _ (off_next L 3)
  iintro %r4 %hr4 ⟨%f4, Ha'⟩
  obtain ⟨a4_0, a4_1, a4_2, a4_3, a4_4, a4_5, a4_6, a4_7, a4_8, a4_9, a4_10, a4_11, a4_12, a4_13, a4_14, a4_15⟩ := r4
  sl_exec (disch := exact View.amount_pos _ _ (show 0 < S16x1024.numel by decide))
  iapply (wp_fetched d L bB (Memref.isWhole_whole _) bA (Memref.isWhole_whole _) _ 0#32 _ x (16 * (wid L).val + 5)
    ?hp5 _) $$ Hb'
  case hp5 => exact fetch_eq d x _ (block_lt L 5) _ _ _ (off_next L 4)
  iintro %r5 %hr5 ⟨%f5, Hb'⟩
  obtain ⟨a5_0, a5_1, a5_2, a5_3, a5_4, a5_5, a5_6, a5_7, a5_8, a5_9, a5_10, a5_11, a5_12, a5_13, a5_14, a5_15⟩ := r5
  sl_exec (disch := exact View.amount_pos _ _ (show 0 < S16x1024.numel by decide))
  iapply (wp_fetched d L bA (Memref.isWhole_whole _) bB (Memref.isWhole_whole _) _ 0#32 _ x (16 * (wid L).val + 6)
    ?hp6 _) $$ Ha'
  case hp6 => exact fetch_eq d x _ (block_lt L 6) _ _ _ (off_next L 5)
  iintro %r6 %hr6 ⟨%f6, Ha'⟩
  obtain ⟨a6_0, a6_1, a6_2, a6_3, a6_4, a6_5, a6_6, a6_7, a6_8, a6_9, a6_10, a6_11, a6_12, a6_13, a6_14, a6_15⟩ := r6
  sl_exec (disch := exact View.amount_pos _ _ (show 0 < S16x1024.numel by decide))
  iapply (wp_fetched d L bB (Memref.isWhole_whole _) bA (Memref.isWhole_whole _) _ 0#32 _ x (16 * (wid L).val + 7)
    ?hp7 _) $$ Hb'
  case hp7 => exact fetch_eq d x _ (block_lt L 7) _ _ _ (off_next L 6)
  iintro %r7 %hr7 ⟨%f7, Hb'⟩
  obtain ⟨a7_0, a7_1, a7_2, a7_3, a7_4, a7_5, a7_6, a7_7, a7_8, a7_9, a7_10, a7_11, a7_12, a7_13, a7_14, a7_15⟩ := r7
  sl_exec (disch := exact View.amount_pos _ _ (show 0 < S16x1024.numel by decide))
  iapply (wp_fetched d L bA (Memref.isWhole_whole _) bB (Memref.isWhole_whole _) _ 0#32 _ x (16 * (wid L).val + 8)
    ?hp8 _) $$ Ha'
  case hp8 => exact fetch_eq d x _ (block_lt L 8) _ _ _ (off_next L 7)
  iintro %r8 %hr8 ⟨%f8, Ha'⟩
  obtain ⟨a8_0, a8_1, a8_2, a8_3, a8_4, a8_5, a8_6, a8_7, a8_8, a8_9, a8_10, a8_11, a8_12, a8_13, a8_14, a8_15⟩ := r8
  sl_exec (disch := exact View.amount_pos _ _ (show 0 < S16x1024.numel by decide))
  iapply (wp_fetched d L bB (Memref.isWhole_whole _) bA (Memref.isWhole_whole _) _ 0#32 _ x (16 * (wid L).val + 9)
    ?hp9 _) $$ Hb'
  case hp9 => exact fetch_eq d x _ (block_lt L 9) _ _ _ (off_next L 8)
  iintro %r9 %hr9 ⟨%f9, Hb'⟩
  obtain ⟨a9_0, a9_1, a9_2, a9_3, a9_4, a9_5, a9_6, a9_7, a9_8, a9_9, a9_10, a9_11, a9_12, a9_13, a9_14, a9_15⟩ := r9
  sl_exec (disch := exact View.amount_pos _ _ (show 0 < S16x1024.numel by decide))
  iapply (wp_fetched d L bA (Memref.isWhole_whole _) bB (Memref.isWhole_whole _) _ 0#32 _ x (16 * (wid L).val + 10)
    ?hp10 _) $$ Ha'
  case hp10 => exact fetch_eq d x _ (block_lt L 10) _ _ _ (off_next L 9)
  iintro %r10 %hr10 ⟨%f10, Ha'⟩
  obtain ⟨a10_0, a10_1, a10_2, a10_3, a10_4, a10_5, a10_6, a10_7, a10_8, a10_9, a10_10, a10_11, a10_12, a10_13, a10_14, a10_15⟩ := r10
  sl_exec (disch := exact View.amount_pos _ _ (show 0 < S16x1024.numel by decide))
  iapply (wp_fetched d L bB (Memref.isWhole_whole _) bA (Memref.isWhole_whole _) _ 0#32 _ x (16 * (wid L).val + 11)
    ?hp11 _) $$ Hb'
  case hp11 => exact fetch_eq d x _ (block_lt L 11) _ _ _ (off_next L 10)
  iintro %r11 %hr11 ⟨%f11, Hb'⟩
  obtain ⟨a11_0, a11_1, a11_2, a11_3, a11_4, a11_5, a11_6, a11_7, a11_8, a11_9, a11_10, a11_11, a11_12, a11_13, a11_14, a11_15⟩ := r11
  sl_exec (disch := exact View.amount_pos _ _ (show 0 < S16x1024.numel by decide))
  iapply (wp_fetched d L bA (Memref.isWhole_whole _) bB (Memref.isWhole_whole _) _ 0#32 _ x (16 * (wid L).val + 12)
    ?hp12 _) $$ Ha'
  case hp12 => exact fetch_eq d x _ (block_lt L 12) _ _ _ (off_next L 11)
  iintro %r12 %hr12 ⟨%f12, Ha'⟩
  obtain ⟨a12_0, a12_1, a12_2, a12_3, a12_4, a12_5, a12_6, a12_7, a12_8, a12_9, a12_10, a12_11, a12_12, a12_13, a12_14, a12_15⟩ := r12
  sl_exec (disch := exact View.amount_pos _ _ (show 0 < S16x1024.numel by decide))
  iapply (wp_fetched d L bB (Memref.isWhole_whole _) bA (Memref.isWhole_whole _) _ 0#32 _ x (16 * (wid L).val + 13)
    ?hp13 _) $$ Hb'
  case hp13 => exact fetch_eq d x _ (block_lt L 13) _ _ _ (off_next L 12)
  iintro %r13 %hr13 ⟨%f13, Hb'⟩
  obtain ⟨a13_0, a13_1, a13_2, a13_3, a13_4, a13_5, a13_6, a13_7, a13_8, a13_9, a13_10, a13_11, a13_12, a13_13, a13_14, a13_15⟩ := r13
  sl_exec (disch := exact View.amount_pos _ _ (show 0 < S16x1024.numel by decide))
  iapply (wp_fetched d L bA (Memref.isWhole_whole _) bB (Memref.isWhole_whole _) _ 0#32 _ x (16 * (wid L).val + 14)
    ?hp14 _) $$ Ha'
  case hp14 => exact fetch_eq d x _ (block_lt L 14) _ _ _ (off_next L 13)
  iintro %r14 %hr14 ⟨%f14, Ha'⟩
  obtain ⟨a14_0, a14_1, a14_2, a14_3, a14_4, a14_5, a14_6, a14_7, a14_8, a14_9, a14_10, a14_11, a14_12, a14_13, a14_14, a14_15⟩ := r14
  sl_exec (disch := exact View.amount_pos _ _ (show 0 < S16x1024.numel by decide))
  iapply (wp_fetched d L bB (Memref.isWhole_whole _) bA (Memref.isWhole_whole _) _ 0#32 _ x (16 * (wid L).val + 15)
    ?hp15 _) $$ Hb'
  case hp15 => exact fetch_eq d x _ (block_lt L 15) _ _ _ (off_next L 14)
  iintro %r15 %hr15 ⟨%f15, Hb'⟩
  obtain ⟨a15_0, a15_1, a15_2, a15_3, a15_4, a15_5, a15_6, a15_7, a15_8, a15_9, a15_10, a15_11, a15_12, a15_13, a15_14, a15_15⟩ := r15
  sl_exec (disch := exact View.amount_pos _ _ (show 0 < S16x1024.numel by decide))
  let VV : Fin 16 → FVec F S16 .f32 := ![
    leastR (a0_0, a0_1, a0_2, a0_3, a0_4, a0_5, a0_6, a0_7, a0_8, a0_9, a0_10, a0_11, a0_12, a0_13, a0_14, a0_15),
    leastR (a1_0, a1_1, a1_2, a1_3, a1_4, a1_5, a1_6, a1_7, a1_8, a1_9, a1_10, a1_11, a1_12, a1_13, a1_14, a1_15),
    leastR (a2_0, a2_1, a2_2, a2_3, a2_4, a2_5, a2_6, a2_7, a2_8, a2_9, a2_10, a2_11, a2_12, a2_13, a2_14, a2_15),
    leastR (a3_0, a3_1, a3_2, a3_3, a3_4, a3_5, a3_6, a3_7, a3_8, a3_9, a3_10, a3_11, a3_12, a3_13, a3_14, a3_15),
    leastR (a4_0, a4_1, a4_2, a4_3, a4_4, a4_5, a4_6, a4_7, a4_8, a4_9, a4_10, a4_11, a4_12, a4_13, a4_14, a4_15),
    leastR (a5_0, a5_1, a5_2, a5_3, a5_4, a5_5, a5_6, a5_7, a5_8, a5_9, a5_10, a5_11, a5_12, a5_13, a5_14, a5_15),
    leastR (a6_0, a6_1, a6_2, a6_3, a6_4, a6_5, a6_6, a6_7, a6_8, a6_9, a6_10, a6_11, a6_12, a6_13, a6_14, a6_15),
    leastR (a7_0, a7_1, a7_2, a7_3, a7_4, a7_5, a7_6, a7_7, a7_8, a7_9, a7_10, a7_11, a7_12, a7_13, a7_14, a7_15),
    leastR (a8_0, a8_1, a8_2, a8_3, a8_4, a8_5, a8_6, a8_7, a8_8, a8_9, a8_10, a8_11, a8_12, a8_13, a8_14, a8_15),
    leastR (a9_0, a9_1, a9_2, a9_3, a9_4, a9_5, a9_6, a9_7, a9_8, a9_9, a9_10, a9_11, a9_12, a9_13, a9_14, a9_15),
    leastR (a10_0, a10_1, a10_2, a10_3, a10_4, a10_5, a10_6, a10_7, a10_8, a10_9, a10_10, a10_11, a10_12, a10_13, a10_14, a10_15),
    leastR (a11_0, a11_1, a11_2, a11_3, a11_4, a11_5, a11_6, a11_7, a11_8, a11_9, a11_10, a11_11, a11_12, a11_13, a11_14, a11_15),
    leastR (a12_0, a12_1, a12_2, a12_3, a12_4, a12_5, a12_6, a12_7, a12_8, a12_9, a12_10, a12_11, a12_12, a12_13, a12_14, a12_15),
    leastR (a13_0, a13_1, a13_2, a13_3, a13_4, a13_5, a13_6, a13_7, a13_8, a13_9, a13_10, a13_11, a13_12, a13_13, a13_14, a13_15),
    leastR (a14_0, a14_1, a14_2, a14_3, a14_4, a14_5, a14_6, a14_7, a14_8, a14_9, a14_10, a14_11, a14_12, a14_13, a14_14, a14_15),
    leastR (a15_0, a15_1, a15_2, a15_3, a15_4, a15_5, a15_6, a15_7, a15_8, a15_9, a15_10, a15_11, a15_12, a15_13, a15_14, a15_15)]
  sl_step
  have hv : ∀ g : Fin 16, VV g = thresh (block x (16 * (wid L).val + g.val)) := fun g => by
    fin_cases g
    exacts [hr0, hr1, hr2, hr3, hr4, hr5, hr6, hr7, hr8, hr9, hr10, hr11, hr12, hr13, hr14, hr15]
  isplitl [Hx' Ho']
  · isplitl [Hx']; · iapply (Entails.of_eq (pts_xV (F := F) d L q _)); iexact Hx'
    iapply (close_pts d L x o ft VV hv _ ?hw) $$ Ho'
    case hw => rfl
  isplitl [Ha' Hb' Ht' Hbufs]
  · isplitl [Ha']; · iexists _; iexact Ha'
    isplitl [Hb']; · iexists _; iexact Hb'
    isplitl [Ht']; · iexists _; iexact Ht'
    iexact Hbufs
  isplitl [HsemA HsemB HsemT Hsems]
  · isplitl [HsemA]; · iexact HsemA
    isplitl [HsemB]; · iexact HsemB
    isplitl [HsemT]; · iexact HsemT
    iexact Hsems
  iexists _; isplitr
  swap; · iexact HO
  ipureintro; intro p _
  rcases p.2 with _ | e
  · exact .inr (.inl rfl)
  · exact .inr (.inr (congrArg some (Subsingleton.elim e 0)))

end Tile

end Cert.Thresh

end
-- ==== Proof.Dist.lean ====
/-
  The distance call: the staging buffer it leaves at a grid point, as a function of the blocks it is given, and what the
  pipeline asks of its body.
-/
module

public import proofs.«01_k».proof.Proof.Trip
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Value

@[expose] public section

set_option maxRecDepth 16384

noncomputable section

namespace Cert.Thresh

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation)

variable {F : FTy → Type} [FloatOps F]

local notation "𝕄" => MT nD τ sig (HIx 1) (Elt F) ℕ UU ℕ

/-- What a core's buffers hold when a region is entered. -/
abbrev Vals (F : FTy → Type) (c : Dev nD) : Type := (b : Ref sig .tc) → Buf (Elt F) ((c : Thread nD τ).loc b)

namespace Dist

abbrev rX : Rect S1x256x3 := Rect.unit (s := S1x256x3) ![0, 0, 0] S1x256x3.size inb_S1x256x3_S1x256x3_0_0_0
abbrev rAll : Rect S1x1024x3 := Rect.unit (s := S1x1024x3) ![0, 0, 0] S1x1024x3.size inb_S1x1024x3_S1x1024x3_0_0_0
abbrev rOut : Rect S1x256x1024 := Rect.unit (s := S1x256x1024) ![0, 0, 0] S1x256x1024.size inb_S1x256x1024_S1x256x1024_0_0_0

/-- The block of distances the body stores, from its block of points and all the points of the batch. -/
def left (x0 : Vec F S1x256x3 .f32) (x1 : Vec F S1x1024x3 .f32) : Vec F S1x256x1024 .f32 :=
  View.canon [⟨rOut, k0_pay1 (View.ld x0 rX) (View.ld x1 rAll)⟩]

theorem whole (v : Vec F S1x256x1024 .f32) (y : S1x256x1024.Idx) :
    ∃ pc ∈ ([⟨rOut, v⟩] : List (View.Piece (Elt F) S1x256x1024 .f32)), y ∈ pc.1.set :=
  View.cover_of_tiled [⟨rOut, v⟩] S1x256x1024.size (by rfl) y

set_option maxHeartbeats 1000000 in
/-- The body keeps what it reads and leaves the distances in the buffer it writes. -/
theorem body (c : Dev nD) (E : Set ℕ) (i : grid0.Coords) (a2 : Memref sig .tc .vmem S1x256x3 .f32) (h2 : a2.IsWhole)
    (a3 : Memref sig .tc .vmem S1x1024x3 .f32) (h3 : a3.IsWhole) (a4 : Memref sig .tc .vmem S1x256x1024 .f32) (h4 : a4.IsWhole)
    (x0 : Vec F S1x256x3 .f32) (x1 : Vec F S1x1024x3 .f32) (Q : PUnit → sProp 𝕄) :
    iprop(owns (c : Thread nD τ) a2 fullShare x0 ∗ owns (c : Thread nD τ) a3 fullShare x1 ∗ (∃ d, owns (c : Thread nD τ) a4 fullShare d)
        ∗ (iprop(owns (c : Thread nD τ) a2 fullShare x0 ∗ owns (c : Thread nD τ) a3 fullShare x1
            ∗ owns (c : Thread nD τ) a4 fullShare (left x0 x1)) -∗ Q ⟨⟩))
      ⊢ wp frame (wpE (defs₀ (F := F)) 𝒱₀ c none) E (cc0__dist_kernel i a2 h2 a3 h3 a4 h4) Q := by
  simp only [cc0__dist_kernel_eq_skeleton]; unfold cc0__dist_kernel_skel
  unfold owns
  iintro ⟨⟨%f0, %e0, H0⟩, ⟨%f1, %e1, H1⟩, ⟨%d2, %f2, -, H2⟩, Hk⟩
  subst e0 e1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (whole _)

section Data

variable {c : Dev nD} (V : Vals F c) (O : CellTallies nD τ sig (HIx 1)) (B : Set (SemLoc sig × HIx 1))

/-- Window `w`'s block at point `t`, out of the array as the region finds it. -/
def blk (w : Fin cfg0.W) (t : Fin cfg0.N) : ((cfg0.win w).xblock (cfg0.grid.coords t)).Idx → Elt F (cfg0.win w).elt :=
  ((cfg0.win w).blk t).view.read (Elt F) (V (Pipeline.arrRef spec0 w))

/-- The pipeline's data: what is owed stays `O`, what has been waited on within `B`. -/
def dat : Dat τ (Elt F) (HIx 1) ℕ UU ℕ cfg0 c where
  A w := V (Pipeline.arrRef spec0 w)
  after w t := match w with
    | ⟨0, _⟩ => blk V 0 t
    | ⟨1, _⟩ => blk V 1 t
    | ⟨2, _⟩ => left (blk V 0 t) (blk V 1 t)
  Φ _ := Pipeline.scopedRest spec0 c
  q w := Pipeline.shareOf spec0 w
  owed _ := O
  recorded _ := B

theorem dat_A (w : Fin cfg0.W) : (dat V O B).A w = V (Pipeline.arrRef spec0 w) := by dsimp only [dat]
theorem after_0 (t : Fin cfg0.N) : (dat V O B).after 0 t = blk V 0 t := by dsimp only [dat]
theorem after_1 (t : Fin cfg0.N) : (dat V O B).after 1 t = blk V 1 t := by dsimp only [dat]
theorem after_2 (t : Fin cfg0.N) : (dat V O B).after 2 t = left (blk V 0 t) (blk V 1 t) := by dsimp only [dat]

theorem before_0 (t : Fin cfg0.N) (d) : (dat V O B).before 0 t d = blk V 0 t :=
  ((dat V O B).before_in_eq_fetched 0 rfl (fun _ => rfl) (fun _ _ _ => rfl)
    (fun t => by rw [after_0]; unfold Dat.blockOf blk; rw [dat_A]; try rfl) t d).trans (by unfold Dat.fetched Dat.blockOf blk; rw [dat_A]; try rfl)
theorem before_1 (t : Fin cfg0.N) (d) : (dat V O B).before 1 t d = blk V 1 t :=
  ((dat V O B).before_in_eq_fetched 1 rfl (fun _ => rfl) (fun _ _ _ => rfl)
    (fun t => by rw [after_1]; unfold Dat.blockOf blk; rw [dat_A]; try rfl) t d).trans (by unfold Dat.fetched Dat.blockOf blk; rw [dat_A]; try rfl)

/-- The body at a point, its windows one by one. -/
theorem at_point (ι : HIx 1) (t : Fin cfg0.N) :
    iprop((dat V O B).Φ t.castSucc ∗ (dat V O B).owesAt ι t.castSucc
        ∗ (∃ d, owns (c : Thread nD τ) (st0_0 t) fullShare ((dat V O B).before 0 t d))
        ∗ (∃ d, owns (c : Thread nD τ) (st0_1 t) fullShare ((dat V O B).before 1 t d))
        ∗ (∃ d, owns (c : Thread nD τ) (st0_2 t) fullShare ((dat V O B).before 2 t d)))
      ⊢ wp frame (wpE (defs₀ (F := F)) 𝒱₀ c none) Set.univ (bodyAt0 t) fun _ =>
          iprop((dat V O B).Φ t.succ ∗ (dat V O B).owesAt ι t.succ
            ∗ owns (c : Thread nD τ) (st0_0 t) fullShare ((dat V O B).after 0 t)
            ∗ owns (c : Thread nD τ) (st0_1 t) fullShare ((dat V O B).after 1 t)
            ∗ owns (c : Thread nD τ) (st0_2 t) fullShare ((dat V O B).after 2 t)) := by
  unfold bodyAt0
  simp only [before_0, before_1]
  rw [show (dat V O B).Φ t.succ = (dat V O B).Φ t.castSucc from rfl,
    show (dat V O B).owesAt ι t.succ = (dat V O B).owesAt ι t.castSucc from rfl, after_0, after_1, after_2]
  iintro ⟨HΦ, Ho, ⟨%d0, H0⟩, ⟨%d1, H1⟩, ⟨%d2, H2⟩⟩
  iapply (body c Set.univ (grid0.coords t) _ _ _ _ _ _ (blk V 0 t) (blk V 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem row (t : Fin cfg0.N) : defs₀ (F := F) .tc cfg0.body (cfg0.bodyArgs t (cfg0.slots t)) = bodyAt0 t := by
  unfold defs₀; rfl

theorem obligation (ι : HIx 1) : BodyObligation (dat V O B) (defs₀ (F := F)) 𝒱₀ ι Set.univ := fun t => by
  rw [bigSep_W0, bigSep_W0, row]
  exact triple_restated (at_point V O B ι t) rfl .rfl fun _ => .rfl

/-- Two points write back disjoint blocks. -/
theorem idx_inj : ∀ t t' : Fin cfg0.N, win0_2.index t = win0_2.index t' → t = t' :=
  (by decide +kernel : ∀ t t' : Fin grid0.N, win0_2.index t = win0_2.index t' → t = t')

/-- So each block of the array ends as its point left it. -/
theorem block_end (t : Fin cfg0.N) :
    ((cfg0.win 2).blk t).view.read (Elt F) ((dat V O B).arrAt 2 cfg0.N) = (cfg0.win 2).cut (grid0.coords t) (left (blk V 0 t) (blk V 1 t)) := by
  rw [(dat V O B).read_blk_arrAt_eq_flushed 2 (fun t t' _ _ hne => (cfg0.win 2).disjoint_blk fun h => hne (idx_inj t t' h)) cfg0.N t t.isLt (flush0_2 t)]
  show (cfg0.win 2).cut (grid0.coords t) ((dat V O B).after 2 t) = _
  rw [after_2]

end Data

end Dist

end Cert.Thresh

end
-- ==== Proof.Attn.lean ====
/-
  The attention call: the staging buffer it leaves at a grid point, as a function of the blocks it is given, and what the
  pipeline asks of its body.
-/
module

public import proofs.«01_k».proof.Proof.Dist
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Value

@[expose] public section

set_option maxRecDepth 16384

noncomputable section

namespace Cert.Thresh

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation)

variable {F : FTy → Type} [FloatOps F]

local notation "𝕄" => MT nD τ sig (HIx 1) (Elt F) ℕ UU ℕ

namespace Attn

abbrev rX : Rect S1x256x3 := Rect.unit (s := S1x256x3) ![0, 0, 0] S1x256x3.size inb_S1x256x3_S1x256x3_0_0_0
abbrev rAll : Rect S1x1024x3 := Rect.unit (s := S1x1024x3) ![0, 0, 0] S1x1024x3.size inb_S1x1024x3_S1x1024x3_0_0_0
abbrev rThr : Rect S1x256x1 := Rect.unit (s := S1x256x1) ![0, 0, 0] S1x256x1.size inb_S1x256x1_S1x256x1_0_0_0
abbrev rCat : Rect S1x256x256 := Rect.unit (s := S1x256x256) ![0, 0, 0] S1x256x256.size inb_S1x256x256_S1x256x256_0_0_0
abbrev rCats : Rect S1x1024x256 := Rect.unit (s := S1x1024x256) ![0, 0, 0] S1x1024x256.size inb_S1x1024x256_S1x1024x256_0_0_0
abbrev rFeat : Rect S1x256x1024 := Rect.unit (s := S1x256x1024) ![0, 0, 0] S1x256x1024.size inb_S1x256x1024_S1x256x1024_0_0_0
abbrev rW : Rect S256x256 := Rect.unit (s := S256x256) ![0, 0] S256x256.size inb_S256x256_S256x256_0_0
abbrev rB : Rect S1x256 := Rect.unit (s := S1x256) ![0, 0] S1x256.size inb_S1x256_S1x256_0_0

/-- The block of attended features the body stores, from the blocks it is given. -/
def left (x0 : Vec F S1x256x3 .f32) (x1 : Vec F S1x1024x3 .f32) (x2 : Vec F S1x256x1 .f32) (x3 : Vec F S1x256x256 .f32) (x4 : Vec F S1x1024x256 .f32) (x5 : Vec F S1x256x1024 .f32) (x6 : Vec F S256x256 .f32) (x7 : Vec F S1x256 .f32) (x8 : Vec F S256x256 .f32) : Vec F S1x256x256 .f32 :=
  View.canon [⟨rCat, k2_pay1 (k2_pay2 (View.ld x0 rX) (View.ld x1 rAll) (View.ld x2 rThr)) (k2_pay3 (View.ld x3 rCat) (View.ld x6 rW) (View.ld x7 rB) (View.ld x8 rW)) (View.ld x4 rCats) (View.ld x5 rFeat)⟩]

theorem whole (v : Vec F S1x256x256 .f32) (y : S1x256x256.Idx) :
    ∃ pc ∈ ([⟨rCat, v⟩] : List (View.Piece (Elt F) S1x256x256 .f32)), y ∈ pc.1.set :=
  View.cover_of_tiled [⟨rCat, v⟩] S1x256x256.size (by rfl) y

set_option maxHeartbeats 1000000 in
/-- The body keeps what it reads and leaves the attended features in the buffer it writes. -/
theorem body (c : Dev nD) (E : Set ℕ) (i : grid2.Coords) (a2 : Memref sig .tc .vmem S1x256x3 .f32) (h2 : a2.IsWhole) (a3 : Memref sig .tc .vmem S1x1024x3 .f32) (h3 : a3.IsWhole) (a4 : Memref sig .tc .vmem S1x256x1 .f32) (h4 : a4.IsWhole) (a5 : Memref sig .tc .vmem S1x256x256 .f32) (h5 : a5.IsWhole) (a6 : Memref sig .tc .vmem S1x1024x256 .f32) (h6 : a6.IsWhole) (a7 : Memref sig .tc .vmem S1x256x1024 .f32) (h7 : a7.IsWhole) (a8 : Memref sig .tc .vmem S256x256 .f32) (h8 : a8.IsWhole) (a9 : Memref sig .tc .vmem S1x256 .f32) (h9 : a9.IsWhole) (a10 : Memref sig .tc .vmem S256x256 .f32) (h10 : a10.IsWhole) (a11 : Memref sig .tc .vmem S1x256x256 .f32) (h11 : a11.IsWhole)
    (x0 : Vec F S1x256x3 .f32) (x1 : Vec F S1x1024x3 .f32) (x2 : Vec F S1x256x1 .f32) (x3 : Vec F S1x256x256 .f32) (x4 : Vec F S1x1024x256 .f32) (x5 : Vec F S1x256x1024 .f32) (x6 : Vec F S256x256 .f32) (x7 : Vec F S1x256 .f32) (x8 : Vec F S256x256 .f32) (Q : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ (∃ d, owns (c : Thread nD τ) a11 fullShare d)
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8
            ∗ owns (c : Thread nD τ) a11 fullShare (left x0 x1 x2 x3 x4 x5 x6 x7 x8)) -∗ Q ⟨⟩))
      ⊢ wp frame (wpE (defs₀ (F := F)) 𝒱₀ c none) E (cc2__attn_kernel i a2 h2 a3 h3 a4 h4 a5 h5 a6 h6 a7 h7 a8 h8 a9 h9 a10 h10 a11 h11) Q := by
  simp only [cc2__attn_kernel_eq_skeleton]; unfold cc2__attn_kernel_skel
  simp only [k2_part1_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, Hk⟩
  subst e0 e1 e2 e3 e4 e5 e6 e7 e8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (whole _)

section Data

variable {c : Dev nD} (V : Vals F c) (O : CellTallies nD τ sig (HIx 1)) (B : Set (SemLoc sig × HIx 1))

/-- Window `w`'s block at point `t`, out of the array as the region finds it. -/
def blk (w : Fin cfg2.W) (t : Fin cfg2.N) : ((cfg2.win w).xblock (cfg2.grid.coords t)).Idx → Elt F (cfg2.win w).elt :=
  ((cfg2.win w).blk t).view.read (Elt F) (V (Pipeline.arrRef spec2 w))

/-- What point `t` leaves of the result. -/
abbrev leftAt (t : Fin cfg2.N) : Vec F S1x256x256 .f32 := left (blk V 0 t) (blk V 1 t) (blk V 2 t) (blk V 3 t) (blk V 4 t) (blk V 5 t) (blk V 6 t) (blk V 7 t) (blk V 8 t)

/-- The pipeline's data: what is owed stays `O`, what has been waited on within `B`. -/
def dat : Dat τ (Elt F) (HIx 1) ℕ UU ℕ cfg2 c where
  A w := V (Pipeline.arrRef spec2 w)
  after w t := match w with
    | ⟨0, _⟩ => blk V 0 t
    | ⟨1, _⟩ => blk V 1 t
    | ⟨2, _⟩ => blk V 2 t
    | ⟨3, _⟩ => blk V 3 t
    | ⟨4, _⟩ => blk V 4 t
    | ⟨5, _⟩ => blk V 5 t
    | ⟨6, _⟩ => blk V 6 t
    | ⟨7, _⟩ => blk V 7 t
    | ⟨8, _⟩ => blk V 8 t
    | ⟨9, _⟩ => leftAt V t
  Φ _ := Pipeline.scopedRest spec2 c
  q w := Pipeline.shareOf spec2 w
  owed _ := O
  recorded _ := B

theorem dat_A (w : Fin cfg2.W) : (dat V O B).A w = V (Pipeline.arrRef spec2 w) := by dsimp only [dat]
theorem after_0 (t : Fin cfg2.N) : (dat V O B).after 0 t = blk V 0 t := by dsimp only [dat]
theorem after_1 (t : Fin cfg2.N) : (dat V O B).after 1 t = blk V 1 t := by dsimp only [dat]
theorem after_2 (t : Fin cfg2.N) : (dat V O B).after 2 t = blk V 2 t := by dsimp only [dat]
theorem after_3 (t : Fin cfg2.N) : (dat V O B).after 3 t = blk V 3 t := by dsimp only [dat]
theorem after_4 (t : Fin cfg2.N) : (dat V O B).after 4 t = blk V 4 t := by dsimp only [dat]
theorem after_5 (t : Fin cfg2.N) : (dat V O B).after 5 t = blk V 5 t := by dsimp only [dat]
theorem after_6 (t : Fin cfg2.N) : (dat V O B).after 6 t = blk V 6 t := by dsimp only [dat]
theorem after_7 (t : Fin cfg2.N) : (dat V O B).after 7 t = blk V 7 t := by dsimp only [dat]
theorem after_8 (t : Fin cfg2.N) : (dat V O B).after 8 t = blk V 8 t := by dsimp only [dat]
theorem after_9 (t : Fin cfg2.N) : (dat V O B).after 9 t = leftAt V t := by dsimp only [dat]

theorem before_0 (t : Fin cfg2.N) (d) : (dat V O B).before 0 t d = blk V 0 t :=
  ((dat V O B).before_in_eq_fetched 0 rfl (fun _ => rfl) (fun _ _ _ => rfl)
    (fun t => by rw [after_0]; unfold Dat.blockOf blk; rw [dat_A]; try rfl) t d).trans (by unfold Dat.fetched Dat.blockOf blk; rw [dat_A]; try rfl)
theorem before_1 (t : Fin cfg2.N) (d) : (dat V O B).before 1 t d = blk V 1 t :=
  ((dat V O B).before_in_eq_fetched 1 rfl (fun _ => rfl) (fun _ _ _ => rfl)
    (fun t => by rw [after_1]; unfold Dat.blockOf blk; rw [dat_A]; try rfl) t d).trans (by unfold Dat.fetched Dat.blockOf blk; rw [dat_A]; try rfl)
theorem before_2 (t : Fin cfg2.N) (d) : (dat V O B).before 2 t d = blk V 2 t :=
  ((dat V O B).before_in_eq_fetched 2 rfl (fun _ => rfl) (fun _ _ _ => rfl)
    (fun t => by rw [after_2]; unfold Dat.blockOf blk; rw [dat_A]; try rfl) t d).trans (by unfold Dat.fetched Dat.blockOf blk; rw [dat_A]; try rfl)
theorem before_3 (t : Fin cfg2.N) (d) : (dat V O B).before 3 t d = blk V 3 t :=
  ((dat V O B).before_in_eq_fetched 3 rfl (fun _ => rfl) (fun _ _ _ => rfl)
    (fun t => by rw [after_3]; unfold Dat.blockOf blk; rw [dat_A]; try rfl) t d).trans (by unfold Dat.fetched Dat.blockOf blk; rw [dat_A]; try rfl)
theorem before_4 (t : Fin cfg2.N) (d) : (dat V O B).before 4 t d = blk V 4 t :=
  ((dat V O B).before_in_eq_fetched 4 rfl (fun _ => rfl) (fun _ _ _ => rfl)
    (fun t => by rw [after_4]; unfold Dat.blockOf blk; rw [dat_A]; try rfl) t d).trans (by unfold Dat.fetched Dat.blockOf blk; rw [dat_A]; try rfl)
theorem before_5 (t : Fin cfg2.N) (d) : (dat V O B).before 5 t d = blk V 5 t :=
  ((dat V O B).before_in_eq_fetched 5 rfl (fun _ => rfl) (fun _ _ _ => rfl)
    (fun t => by rw [after_5]; unfold Dat.blockOf blk; rw [dat_A]; try rfl) t d).trans (by unfold Dat.fetched Dat.blockOf blk; rw [dat_A]; try rfl)
theorem before_6 (t : Fin cfg2.N) (d) : (dat V O B).before 6 t d = blk V 6 t :=
  ((dat V O B).before_in_eq_fetched 6 rfl (fun _ => rfl) (fun _ _ _ => rfl)
    (fun t => by rw [after_6]; unfold Dat.blockOf blk; rw [dat_A]; try rfl) t d).trans (by unfold Dat.fetched Dat.blockOf blk; rw [dat_A]; try rfl)
theorem before_7 (t : Fin cfg2.N) (d) : (dat V O B).before 7 t d = blk V 7 t :=
  ((dat V O B).before_in_eq_fetched 7 rfl (fun _ => rfl) (fun _ _ _ => rfl)
    (fun t => by rw [after_7]; unfold Dat.blockOf blk; rw [dat_A]; try rfl) t d).trans (by unfold Dat.fetched Dat.blockOf blk; rw [dat_A]; try rfl)
theorem before_8 (t : Fin cfg2.N) (d) : (dat V O B).before 8 t d = blk V 8 t :=
  ((dat V O B).before_in_eq_fetched 8 rfl (fun _ => rfl) (fun _ _ _ => rfl)
    (fun t => by rw [after_8]; unfold Dat.blockOf blk; rw [dat_A]; try rfl) t d).trans (by unfold Dat.fetched Dat.blockOf blk; rw [dat_A]; try rfl)

/-- The body at a point, its windows one by one. -/
theorem at_point (ι : HIx 1) (t : Fin cfg2.N) :
    iprop((dat V O B).Φ t.castSucc ∗ (dat V O B).owesAt ι t.castSucc
        ∗ (∃ d, owns (c : Thread nD τ) (st2_0 t) fullShare ((dat V O B).before 0 t d))
        ∗ (∃ d, owns (c : Thread nD τ) (st2_1 t) fullShare ((dat V O B).before 1 t d))
        ∗ (∃ d, owns (c : Thread nD τ) (st2_2 t) fullShare ((dat V O B).before 2 t d))
        ∗ (∃ d, owns (c : Thread nD τ) (st2_3 t) fullShare ((dat V O B).before 3 t d))
        ∗ (∃ d, owns (c : Thread nD τ) (st2_4 t) fullShare ((dat V O B).before 4 t d))
        ∗ (∃ d, owns (c : Thread nD τ) (st2_5 t) fullShare ((dat V O B).before 5 t d))
        ∗ (∃ d, owns (c : Thread nD τ) (st2_6 t) fullShare ((dat V O B).before 6 t d))
        ∗ (∃ d, owns (c : Thread nD τ) (st2_7 t) fullShare ((dat V O B).before 7 t d))
        ∗ (∃ d, owns (c : Thread nD τ) (st2_8 t) fullShare ((dat V O B).before 8 t d))
        ∗ (∃ d, owns (c : Thread nD τ) (st2_9 t) fullShare ((dat V O B).before 9 t d)))
      ⊢ wp frame (wpE (defs₀ (F := F)) 𝒱₀ c none) Set.univ (bodyAt2 t) fun _ =>
          iprop((dat V O B).Φ t.succ ∗ (dat V O B).owesAt ι t.succ
            ∗ owns (c : Thread nD τ) (st2_0 t) fullShare ((dat V O B).after 0 t)
            ∗ owns (c : Thread nD τ) (st2_1 t) fullShare ((dat V O B).after 1 t)
            ∗ owns (c : Thread nD τ) (st2_2 t) fullShare ((dat V O B).after 2 t)
            ∗ owns (c : Thread nD τ) (st2_3 t) fullShare ((dat V O B).after 3 t)
            ∗ owns (c : Thread nD τ) (st2_4 t) fullShare ((dat V O B).after 4 t)
            ∗ owns (c : Thread nD τ) (st2_5 t) fullShare ((dat V O B).after 5 t)
            ∗ owns (c : Thread nD τ) (st2_6 t) fullShare ((dat V O B).after 6 t)
            ∗ owns (c : Thread nD τ) (st2_7 t) fullShare ((dat V O B).after 7 t)
            ∗ owns (c : Thread nD τ) (st2_8 t) fullShare ((dat V O B).after 8 t)
            ∗ owns (c : Thread nD τ) (st2_9 t) fullShare ((dat V O B).after 9 t)) := by
  unfold bodyAt2
  simp only [before_0, before_1, before_2, before_3, before_4, before_5, before_6, before_7, before_8]
  rw [show (dat V O B).Φ t.succ = (dat V O B).Φ t.castSucc from rfl,
    show (dat V O B).owesAt ι t.succ = (dat V O B).owesAt ι t.castSucc from rfl, after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body c Set.univ (grid2.coords t) _ _ _ _ _ _ _ _ _ _ _ _ _ _ _ _ _ _ _ _ (blk V 0 t) (blk V 1 t) (blk V 2 t) (blk V 3 t) (blk V 4 t) (blk V 5 t) (blk V 6 t) (blk V 7 t) (blk V 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem row (t : Fin cfg2.N) : defs₀ (F := F) .tc cfg2.body (cfg2.bodyArgs t (cfg2.slots t)) = bodyAt2 t := by
  unfold defs₀; rfl

theorem obligation (ι : HIx 1) : BodyObligation (dat V O B) (defs₀ (F := F)) 𝒱₀ ι Set.univ := fun t => by
  rw [bigSep_W2, bigSep_W2, row]
  exact triple_restated (at_point V O B ι t) rfl .rfl fun _ => .rfl

/-- Two points write back disjoint blocks. -/
theorem idx_inj : ∀ t t' : Fin cfg2.N, win2_9.index t = win2_9.index t' → t = t' :=
  (by decide +kernel : ∀ t t' : Fin grid2.N, win2_9.index t = win2_9.index t' → t = t')

/-- So each block of the array ends as its point left it. -/
theorem block_end (t : Fin cfg2.N) :
    ((cfg2.win 9).blk t).view.read (Elt F) ((dat V O B).arrAt 9 cfg2.N) = (cfg2.win 9).cut (grid2.coords t) (leftAt V t) := by
  rw [(dat V O B).read_blk_arrAt_eq_flushed 9 (fun t t' _ _ hne => (cfg2.win 9).disjoint_blk fun h => hne (idx_inj t t' h)) cfg2.N t t.isLt (flush2_9 t)]
  show (cfg2.win 9).cut (grid2.coords t) ((dat V O B).after 9 t) = _
  rw [after_9]

end Data

end Attn

end Cert.Thresh

end
-- ==== Proof.Steps.lean ====
/-
  The TensorCore's two pipelined calls as steps of the main thread: from its buffers at one valuation to the same buffers with the
  call's result at what the pipeline leaves.
-/
module

public import proofs.«01_k».proof.Proof.Tile
public import proofs.«01_k».proof.Proof.Attn
public import Idealize.ShloMosaic.Lib.Pipeline.RegionArrays
public import Idealize.ShloMosaic.Lib.Pipeline.RegionsLoop

@[expose] public section

set_option maxRecDepth 16384

noncomputable section

namespace Cert.Thresh

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat RegionSeg)

variable {F : FTy → Type} [FloatOps F]

local notation "𝕄" => MT nD τ sig (HIx 1) (Elt F) ℕ UU ℕ

abbrev D : Defs nD τ sig (Elt F) (ΛP (F := F)) := Pipeline.defs pcfgs defs₀
abbrev 𝒱 : Variants := 𝒱₀.lift
abbrev EH : Emb UH (MT nD τ sig (HIx 1) (Elt F) ℕ UU ℕ) := embL
/-- The pipelines' rounds, in the machine's algebra. -/
abbrev EP : Emb (UR sig nD τ) (MT nD τ sig (HIx 1) (Elt F) ℕ UU ℕ) := (Emb.inl : Emb (UR sig nD τ) (UR sig nD τ × Counters)).trans embR

instance : (EP (F := F)).LandsIn (upEmb : UEmb _ (MT nD τ sig (HIx 1) (Elt F) ℕ UU ℕ)) := by unfold EP; infer_instance

abbrev adm : (p : Fin 2) → (pcfgs (F := F) p).Adm := fun p => (cfgs p).toPCfg_adm

/-- What the TensorCore has waited on before call `n`. -/
def waited (c : Dev nD) (n : ℕ) : Set (SemLoc sig × HIx 1) := {p | (K (F := F)).lev (T c, p.1) p.2 ≤ 8 * (inferInstance : SparseCore.Cfg.Blocks 1 1).fst n}

variable (W : Dev nD → Valuation τ sig (Elt F))

/-- Both pipelines' data, at the buffers' contents `W` and the stage before call `n`. -/
def pd (n : ℕ) : (p : Fin 2) → (c : Dev nD) → Dat τ (Elt F) (HIx 1) ℕ UU ℕ (Pipeline.pin (pcfgs (F := F)) adm p) c
  | 0, c => Dist.dat (fun b => W c b) ((K (F := F)).Otc c n) (waited (F := F) c n)
  | 1, c => Attn.dat (fun b => W c b) ((K (F := F)).Otc c n) (waited (F := F) c n)

theorem Otc_none (c : Dev nD) (n : ℕ) (g : GSem nD τ sig) : (K (F := F)).Otc c n g (none : HIx 1) = 0 := by
  by_contra h
  have := SparseCore.Cfg.lev_of_Otc_pos (K := K (F := F)) (Nat.pos_of_ne_zero h)
  rw [SparseCore.Cfg.lev_none] at this
  omega

/-- The array of distances after the first call. -/
def distOf (W : Dev nD → Valuation τ sig (Elt F)) (c : Dev nD) : Buf (Elt F) ((c : Thread nD τ).loc main_v0) :=
  (pd W 0 0 c).arrAt 2 cfg0.N
/-- The result after the last call. -/
def attnOf (W : Dev nD → Valuation τ sig (Elt F)) (c : Dev nD) : Buf (Elt F) ((c : Thread nD τ).loc main_v5) :=
  (pd W 1 1 c).arrAt 9 cfg2.N

/-- The buffers after the first call, … -/
def afterDist (c : Dev nD) : Valuation τ sig (Elt F) := Function.update (W c) (Proc.devRef .tc main_v0) (distOf W c)
/-- … and after the last. -/
def afterAttn (c : Dev nD) : Valuation τ sig (Elt F) := Function.update (W c) (Proc.devRef .tc main_v5) (attnOf W c)

theorem devRef_ne {b b' : Ref sig .tc} (h : b ≠ b') : (Proc.devRef .tc b : DevRef τ sig) ≠ Proc.devRef .tc b' :=
  fun e => h (Proc.devRef_injective _ e)

theorem afterDist_self (c : Dev nD) : afterDist W c (Proc.devRef .tc main_v0) = distOf W c := Function.update_self ..
theorem afterDist_of_ne (c : Dev nD) {b : Ref sig .tc} (h : b ≠ main_v0) : afterDist W c (Proc.devRef .tc b) = W c (Proc.devRef .tc b) :=
  Function.update_of_ne (devRef_ne h) _ _
theorem afterAttn_self (c : Dev nD) : afterAttn W c (Proc.devRef .tc main_v5) = attnOf W c := Function.update_self ..
theorem afterAttn_of_ne (c : Dev nD) {b : Ref sig .tc} (h : b ≠ main_v5) : afterAttn W c (Proc.devRef .tc b) = W c (Proc.devRef .tc b) :=
  Function.update_of_ne (devRef_ne h) _ _

/-- What the main thread holds beside its boundary at a stage. -/
abbrev stage (n : ℕ) (c : Dev nD) (W : Valuation τ sig (Elt F)) : sProp 𝕄 :=
  iprop(unscopedBufs c (fun b => W b) ∗ ∃ w, ⌜(K (F := F)).WBelow (T c) w (8 * (inferInstance : SparseCore.Cfg.Blocks 1 1).fst n)⌝ ∗ owes (T c) ((K (F := F)).Otc c n) w)

/-- The pipeline's account of what has been waited on is the main thread's. -/
theorem owesAt_stage (n : ℕ) (p : Fin 2) (c : Dev nD) (t) :
    ((pd W n p c).owesAt none t : sProp 𝕄)
      ⊣⊢ iprop(∃ w, ⌜(K (F := F)).WBelow (T c) w (8 * (inferInstance : SparseCore.Cfg.Blocks 1 1).fst n)⌝ ∗ owes (T c) ((K (F := F)).Otc c n) w) := by
  have h1 : (pd W n p c).owed t = (K (F := F)).Otc c n := by match p with | 0 => rfl | 1 => rfl
  have h2 : (pd W n p c).recorded t = waited (F := F) c n := by match p with | 0 => rfl | 1 => rfl
  unfold Pipeline.Dat.owesAt Pipeline.owesWithin Pipeline.Dat.bound
  rw [h1, h2]
  constructor
  · iintro ⟨%w, %hw, HO⟩
    iexists w; isplitr
    · ipureintro
      intro q hq
      rcases hw hq with h | ⟨_, _, rfl⟩
      · exact h
      · show (K (F := F)).lev _ none ≤ _
        rw [SparseCore.Cfg.lev_none]; exact Nat.zero_le _
    iexact HO
  · iintro ⟨%w, %hw, HO⟩
    iexists w; isplitr
    · ipureintro
      exact fun q hq => Or.inl (hw q hq)
    iexact HO

theorem waits (n : ℕ) (p : Fin 2) (c : Dev nD) :
    (levAts (K (F := F)).L (K (F := F)).lev : sProp 𝕄) ⊢ Pipeline.cellsWaits (Pipeline.pin (pcfgs (F := F)) adm) (pd W n) none p c :=
  Pipeline.cellsWaits_intro _ _ _ _ _ fun w s t => by
    have h1 : (pd W n p c).owed t = (K (F := F)).Otc c n := by match p with | 0 => rfl | 1 => rfl
    rw [h1]
    exact (K (F := F)).mayWait_none _ (Otc_none c n)

/-- The first call as a region of the main thread. -/
def distRegion (n : ℕ) (hn : n = 0) :
    RegionSeg pcfgs adm (pd W n) none (defs₀ (F := F)) 𝒱₀ (K (F := F)).L (K (F := F)).lev 0 where
  win := winFacts₀0
  block_pos := block_pos0
  stage_whole := stage_whole0
  K := PEmpty
  osem k := k.elim
  ho := Pipeline.OwnSemFacts.none _
  hbody c := (Dist.obligation _ _ _ none).loose
  hwaits := waits W n 0
  pre c := stage n c (W c)
  post c := stage n c (afterDist W c)
  X _ := iprop(emp)
  Y _ := iprop(emp)
  Z c := Pipeline.unscopedRest spec0 c fun b => W c b
  hentry c := by
    rw [Pipeline.prefHeld_of_none _ rfl, Pipeline.ownSems0_none]
    iintro ⟨⟨Hb, HO⟩, -, -⟩
    ihave Hb' := (Pipeline.arrays_of_unscopedBufs_shared pcfgs adm (pd W n) (p := 0) winFacts₀0 sharedIn0 arr_whole0 c (fun _ _ => rfl) (fun b => W c b) (fun w => Dist.dat_A (fun b => W c b) ((K (F := F)).Otc c n) (waited (F := F) c n) w)) $$ Hb
    icases Hb' with ⟨Ha, Hr⟩
    imodintro
    isplitl [Ha]; · iexact Ha
    isplitr; · iempintro
    isplitl [HO]
    · iapply (owesAt_stage W n 0 c 0).2; iexact HO
    isplitr; · iempintro
    iexact Hr
  hin c := by
    rw [Pipeline.prefHeld_of_none _ rfl]
    refine BIBase.Entails.trans (Q := Pipeline.scopedRest spec0 c) ?_ .rfl
    iintro ⟨-, -, H⟩; iexact H
  hout c := by
    rw [Pipeline.ownSems0_none]
    refine BIBase.Entails.trans (P := Pipeline.scopedRest spec0 c) ?_ .rfl
    iintro H
    isplitr; · iempintro
    isplitr; · iempintro
    iexact H
  hexit c := by
    subst hn
    iintro ⟨Ha, HO, -, Hr⟩
    imodintro
    isplitl [Ha Hr]
    · iapply (Pipeline.unscopedBufs_of_arrays_shared pcfgs adm (p := 0) winFacts₀0 sharedIn0 arr_whole0 c (pd W 0) (fun _ _ => rfl) (fun b => W c b) (fun b => afterDist W c b) _ ?hF ?hR)
      rotate_left 2
      · isplitl [Ha] <;> iassumption
      · intro w
        match w with
        | ⟨0, _⟩ => exact ((pd W 0 0 c).arrAt_in 0 rfl _).trans (afterDist_of_ne W c (b := main_arg0) (by decide)).symm
        | ⟨1, _⟩ => exact ((pd W 0 0 c).arrAt_in 1 rfl _).trans (afterDist_of_ne W c (b := main_arg0) (by decide)).symm
        | ⟨2, _⟩ => exact (afterDist_self W c).symm
      · intro b hb
        exact afterDist_of_ne W c (fun e => hb (e ▸ Finset.mem_image.mpr ⟨2, Finset.mem_univ _, rfl⟩))
    · iapply (owesAt_stage W 0 0 c (Fin.last _)).1; iexact HO

/-- The last call as a region of the main thread. -/
def attnRegion (n : ℕ) (hn : n = 1) :
    RegionSeg pcfgs adm (pd W n) none (defs₀ (F := F)) 𝒱₀ (K (F := F)).L (K (F := F)).lev 1 where
  win := winFacts₀2
  block_pos := block_pos2
  stage_whole := stage_whole2
  K := PEmpty
  osem k := k.elim
  ho := Pipeline.OwnSemFacts.none _
  hbody c := (Attn.obligation _ _ _ none).loose
  hwaits := waits W n 1
  pre c := stage n c (W c)
  post c := stage n c (afterAttn W c)
  X _ := iprop(emp)
  Y _ := iprop(emp)
  Z c := Pipeline.unscopedRest spec2 c fun b => W c b
  hentry c := by
    rw [Pipeline.prefHeld_of_none _ rfl, Pipeline.ownSems0_none]
    iintro ⟨⟨Hb, HO⟩, -, -⟩
    ihave Hb' := (Pipeline.arrays_of_unscopedBufs_shared pcfgs adm (pd W n) (p := 1) winFacts₀2 sharedIn2 arr_whole2 c (fun _ _ => rfl) (fun b => W c b) (fun w => Attn.dat_A (fun b => W c b) ((K (F := F)).Otc c n) (waited (F := F) c n) w)) $$ Hb
    icases Hb' with ⟨Ha, Hr⟩
    imodintro
    isplitl [Ha]; · iexact Ha
    isplitr; · iempintro
    isplitl [HO]
    · iapply (owesAt_stage W n 1 c 0).2; iexact HO
    isplitr; · iempintro
    iexact Hr
  hin c := by
    rw [Pipeline.prefHeld_of_none _ rfl]
    refine BIBase.Entails.trans (Q := Pipeline.scopedRest spec2 c) ?_ .rfl
    iintro ⟨-, -, H⟩; iexact H
  hout c := by
    rw [Pipeline.ownSems0_none]
    refine BIBase.Entails.trans (P := Pipeline.scopedRest spec2 c) ?_ .rfl
    iintro H
    isplitr; · iempintro
    isplitr; · iempintro
    iexact H
  hexit c := by
    subst hn
    iintro ⟨Ha, HO, -, Hr⟩
    imodintro
    isplitl [Ha Hr]
    · iapply (Pipeline.unscopedBufs_of_arrays_shared pcfgs adm (p := 1) winFacts₀2 sharedIn2 arr_whole2 c (pd W 1) (fun _ _ => rfl) (fun b => W c b) (fun b => afterAttn W c b) _ ?hF ?hR)
      rotate_left 2
      · isplitl [Ha] <;> iassumption
      · intro w
        match w with
        | ⟨0, _⟩ => exact ((pd W 1 1 c).arrAt_in 0 rfl _).trans (afterAttn_of_ne W c (b := main_arg0) (by decide)).symm
        | ⟨1, _⟩ => exact ((pd W 1 1 c).arrAt_in 1 rfl _).trans (afterAttn_of_ne W c (b := main_arg0) (by decide)).symm
        | ⟨2, _⟩ => exact ((pd W 1 1 c).arrAt_in 2 rfl _).trans (afterAttn_of_ne W c (b := main_v3) (by decide)).symm
        | ⟨3, _⟩ => exact ((pd W 1 1 c).arrAt_in 3 rfl _).trans (afterAttn_of_ne W c (b := main_arg2) (by decide)).symm
        | ⟨4, _⟩ => exact ((pd W 1 1 c).arrAt_in 4 rfl _).trans (afterAttn_of_ne W c (b := main_arg2) (by decide)).symm
        | ⟨5, _⟩ => exact ((pd W 1 1 c).arrAt_in 5 rfl _).trans (afterAttn_of_ne W c (b := main_arg1) (by decide)).symm
        | ⟨6, _⟩ => exact ((pd W 1 1 c).arrAt_in 6 rfl _).trans (afterAttn_of_ne W c (b := main_arg3) (by decide)).symm
        | ⟨7, _⟩ => exact ((pd W 1 1 c).arrAt_in 7 rfl _).trans (afterAttn_of_ne W c (b := main_v4) (by decide)).symm
        | ⟨8, _⟩ => exact ((pd W 1 1 c).arrAt_in 8 rfl _).trans (afterAttn_of_ne W c (b := main_arg5) (by decide)).symm
        | ⟨9, _⟩ => exact (afterAttn_self W c).symm
      · intro b hb
        exact afterAttn_of_ne W c (fun e => hb (e ▸ Finset.mem_image.mpr ⟨9, Finset.mem_univ _, rfl⟩))
    · iapply (owesAt_stage W 1 1 c (Fin.last _)).1; iexact HO

/-- A pipelined call inside the SparseCore program's main thread: the region's step, lifted. -/
theorem call_step [∀ e, Nonempty (Elt F e)] {n : ℕ} {p : Fin 2} (R : RegionSeg pcfgs adm (pd W n) none (defs₀ (F := F)) 𝒱₀ (K (F := F)).L (K (F := F)).lev p)
    (c : Dev nD) (Φ : PUnit → sProp 𝕄) :
    iprop((iprop(boundary (T c) ∗ R.post c) -∗ Φ ⟨⟩) ∗ boundary (T c) ∗ R.pre c ∗ levAts (K (F := F)).L (K (F := F)).lev
        ∗ Pipeline.cellsGhost (Pipeline.pin (pcfgs (F := F)) adm) EP p c ∗ Pipeline.toksInit (Pipeline.pin (pcfgs (F := F)) adm) EP p c)
      ⊢ wp frame (wpE ((K (F := F)).defs (D (F := F))) 𝒱 (T c) none) Set.univ
          (Prog.lift (.customCall (SparseCore.inner (Pipeline.entry p)) ())) Φ := by
  refine BI.Entails.trans ?_ ((K (F := F)).wp_liftProg (D (F := F)) 𝒱 (T c) Set.univ none (.op (.customCall (Pipeline.entry p) ()) .ret) Φ)
  refine BIBase.Entails.trans ?_ (RegionSeg.wp pcfgs adm (pd W n) none cellOf_inj EP (defs₀ (F := F)) 𝒱₀ (K (F := F)).L (K (F := F)).lev R c none (fun _ h => nomatch h) .ret Φ)
  iintro ⟨Hk, Hr⟩
  isplitl [Hk]
  · iintro H
    rw [wp_ret]
    imodintro
    iapply Hk; iexact H
  iexact Hr

end Cert.Thresh

end
-- ==== Proof.Launch.lean ====
/-
  The call as a whole: what the TensorCore hands the tiles and gets back, and the program's run.
-/
module

public import proofs.«01_k».proof.Proof.Steps

@[expose] public section

noncomputable section

namespace Cert.Thresh

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v1_scv : Memref Cert.KernelIdeal.sig Kind.scVector Space.hbm Cert.KernelIdeal.S8192x1024 EltTy.f32)
local notation "oV" => (Memref.whole Cert.KernelIdeal.main_v2_scv : Memref Cert.KernelIdeal.sig Kind.scVector Space.hbm Cert.KernelIdeal.S512x16 EltTy.f32)
local notation "bA" => (Memref.whole Cert.KernelIdeal.cc1_scratch0 : Memref Cert.KernelIdeal.sig Kind.scVector Space.vmem Cert.KernelIdeal.S16x1024 EltTy.f32)
local notation "bB" => (Memref.whole Cert.KernelIdeal.cc1_scratch1 : Memref Cert.KernelIdeal.sig Kind.scVector Space.vmem Cert.KernelIdeal.S16x1024 EltTy.f32)
local notation "bT" => (Memref.whole Cert.KernelIdeal.cc1_scratch2 : Memref Cert.KernelIdeal.sig Kind.scVector Space.vmem Cert.KernelIdeal.S16x16 EltTy.f32)

abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The tiles' shares of the argument, their rows of the result -/

/-- The coordinates of tile `i` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

/-- The number of tile `i` of SparseCore `c`. -/
abbrev num (c : Fin 2) (i : Fin 16) : Fin 32 := ⟨2 * i.val + c.val, by omega⟩

/-- The tiles by number. -/
def byNum : Fin 2 × Fin 16 ≃ Fin 32 where
  toFun p := num p.1 p.2
  invFun k := (⟨k.val % 2, by omega⟩, ⟨k.val / 2, by omega⟩)
  left_inv p := by
    apply Prod.ext <;> apply Fin.ext <;> show _ = _ <;> simp only [num] <;> omega
  right_inv k := by apply Fin.ext; show 2 * (k.val / 2) + k.val % 2 = k.val; omega

theorem bigSep_tiles (Φ : Fin 32 → sProp 𝕄) :
    bigSep Finset.univ Φ = bigSep Finset.univ fun c : Fin 2 => bigSep Finset.univ fun i : Fin 16 => Φ (num c i) := by
  rw [bigSep_univ_equiv byNum, bigSep_univ_prod]
  rfl

theorem bigSep_numbers (n : ℕ) (Φ : ℕ → sProp 𝕄) :
    bigSep (Finset.range n) Φ = bigSep (Finset.univ : Finset (Fin n)) fun i => Φ i.val := by
  have e : Finset.range n = (Finset.univ : Finset (Fin n)).map Fin.valEmbedding := by
    ext i
    simp only [Finset.mem_range, Finset.mem_map, Finset.mem_univ, true_and, Fin.valEmbedding_apply]
    exact ⟨fun h => ⟨⟨i, h⟩, rfl⟩, fun ⟨j, e⟩ => e ▸ j.isLt⟩
  rw [e, bigSep_map]
  rfl

/-- The share of the argument that tile `k` reads through. -/
abbrev tok (k : Fin 32) : PosShare TreeShare := Transfers.shareTokN fullShare k.val
abbrev spare : PosShare TreeShare := Transfers.shareDrop fullShare 32

theorem rowSet_eq (i : Fin 32) : rowSet i = (row i).set := by
  show ((View.whole (main_v2_scv : Ref sig .scVector)).slice (row i)).set = _
  rw [View.set_slice]; exact Finset.map_refl
theorem rows_disjoint : ∀ i ∈ (Finset.univ : Finset (Fin 32)), ∀ j ∈ (Finset.univ : Finset (Fin 32)), i ≠ j → Disjoint (rowSet i) (rowSet j) :=
  fun i _ j _ h => by rw [rowSet_eq, rowSet_eq]; exact Rect.part_disjoint hdiv h
theorem rows_cover : (Finset.univ : Finset (Fin 32)).biUnion rowSet = Finset.univ :=
  (Finset.biUnion_congr rfl fun i _ => rowSet_eq i).trans (Rect.biUnion_part hdiv)

/-- What tile `k` holds: its share of the argument and its rows of the result. -/
abbrev held (d : Dev nD) (x : Buf (Elt F) (xLoc d)) (o : Buf (Elt F) (oLoc d)) (k : Fin 32) : sProp 𝕄 :=
  iprop((xLoc d ↦{tok k} x) ∗ oLoc d ↦[rowSet k]{fullShare} o)

/-- The two arrays whole are a spare share of the argument and what the tiles hold. -/
theorem deal (d : Dev nD) (x : Buf (Elt F) (xLoc d)) (o : Buf (Elt F) (oLoc d)) :
    (iprop((xLoc d ↦{fullShare} x) ∗ oLoc d ↦{fullShare} o) : sProp 𝕄)
      ⊣⊢ iprop((xLoc d ↦{spare} x) ∗ bigSep Finset.univ fun c : Fin 2 => bigSep Finset.univ fun i : Fin 16 => held d x o (num c i)) := by
  have hx := Transfers.pointsTo_toks_range (ℓ := xLoc d) (S := Finset.univ) (f := x) (nD := nD) (τ := τ) (sig := sig) (Ix := HIx 1)
    (Name := ℕ) (U := UU) (Lvl := ℕ) fullShare 32
  rw [bigSep_numbers 32] at hx
  have ho : (oLoc d ↦{fullShare} o : sProp 𝕄) = bigSep Finset.univ fun k : Fin 32 => oLoc d ↦[rowSet k]{fullShare} o := by
    rw [← pointsTo_biUnion Finset.univ (ℓ := oLoc d) rowSet rows_disjoint, rows_cover]; try rfl
  rw [← bigSep_tiles (held d x o), bigSep_sep', ho]
  constructor
  · iintro ⟨Hx, Ho⟩
    ihave Hx' := hx.1 $$ Hx
    icases Hx' with ⟨Hs, Ht⟩
    isplitl [Hs]; · iexact Hs
    isplitl [Ht]; · iexact Ht
    iexact Ho
  · iintro ⟨Hs, Ht, Ho⟩
    isplitl [Hs Ht]
    · iapply hx.2
      isplitl [Hs]; · iexact Hs
      iexact Ht
    · iexact Ho

variable [FloatOps F]

/-! ## The handshakes -/

section Pay

variable (X : (d : Dev nD) → Buf (Elt F) (xLoc d)) (o : (d : Dev nD) → Buf (Elt F) (oLoc d))

/-- The one call takes each tile's share and rows, and brings them back with the thresholds in the rows. -/
def P : (K (F := F)).Pay (nD := nD) (Val := Elt F) (Name := ℕ) (U := UU) where
  st := fun q d c => match q with | 0 => bigSep Finset.univ fun i : Fin 16 => held d (X d) (o d) (num c i)
  dn := fun q d c => match q with | 0 => bigSep Finset.univ fun i : Fin 16 => held d (X d) (outOf (X d)) (num c i)
  go := fun q d c i => match q with | 0 => held d (X d) (o d) (num c i)
  td := fun q d c i => match q with | 0 => held d (X d) (outOf (X d)) (num c i)
  x := fun _ _ => iprop(emp)

instance P_storable : (P (F := F) X o).IsStorable where
  st q d c := match q with
    | 0 => (inferInstance : BI.Storable (upEmb : UEmb _ 𝕄) (bigSep Finset.univ fun i : Fin 16 => held d (X d) (o d) (num c i)))
  dn q d c := match q with
    | 0 => (inferInstance : BI.Storable (upEmb : UEmb _ 𝕄) (bigSep Finset.univ fun i : Fin 16 => held d (X d) (outOf (X d)) (num c i)))
  go q d c i := match q with
    | 0 => (inferInstance : BI.Storable (upEmb : UEmb _ 𝕄) (held d (X d) (o d) (num c i)))
  td q d c i := match q with
    | 0 => (inferInstance : BI.Storable (upEmb : UEmb _ 𝕄) (held d (X d) (outOf (X d)) (num c i)))

theorem defs₀_vector (c : Fin τ.nSC) (s : Fin τ.nSub) :
    defs₀ (F := F) (.scVector c s) 1 ()
      = SparseCore.onTile hcore1 hsub1 (fun c s => cc1__thresh_sc_body (coordsV c s)
          xV (Memref.isWhole_whole _) oV (Memref.isWhole_whole _) bA (Memref.isWhole_whole _) bB (Memref.isWhole_whole _)
          bT (Memref.isWhole_whole _) cc1_scratch3 cc1_scratch4 cc1_scoped0) ⟨⟩ c s := rfl

theorem tileObl (hF : (K (F := F)).Facts) : (K (F := F)).TileObl (D (F := F)) 𝒱 (P X o) v₀ 0 := by
  intro d c i O W hO _ _
  simp only [show (P X o).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF (tok (num c i)) (X d) (o d) O W hO

theorem vecSplit : (K (F := F)).VecSplit' (P X o) 0 := by
  intro d c
  show (bigSep Finset.univ fun i : Fin 16 => held d (X d) (o d) (num c i)) ⊢ |={Set.univ}=> iprop(
      (bigSep Finset.univ fun i : Fin 16 => held d (X d) (o d) (num c i))
      ∗ ((bigSep Finset.univ fun i : Fin 16 => held d (X d) (outOf (X d)) (num c i))
          -∗ bigSep Finset.univ fun i : Fin 16 => held d (X d) (outOf (X d)) (num c i)))
  iintro H; imodintro
  isplitl [H]; · iexact H
  iintro H; iexact H

/-! ## The launch element -/

/-- The rounds of the handshakes and of the pipelines' transfers, as launched. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

omit [FloatOps F] in
theorem bigSep_emp' {I : Type} (s : Finset I) : (bigSep s fun _ => iprop(emp)) = (iprop(emp) : sProp 𝕄) := bigSep_emp_const s

/-- What the main thread is dealt for its two pipelined calls. -/
abbrev dealt (d : Dev nD) : sProp 𝕄 :=
  iprop((bigSep Finset.univ fun p : Fin 2 => Pipeline.cellsGhost (Pipeline.pin (pcfgs (F := F)) adm) EP p d)
    ∗ bigSep Finset.univ fun p : Fin 2 => Pipeline.toksInit (Pipeline.pin (pcfgs (F := F)) adm) EP p d)

theorem dealt_eq (d : Dev nD) :
    dealt (F := F) d = iprop((Pipeline.cellsGhost (Pipeline.pin (pcfgs (F := F)) adm) EP 0 d ∗ Pipeline.cellsGhost (Pipeline.pin (pcfgs (F := F)) adm) EP 1 d)
      ∗ Pipeline.toksInit (Pipeline.pin (pcfgs (F := F)) adm) EP 0 d ∗ Pipeline.toksInit (Pipeline.pin (pcfgs (F := F)) adm) EP 1 d) := by
  unfold dealt
  rw [bigSep_univ_eq_bigSepL [(0 : Fin 2), (1 : Fin 2)] (by decide) (by decide), bigSep_univ_eq_bigSepL [(0 : Fin 2), (1 : Fin 2)] (by decide) (by decide)]
  rfl

theorem hu₀ : (ownU (u₀ (F := F)) : sProp 𝕄)
    ⊢ |={Set.univ}=> iprop(BI.own (EH (initOf (K (F := F)).hsCells (K (F := F)).hsToks)) ∗ (bigSep Finset.univ fun d : Dev nD => dealt (F := F) d)
        ∗ bigSep Finset.univ fun thr : Thread nD τ => bigSep Finset.univ fun q : Fin 1 => (P X o).x q thr) := by
  unfold u₀
  iintro Hu
  ihave H := (ownU_pair (initOf (K (F := F)).hsCells (K (F := F)).hsToks) _) $$ Hu
  icases H with ⟨HH, HR⟩
  ihave H := (own_pair_emb embR _ _) $$ HR
  icases H with ⟨HP, -⟩
  imod (Pipeline.fund_ghost (Pipeline.pin (pcfgs (F := F)) adm) (EP (F := F)) cellOf_inj) $$ HP with ⟨Hc, Ht⟩
  imodintro
  isplitl [HH]; · iexact HH
  isplitl [Hc Ht]
  · rw [bigSep_sep']
    isplitl [Hc]; · iexact Hc
    iexact Ht
  rw [show (bigSep Finset.univ fun thr : Thread nD τ => bigSep Finset.univ fun q : Fin 1 => (P (F := F) X o).x q thr) = bigSep Finset.univ fun _ => iprop(emp) from
    bigSep_congr fun _ _ => bigSep_univ_of_subsingleton (0 : Fin 1), bigSep_emp']
  iempintro

end Pay

/-! ## The buffers, stage by stage -/

variable (m : (ℓ : Loc nD τ sig) → Buf (Elt F) ℓ) (ρ : Dev nD → PrngReg)

/-- A valuation after the SparseCore call. -/
def afterThresh (W : Dev nD → Valuation τ sig (Elt F)) (c : Dev nD) : Valuation τ sig (Elt F) :=
  Function.update (W c) (Proc.devRef .tc main_v2) (outOf (W c (Proc.devRef .tc main_v1)))

theorem afterThresh_self (W : Dev nD → Valuation τ sig (Elt F)) (d : Dev nD) :
    afterThresh W d (Proc.devRef .tc main_v2) = outOf (W d (Proc.devRef .tc main_v1)) := Function.update_self ..

theorem afterThresh_of_ne (W : Dev nD → Valuation τ sig (Elt F)) (d : Dev nD) {b : Ref sig .tc} (h : b ≠ main_v2) :
    afterThresh W d (Proc.devRef .tc b) = W d (Proc.devRef .tc b) := Function.update_of_ne (devRef_ne h) _ _

abbrev flat : HloOp τ sig (Elt F) := StableHlo.reshape main_v0 main_v1 (rfl : (.f32 : EltTy) = .f32) shapeCasts_S8x1024x1024_S8192x1024
abbrev unflat : HloOp τ sig (Elt F) := StableHlo.reshape main_v2 main_v3 (rfl : (.f32 : EltTy) = .f32) shapeCasts_S512x16_S8x1024x1
abbrev biasRow : HloOp τ sig (Elt F) := StableHlo.reshape main_arg4 main_v4 (rfl : (.f32 : EltTy) = .f32) shapeCasts_S256_S1x256

/-- As launched, -/
def W0 (d : Dev nD) : Valuation τ sig (Elt F) := fun b => m (d, b)
/-- with the distances, -/
def W1 (d : Dev nD) : Valuation τ sig (Elt F) := afterDist (W0 m) d
/-- with the distances laid out for the SparseCores, -/
def W2 (d : Dev nD) : Valuation τ sig (Elt F) := flat.result (W1 m d)
/-- with the thresholds, -/
def W3 (d : Dev nD) : Valuation τ sig (Elt F) := afterThresh (W2 m) d
/-- with the thresholds as a column, -/
def W4 (d : Dev nD) : Valuation τ sig (Elt F) := unflat.result (W3 m d)
/-- with the bias as a row, -/
def W5 (d : Dev nD) : Valuation τ sig (Elt F) := biasRow.result (W4 m d)
/-- and at the end. -/
def W6 (d : Dev nD) : Valuation τ sig (Elt F) := afterAttn (W5 m) d

abbrev PW (W : Dev nD → Valuation τ sig (Elt F)) : (K (F := F)).Pay (nD := nD) (Val := Elt F) (Name := ℕ) (U := UU) :=
  P (fun d => W d (Proc.devRef .tc main_v1)) (fun d => W d (Proc.devRef .tc main_v2))

abbrev PM : (K (F := F)).Pay (nD := nD) (Val := Elt F) (Name := ℕ) (U := UU) := PW (W2 m)

/-- The unscoped buffers but the SparseCore call's two. -/
abbrev others : Finset (Ref sig .tc) := ((Finset.univ.filter fun b : Ref sig .tc => ¬ b.isScoped).erase main_v1).erase main_v2

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_v1) ∗ (oLoc d ↦{fullShare} W main_v2) ∗ bigSep others fun b => (d.tc : Thread nD τ).loc b ↦{fullShare} W b) := by
  unfold unscopedBufs
  rw [SparseCore.bigSep_erase' (show main_v1 ∈ Finset.univ.filter fun b : Ref sig .tc => ¬ b.isScoped by decide),
    SparseCore.bigSep_erase' (show main_v2 ∈ (Finset.univ.filter fun b : Ref sig .tc => ¬ b.isScoped).erase main_v1 by decide)]

/-- The main thread's state but for what it owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some ((inferInstance : SparseCore.Cfg.Blocks 1 1).last q)) 1)))

theorem tcSt_eq (d : Dev nD) (n : ℕ) :
    ((K (F := F)).tcSt EH d n : sProp 𝕄)
      = iprop((∃ w, ⌜(K (F := F)).WBelow (T d) w (8 * (inferInstance : SparseCore.Cfg.Blocks 1 1).fst n)⌝ ∗ owes (T d) ((K (F := F)).Otc d n) w) ∗ tcRest d n) := rfl

/-- A reshape as a step of the main thread. -/
theorem reshape_step (op : HloOp τ sig (Elt F)) (hop : op.bufs ⊆ StableHlo.tcRefs τ sig) (hf : op.fresh = ∅) (n : ℕ) (d : Dev nD) (W W' : Valuation τ sig (Elt F))
    (hW : op.result W = W') (Φ : PUnit → sProp 𝕄) :
    iprop(boundary (T d) ∗ stage n d W ∗ ((boundary (T d) ∗ stage n d W') -∗ Φ ⟨⟩))
      ⊢ wp frame (wpE ((K (F := F)).defs (D (F := F))) 𝒱 (T d) none) Set.univ (hlo rfl op fun _ => .ret ⟨⟩) Φ := by
  subst hW
  unfold stage
  rw [Pipeline.unscopedBufs_held d W, Pipeline.unscopedBufs_held d (op.result W)]
  iintro ⟨Hb, ⟨Hu, HO⟩, Hk⟩
  iapply (StableHlo.wp_hlo_within 𝒱 (T d) none Set.univ (Pipeline.sub_ucRefs op hop) hf) $$ [Hb Hu]
  · isplitl [Hb] <;> iassumption
  iintro ⟨Hb, Hu⟩
  rw [wp_ret]
  imodintro
  iapply Hk
  isplitl [Hb]; · iexact Hb
  isplitl [Hu] <;> iassumption

/-- The SparseCore call as a step of the main thread. -/
theorem thresh_step (W : Dev nD → Valuation τ sig (Elt F)) (κ : GSem nD τ sig → ℕ) (d : Dev nD) (Φ : PUnit → sProp 𝕄) :
    iprop((K (F := F)).ctx EH (PW W) κ ∗ stage 0 d (W d) ∗ tcRest d 0 ∗ ((stage 1 d (afterThresh W d) ∗ tcRest d 1) -∗ Φ ⟨⟩))
      ⊢ wp frame (wpE ((K (F := F)).defs (D (F := F))) 𝒱 (T d) none) Set.univ ((K (F := F)).run d 0) Φ := by
  unfold stage
  rw [unscopedBufs_eq d fun b => W d b, unscopedBufs_eq d fun b => afterThresh W d b,
    show (bigSep others fun b => ((d.tc : Thread nD τ).loc b ↦{fullShare} afterThresh W d b : sProp 𝕄)) = bigSep others fun b => (d.tc : Thread nD τ).loc b ↦{fullShare} W d b from
      bigSep_congr fun b hb => by rw [afterThresh_of_ne W d (Finset.ne_of_mem_erase hb)],
    afterThresh_self, afterThresh_of_ne W d (show main_v1 ≠ main_v2 by decide)]
  iintro ⟨#Hctx, ⟨⟨Hx, Ho, Hr⟩, HO⟩, Hst, Hk⟩
  ihave Hd := (deal d (W d (Proc.devRef .tc main_v1)) (W d (Proc.devRef .tc main_v2))).1 $$ [Hx Ho]
  · isplitl [Hx] <;> iassumption
  icases Hd with ⟨Hs, Ht⟩
  iapply ((K (F := F)).wp_run (D (F := F)) 𝒱 (EH := EH) (P := PW W) κ d 0)
  isplitr; · iexact Hctx
  isplitl [Hst HO]
  · iapply (BIBase.Entails.of_eq (tcSt_eq d 0).symm)
    isplitl [HO] <;> iassumption
  isplitl [Ht]; · iexact Ht
  iintro ⟨Hst, Hdn⟩
  ihave Hxo := (deal d (W d (Proc.devRef .tc main_v1)) (outOf (W d (Proc.devRef .tc main_v1)))).2 $$ [Hs Hdn]
  · isplitl [Hs]; · iexact Hs
    iexact Hdn
  icases Hxo with ⟨Hx, Ho⟩
  ihave Hst' := (BIBase.Entails.of_eq (show ((K (F := F)).tcSt EH d ((0 : Fin 1).val + 1) : sProp 𝕄) = _ from tcSt_eq d 1)) $$ Hst
  icases Hst' with ⟨HO, Hst⟩
  iapply Hk
  isplitr [Hst]
  · isplitr [HO]
    · isplitl [Hx]; · iexact Hx
      isplitl [Ho] <;> iassumption
    iexact HO
  iexact Hst

/-- The first pipelined call as a step of the main thread. -/
theorem dist_step [∀ e, Nonempty (Elt F e)] (W : Dev nD → Valuation τ sig (Elt F)) (d : Dev nD) (Φ : PUnit → sProp 𝕄) :
    iprop(((boundary (T d) ∗ stage 0 d (afterDist W d)) -∗ Φ ⟨⟩) ∗ boundary (T d) ∗ stage 0 d (W d) ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (T d) none) Set.univ (Prog.lift (.customCall (SparseCore.inner (Pipeline.entry 0)) ())) Φ :=
  call_step W (distRegion W 0 rfl) d Φ

/-- The last call likewise. -/
theorem attn_step [∀ e, Nonempty (Elt F e)] (W : Dev nD → Valuation τ sig (Elt F)) (d : Dev nD) (Φ : PUnit → sProp 𝕄) :
    iprop(((boundary (T d) ∗ stage 1 d (afterAttn W d)) -∗ Φ ⟨⟩) ∗ boundary (T d) ∗ stage 1 d (W d) ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (T d) none) Set.univ (Prog.lift (.customCall (SparseCore.inner (Pipeline.entry 1)) ())) Φ :=
  call_step W (attnRegion W 1 rfl) d Φ

/-! ## The main thread -/

/-- What @main ends with. -/
abbrev FIN (d : Dev nD) : sProp 𝕄 := unscopedBufs d fun b => W6 m d b

theorem hmain [∀ e, Nonempty (Elt F e)] (κ : GSem nD τ sig → ℕ) (d : Dev nD) :
    iprop((K (F := F)).ctx EH (PM m) κ ∗ (K (F := F)).tcSt EH d 0 ∗ (K (F := F)).tcRes m ρ d ∗ dealt (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [dealt_eq]
  simp only [main, wp_bind, wp_pure]
  rw [tcSt_eq d 0]
  iintro ⟨#Hctx, ⟨HO, Hst⟩, ⟨Hb, Hu, Hts, -⟩, ⟨Hg0, Hg1⟩, ⟨Ht0, Ht1⟩⟩
  ihave Hlev := (SparseCore.Cfg.ctx_levAts κ) $$ Hctx
  -- the distances
  iapply (dist_step (W0 m) d _)
  isplitr [Hb Hu HO Hg0 Ht0]
  swap
  · isplitl [Hb]; · iexact Hb
    isplitl [Hu HO]
    · isplitl [Hu]; · iexact Hu
      iexact HO
    isplitr; · iexact Hlev
    isplitl [Hg0] <;> iassumption
  iintro ⟨Hb, HS⟩
  -- laid out for the SparseCores
  iapply (reshape_step flat (StableHlo.reshape_bufs_sub ..) rfl 0 d (afterDist (W0 m) d) (W2 m d) rfl _)
  isplitl [Hb]; · iexact Hb
  isplitl [HS]; · iexact HS
  iintro ⟨Hb, HS⟩
  -- the thresholds
  iapply (thresh_step (W2 m) κ d _)
  isplitr; · iexact Hctx
  isplitl [HS]; · iexact HS
  isplitl [Hst]; · iexact Hst
  iintro ⟨HS, Hst⟩
  -- the thresholds as a column, the bias as a row
  iapply (reshape_step unflat (StableHlo.reshape_bufs_sub ..) rfl 1 d (afterThresh (W2 m) d) (W4 m d) rfl _)
  isplitl [Hb]; · iexact Hb
  isplitl [HS]; · iexact HS
  iintro ⟨Hb, HS⟩
  iapply (reshape_step biasRow (StableHlo.reshape_bufs_sub ..) rfl 1 d (W4 m d) (W5 m d) rfl _)
  isplitl [Hb]; · iexact Hb
  isplitl [HS]; · iexact HS
  iintro ⟨Hb, HS⟩
  -- the attention
  iapply (attn_step (W5 m) d _)
  isplitr [Hb HS Hg1 Ht1]
  swap
  · isplitl [Hb]; · iexact Hb
    isplitl [HS]; · iexact HS
    isplitr; · iexact Hlev
    isplitl [Hg1] <;> iassumption
  iintro ⟨Hb, Hu, HO⟩
  imodintro
  isplitl [Hst HO]
  · iapply (BIBase.Entails.of_eq (tcSt_eq d 1).symm)
    isplitl [HO] <;> iassumption
  isplitl [Hu]; · iexact Hu
  isplitl [Hb] <;> iassumption

def fq (d : Dev nD) (s' : Phys nD τ sig (Elt F)) : Prop :=
  ∀ b ∈ Finset.univ.filter fun b : Ref sig .tc => ¬ b.isScoped, s'.mem.mem ((d.tc : Thread nD τ).loc b) = W6 m d b

theorem hfin (d : Dev nD) (s' : Phys nD τ sig (Elt F)) : iprop(FIN m d ∗ SI s') ⊢ (⌜fq m d s'⌝ : sProp 𝕄) := by
  unfold FIN unscopedBufs
  iintro H
  ihave H' := (pointsTo_read_all (Finset.univ.filter fun b : Ref sig .tc => ¬ b.isScoped) (fun b => (d.tc : Thread nD τ).loc b) (fun b => W6 m d b) s') $$ H
  icases H' with ⟨%h, -⟩
  ipureintro; exact h

/-! ## The run -/

/-- At the end: every buffer of the main thread as the stages say, every semaphore at zero. -/
def QC : PUnit × MemSt nD τ sig (Elt F) → Prop :=
  fun r => (∀ (c : Dev nD), ∀ b ∈ Finset.univ.filter fun b : Ref sig .tc => ¬ b.isScoped, r.2.mem ((c.tc : Thread nD τ).loc b) = W6 m c b) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) scFacts v₀
    (fun q hq => match q with | 0 => nomatch hq)
    (fun q _ => match q with | 0 => tileObl _ _ scFacts)
    (fun q _ => match q with | 0 => SparseCore.Cfg.VecSplit.of_plain (vecSplit _ _))
    m ρ main (fun d => dealt (F := F) d) (FIN m) (u₀ (F := F)) (sep_elim_left.trans (hu₀ _ _)) (hmain m ρ) (fq m) (hfin m) (QC m) (fun _ h hz => ⟨h, hz⟩)

end Cert.Thresh

end
-- ==== Proof.Order.lean ====
/-
  The reference's sorted row: the k-th of a row's largest values is the row's value at the k-th place of a rearrangement that
  lists the row from the largest value down.
-/
module

public import proofs.«01_k».proof.Proof.Regs
public import Idealize.ShloMosaic.Lib.SortFacts

@[expose] public section

noncomputable section

namespace Cert.Thresh

open Idealize.ShloMosaic

/-- The rearrangement that sorts `y` from the largest value down. -/
def down {n : ℕ} (y : Fin n → EReal) : Fin n → Fin n :=
  sortedFrom fun k k' => Ideal.cmp .ogt (y k) (y k') == 1#1

theorem before_iff {n : ℕ} (y : Fin n → EReal) (k k' : Fin n) : (Ideal.cmp .ogt (y k) (y k') == 1#1) = decide (y k' < y k) := by
  show (BitVec.ofBool (decide (y k' < y k)) == 1#1) = _
  by_cases h : y k' < y k <;> simp [h]

theorem down_bijective {n : ℕ} (y : Fin n → EReal) : Function.Bijective (down y) :=
  ⟨sortedFrom_injective _, sortedFrom_surjective _⟩

theorem down_sorted {n : ℕ} (y : Fin n → EReal) (i j : Fin n) (h : i < j) : y (down y j) ≤ y (down y i) := by
  have e : down y = sortedFrom fun k k' => decide (y k' < y k) := by
    unfold down
    congr 1
    funext k k'
    exact before_iff y k k'
  have := sortedFrom_noInversion (fun k k' : Fin n => decide (y k' < y k)) (fun k k' => decide (y k' < y k))
    (fun a b hab => by simp only [decide_eq_true_eq, decide_eq_false_iff_not, not_lt] at hab ⊢; exact hab.le) (fun a b hab => hab)
    (fun a b c hab hbc => by simp only [decide_eq_false_iff_not, not_lt] at hab hbc ⊢; exact hab.trans hbc) i j h
  rw [← e] at this
  simpa using this

/-- The row `i` of a matrix. -/
abbrev rowOfMat {N M : ℕ} (x : (⟨2, ![N, M]⟩ : Shape).Idx → EReal) (i : Fin N) : Fin M → EReal := fun n => x fun | 0 => i | 1 => n

theorem topK_apply {N M K : ℕ} (x : FVec Ideal ⟨2, ![N, M]⟩ .f32) (h : (⟨2, ![N, M]⟩ : Shape).Slices (fun _ => 0) ⟨2, ![N, K]⟩) (hK : K ≤ M)
    (j : (⟨2, ![N, K]⟩ : Shape).Idx) :
    (Host.topK ⟨2, ![N, K]⟩ 1 (FloatOps.cmpfTotal (F := Ideal) (φ := .f32) .gt) x h).1 j
      = rowOfMat x (j 0) (down (rowOfMat x (j 0)) ⟨(j 1).val, Nat.lt_of_lt_of_le (j 1).isLt hK⟩) := by
  unfold Host.topK Host.sort2
  simp only [show (1 : ℕ) < (⟨2, ![N, M]⟩ : Shape).rank from Nat.one_lt_two, dite_true, extractStridedSlice]
  have al : ∀ (i : (⟨2, ![N, M]⟩ : Shape).Idx) (hi : (i 0).val = (j 0).val) (k : Fin M),
      x (i.along (⟨1, Nat.one_lt_two⟩ : Fin (⟨2, ![N, M]⟩ : Shape).rank) k) = rowOfMat x (j 0) k := by
    intro i hi k
    show x _ = x _
    congr 1
    funext a
    match a with
    | 0 => exact (Function.update_of_ne (show (0 : Fin 2) ≠ ⟨1, Nat.one_lt_two⟩ by decide) _ _).trans (Fin.ext hi)
    | 1 => exact Function.update_self _ _ _
  refine (al _ (Nat.zero_add _) _).trans (congrArg (rowOfMat x (j 0)) ?_)
  have e : (⟨0 + (j 1).val, by rw [Nat.zero_add]; exact Nat.lt_of_lt_of_le (j 1).isLt hK⟩ : Fin M)
      = ⟨(j 1).val, Nat.lt_of_lt_of_le (j 1).isLt hK⟩ := Fin.ext (Nat.zero_add _)
  rw [← e]
  refine congrFun (congrArg sortedFrom (funext fun k => funext fun k' => ?_)) _
  exact congrArg₂ (fun a b => Ideal.cmp .ogt a b == 1#1) (al _ (Nat.zero_add _) k) (al _ (Nat.zero_add _) k')

end Cert.Thresh

end
-- ==== Proof.HostTerm.lean ====
/-
  The reference, cut into the steps its text has: squared distances, the nearest neighbours' numbers, the rows taken at them,
  queries and keys, scores, and the weighted sum.
-/
module

public import Idealize.ShloMosaic.Lib.Pointwise
public import proofs.«01_k».proof.Proof.Gen.ReferenceIdeal.Run

@[expose] public section

noncomputable section

namespace Cert.Thresh.Host

open Idealize.ShloMosaic
open Cert.ReferenceIdeal Cert.ReferenceIdeal.Gen Cert.ReferenceIdeal.Facts

/-- The points as columns. -/
def cols (x : FVec Ideal S8x1024x3 .f32) : FVec Ideal S8x3x1024 .f32 := transpose S8x3x1024 [0, 2, 1] x transposes_S8x1024x3_S8x3x1024_0_2_1

/-- Every point's squared norm. -/
def norms (x : FVec Ideal S8x1024x3 .f32) : FVec Ideal S8x1x1024 .f32 :=
  broadcastInDim S8x1x1024 ![0, 2] bcast_S8x1024_S8x1x1024_0_2
    (Host.reduceAdd (mulf (cols x) (cols x)) (constant S_ .f32 0x00000000#32) reducesTo_S8x3x1024_S8x1024_d1 h_S_)

/-- Minus every pair's squared distance. -/
def pdist (x : FVec Ideal S8x1024x3 .f32) : FVec Ideal S8x1024x1024 .f32 :=
  subf (subf (broadcastInDim S8x1024x1024 ![0, 1, 2] bcast_S8x1x1024_S8x1024x1024_0_1_2 (Host.negf (norms x)))
      (mulf (broadcastInDim S8x1024x1024 ![] bcast_S_S8x1024x1024 (constant S_ .f32 0xC0000000#32))
        (Host.dotGeneral dot_S8x1024x3_S8x3x1024_S8x1024x1024_2_1_1_2_0_0 none (transpose S8x1024x3 [0, 2, 1] (cols x) transposes_S8x3x1024_S8x1024x3_0_2_1) (cols x))))
    (broadcastInDim S8x1024x1024 ![0, 1, 2] bcast_S8x1024x1_S8x1024x1024_0_1_2 (transpose S8x1024x1 [0, 2, 1] (norms x) transposes_S8x1x1024_S8x1024x1_0_2_1))

/-- The sixteen nearest of every point, by number. -/
def near (x : FVec Ideal S8x1024x3 .f32) : IVec S8x1024x16 32 :=
  (Host.topK S8x1024x16 2 (FloatOps.cmpfTotal .gt) (pdist x) sliceFits_S8x1024x1024_S8x1024x16).2

/-- The numbers in a table of all batches' rows. -/
def flatNear (i : IVec S8x1024x16 32) : IVec S131072 32 :=
  shapeCast _ (addi i (broadcastInDim S8x1024x16 ![0, 1, 2] bcast_S8x1x1_S8x1024x16_0_1_2
    (shapeCast _ (muli (iotaInDim S8 32 0) (broadcastInDim S8 ![] bcast_S_S8 (constantI S_ 32 1024#32))) shapeCasts_S8_S8x1x1))) shapeCasts_S8x1024x16_S131072

/-- The numbers as a column, a negative one counted from the end. -/
def wrapped (i : IVec S131072 32) : IVec S131072x1 32 :=
  broadcastInDim S131072x1 ![0] bcast_S131072_S131072x1_0
    (select (cmpi .slt i (broadcastInDim S131072 ![] bcast_S_S131072 (constantI S_ 32 0#32)))
      (addi i (broadcastInDim S131072 ![] bcast_S_S131072 (constantI S_ 32 8192#32))) i)

/-- Which of the numbers are rows of the table. -/
def inTable (w : IVec S131072x1 32) : IVec S131072 1 :=
  Host.reduce IntOp.andi
    (andi (cmpi .sge w (broadcastInDim S131072x1 ![] bcast_S_S131072x1 (constantI S_ 32 0#32)))
      (cmpi .sle w (broadcastInDim S131072x1 ![0, 1] bcast_S1x1_S131072x1_0_1 (broadcastInDim S1x1 ![1] bcast_S1_S1x1_1 (constantI S1 32 8191#32)))))
    (constantI S_ 1 1#1) reducesTo_S131072x1_S131072_d1 h_S_

/-- The rows of a table at the given numbers. -/
def taken (t : FVec Ideal S8192x256 .f32) (i : IVec S131072 32) : FVec Ideal S131072x256 .f32 :=
  select (broadcastInDim S131072x256 ![0] bcast_S131072_S131072x256_0 (inTable (wrapped i)))
    (Host.gather gather_S8192x256_S131072x1_S131072x256_1_0_n_n_0_1_1256 t (wrapped i))
    (broadcastInDim S131072x256 ![] bcast_S_S131072x256 (constant S_ .f32 0x7FC00000#32))

/-- Every point's neighbours' features. -/
def neighbours (f : FVec Ideal S8x1024x256 .f32) (i : IVec S8x1024x16 32) : FVec Ideal S8x1024x16x256 .f32 :=
  shapeCast _ (taken (shapeCast _ f shapeCasts_S8x1024x256_S8192x256) (flatNear i)) shapeCasts_S131072x256_S8x1024x16x256

def query (f : FVec Ideal S8x1024x256 .f32) (wq : FVec Ideal S256x256 .f32) (bq : FVec Ideal S256 .f32) : FVec Ideal S8192x1x256 .f32 :=
  shapeCast _ (addf (Host.dotGeneral dot_S8192x256_S256x256_S8192x256_1_0_0_1_n_n none (shapeCast _ f shapeCasts_S8x1024x256_S8192x256)
      (transpose S256x256 [1, 0] wq transposes_S256x256_S256x256_1_0))
    (broadcastInDim S8192x256 ![0, 1] bcast_S1x256_S8192x256_0_1 (broadcastInDim S1x256 ![1] bcast_S256_S1x256_1 bq))) shapeCasts_S8192x256_S8192x1x256

def offsets (f : FVec Ideal S8x1024x256 .f32) (i : IVec S8x1024x16 32) : FVec Ideal S8192x16x256 .f32 :=
  shapeCast _ (subf (neighbours f i) (broadcastInDim S8x1024x16x256 ![0, 1, 2, 3] bcast_S8x1024x1x256_S8x1024x16x256_0_1_2_3
    (broadcastInDim S8x1024x1x256 ![0, 1, 3] bcast_S8x1024x256_S8x1024x1x256_0_1_3 f))) shapeCasts_S8x1024x16x256_S8192x16x256

def key (off : FVec Ideal S8192x16x256 .f32) (wk : FVec Ideal S256x256 .f32) (bk : FVec Ideal S256 .f32) : FVec Ideal S8192x256x16 .f32 :=
  addf (transpose S8192x256x16 [0, 2, 1] (Host.dotGeneral dot_S8192x16x256_S256x256_S8192x16x256_2_1_01_0_n_n none off wk) transposes_S8192x16x256_S8192x256x16_0_2_1)
    (broadcastInDim S8192x256x16 ![0, 1, 2] bcast_S1x256x1_S8192x256x16_0_1_2 (broadcastInDim S1x256x1 ![1] bcast_S256_S1x256x1_1 bk))

def scores (q : FVec Ideal S8192x1x256 .f32) (k : FVec Ideal S8192x256x16 .f32) : FVec Ideal S8192x1x16 .f32 :=
  Host.divf (Host.dotGeneral dot_S8192x1x256_S8192x256x16_S8192x1x16_2_1_1_2_0_0 none q k)
    (broadcastInDim S8192x1x16 ![] bcast_S_S8192x1x16 (constant S_ .f32 0x41800000#32))

/-- The exponentials of the scores less their largest. -/
def exps (u : FVec Ideal S8192x1x16 .f32) : FVec Ideal S8192x1x16 .f32 :=
  Host.exp (subf u (broadcastInDim S8192x1x16 ![0, 1, 2] bcast_S8192x1x1_S8192x1x16_0_1_2 (broadcastInDim S8192x1x1 ![0, 1] bcast_S8192x1_S8192x1x1_0_1
    (maximumf (broadcastInDim S8192x1 ![] bcast_S_S8192x1 (constant S_ .f32 0xFF800000#32))
      (Host.reduce FloatOps.maximumf u (constant S_ .f32 0xFF800000#32) reducesTo_S8192x1x16_S8192x1_d2 h_S_)))))

def softmax (u : FVec Ideal S8192x1x16 .f32) : FVec Ideal S8192x1x16 .f32 :=
  Host.divf (exps u) (broadcastInDim S8192x1x16 ![0, 1, 2] bcast_S8192x1x1_S8192x1x16_0_1_2 (broadcastInDim S8192x1x1 ![0, 1] bcast_S8192x1_S8192x1x1_0_1
    (Host.reduceAdd (exps u) (constant S_ .f32 0x00000000#32) reducesTo_S8192x1x16_S8192x1_d2 h_S_)))

def output (a : FVec Ideal S8192x1x16 .f32) (g : FVec Ideal S8x1024x16x256 .f32) : FVec Ideal S8x256x1024 .f32 :=
  transpose S8x256x1024 [0, 2, 1] (shapeCast _ (Host.dotGeneral dot_S8192x1x16_S8192x16x256_S8192x1x256_2_1_1_2_0_0 none a
    (shapeCast _ g shapeCasts_S8x1024x16x256_S8192x16x256)) shapeCasts_S8192x1x256_S8x1024x256) transposes_S8x1024x256_S8x256x1024_0_2_1

/-- The reference of its seven arguments. -/
def result (x : FVec Ideal S8x1024x3 .f32) (g : FVec Ideal S8x256x1024 .f32) (f : FVec Ideal S8x1024x256 .f32) (wq : FVec Ideal S256x256 .f32)
    (bq : FVec Ideal S256 .f32) (wk : FVec Ideal S256x256 .f32) (bk : FVec Ideal S256 .f32) : FVec Ideal S8x256x1024 .f32 :=
  output (softmax (scores (query f wq bq) (key (offsets f (near x)) wk bk)))
    (neighbours (transpose S8x1024x256 [0, 2, 1] g transposes_S8x256x1024_S8x1024x256_0_2_1) (near x))

set_option maxRecDepth 8192 in
set_option maxHeartbeats 4000000 in
theorem result_eq (m : (ℓ : Loc nD τ sig) → Buf (Elt Ideal) ℓ) (c : Dev nD) :
    Cert.ReferenceIdeal.Value.res_out0 m c
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6)) := by
  unfold Cert.ReferenceIdeal.Value.res_out0 Cert.ReferenceIdeal.Value.res_main_v68
  rfl

end Cert.Thresh.Host

end
-- ==== Proof.Near.lean ====
/-
  The reference's neighbours by number: the k-th of a point's neighbours is the k-th point when the points are listed from the
  nearest on.
-/
module

public import proofs.«01_k».proof.Proof.HostTerm
public import proofs.«01_k».proof.Proof.Order

@[expose] public section

noncomputable section

namespace Cert.Thresh

open Idealize.ShloMosaic

theorem two_word : Ideal.ofBits .f32 1073741824#32 = ((2 : ℝ) : EReal) := by
  simp [Ideal.ofBits, Ideal.ieee]
  rw [← EReal.coe_mul]
  norm_num

theorem neg_two_word : Ideal.ofBits .f32 3221225472#32 = -((2 : ℝ) : EReal) := by
  simp [Ideal.ofBits, Ideal.ieee]
  rw [← EReal.coe_mul]
  norm_num

/-- Minus the squared distance of two points of `p`. -/
def gap {M D : ℕ} (p : Fin M → Fin D → EReal) (n m : Fin M) : EReal :=
  ((2 : ℝ) : EReal) * ∑ d, p n d * p m d - ∑ d, p n d * p n d - ∑ d, p m d * p m d

/-- The three terms in the reference's order. -/
theorem gap_eq (a b s : EReal) : -b - -((2 : ℝ) : EReal) * s - a = ((2 : ℝ) : EReal) * s - a - b := by
  rw [EReal.neg_mul, sub_eq_add_neg (-b), neg_neg, sub_eq_add_neg, sub_eq_add_neg, sub_eq_add_neg,
    add_comm (-b), add_right_comm]

variable {A N M K : ℕ}

theorem along_three (x : (⟨3, ![A, N, M]⟩ : Shape).Idx → EReal) (i : (⟨3, ![A, N, M]⟩ : Shape).Idx) (a : Fin A) (n : Fin N)
    (ha : (i 0).val = a.val) (hn : (i 1).val = n.val) (k : Fin M) :
    x (i.along (⟨2, Nat.lt_succ_self 2⟩ : Fin (⟨3, ![A, N, M]⟩ : Shape).rank) k) = x (ix3 a n k) := by
  congr 1
  funext c
  match c with
  | 0 => exact (Function.update_of_ne (show (0 : Fin 3) ≠ ⟨2, by decide⟩ by decide) _ _).trans (Fin.ext ha)
  | 1 => exact (Function.update_of_ne (show (1 : Fin 3) ≠ ⟨2, by decide⟩ by decide) _ _).trans (Fin.ext hn)
  | 2 => exact Function.update_self _ _ _

theorem sorted_three (x : FVec Ideal ⟨3, ![A, N, M]⟩ .f32) (i : (⟨3, ![A, N, M]⟩ : Shape).Idx) (a : Fin A) (n : Fin N)
    (ha : (i 0).val = a.val) (hn : (i 1).val = n.val) (k : Fin M) :
    sortedFrom (fun k k' : Fin M =>
      FloatOps.cmpfTotal (F := Ideal) (φ := .f32) .gt (x (i.along (⟨2, Nat.lt_succ_self 2⟩ : Fin (⟨3, ![A, N, M]⟩ : Shape).rank) k))
        (x (i.along (⟨2, Nat.lt_succ_self 2⟩ : Fin (⟨3, ![A, N, M]⟩ : Shape).rank) k')) == 1#1) k
      = down (fun m => x (ix3 a n m)) k := by
  refine congrFun (congrArg sortedFrom (funext fun k => funext fun k' => ?_)) k
  rw [along_three x i a n ha hn, along_three x i a n ha hn]
  rfl

theorem topK_val (x : FVec Ideal ⟨3, ![A, N, M]⟩ .f32) (h : (⟨3, ![A, N, M]⟩ : Shape).Slices (fun _ => 0) ⟨3, ![A, N, K]⟩) (hK : K ≤ M)
    (a : Fin A) (n : Fin N) (k : Fin K) :
    (Host.topK ⟨3, ![A, N, K]⟩ 2 (FloatOps.cmpfTotal (F := Ideal) (φ := .f32) .gt) x h).1 (ix3 a n k)
      = x (ix3 a n (down (fun m => x (ix3 a n m)) ⟨k.val, Nat.lt_of_lt_of_le k.isLt hK⟩)) := by
  unfold Host.topK Host.sort2
  simp only [show (2 : ℕ) < (⟨3, ![A, N, M]⟩ : Shape).rank from (by decide : 2 < 3), dite_true, extractStridedSlice]
  refine (along_three x _ a n (by exact Nat.zero_add _) (by exact Nat.zero_add _) _).trans (congrArg (fun c => x (ix3 a n c)) ?_)
  refine (sorted_three x _ a n (by exact Nat.zero_add _) (by exact Nat.zero_add _) _).trans (congrArg _ (Fin.ext (Nat.zero_add _)))

theorem topK_num (x : FVec Ideal ⟨3, ![A, N, M]⟩ .f32) (h : (⟨3, ![A, N, M]⟩ : Shape).Slices (fun _ => 0) ⟨3, ![A, N, K]⟩) (hK : K ≤ M)
    (a : Fin A) (n : Fin N) (k : Fin K) :
    (Host.topK ⟨3, ![A, N, K]⟩ 2 (FloatOps.cmpfTotal (F := Ideal) (φ := .f32) .gt) x h).2 (ix3 a n k)
      = BitVec.ofNat 32 (down (fun m => x (ix3 a n m)) ⟨k.val, Nat.lt_of_lt_of_le k.isLt hK⟩).val := by
  unfold Host.topK Host.sort2
  simp only [show (2 : ℕ) < (⟨3, ![A, N, M]⟩ : Shape).rank from (by decide : 2 < 3), dite_true, extractStridedSlice]
  refine congrArg (BitVec.ofNat 32) ?_
  refine (congrArg Fin.val (Function.update_self (⟨2, Nat.lt_succ_self 2⟩ : Fin (⟨3, ![A, N, M]⟩ : Shape).rank) _ _)).trans (congrArg Fin.val ?_)
  refine (sorted_three x _ a n (by exact Nat.zero_add _) (by exact Nat.zero_add _) _).trans (congrArg _ (Fin.ext (Nat.zero_add _)))

namespace Host

open Cert.ReferenceIdeal Cert.ReferenceIdeal.Gen Cert.ReferenceIdeal.Facts

theorem pdist_apply (x : FVec Ideal S8x1024x3 .f32) (b : Fin 8) (n m : Fin 1024) :
    pdist x (ix3 b n m) = gap (fun n d => x (ix3 b n d)) n m := by
  refine Eq.trans ?_ (gap_eq _ _ _)
  rw [← neg_two_word]
  pointwise [pdist, norms, cols]

/-- The point at the k-th place of a point's list. -/
def nth (x : FVec Ideal S8x1024x3 .f32) (b : Fin 8) (n : Fin 1024) (k : Fin 16) : Fin 1024 :=
  down (gap (fun n d => x (ix3 b n d)) n) ⟨k.val, by omega⟩

theorem near_eq (x : FVec Ideal S8x1024x3 .f32) : near x = fun j => BitVec.ofNat 32 (nth x (j 0) (j 1) (j 2)).val := by
  funext j
  obtain ⟨b, n, k, rfl⟩ : ∃ b n k, j = ix3 b n k := ⟨j 0, j 1, j 2, eq_ix3 j⟩
  refine (topK_num (pdist x) sliceFits_S8x1024x1024_S8x1024x16 (by decide) b n k).trans ?_
  rw [show (fun m => pdist x (ix3 b n m)) = gap (fun n d => x (ix3 b n d)) n from funext fun m => pdist_apply x b n m]
  rfl

end Host

end Cert.Thresh

end
-- ==== Proof.DistValue.lean ====
/-
  The array the distance call leaves: minus the squared distance of every pair of a batch's points.
-/
module

public import proofs.«01_k».proof.Proof.Dist
public import proofs.«01_k».proof.Proof.Near
public import Idealize.ShloMosaic.Lib.Pipeline.ValueKit.Geometry
public import Idealize.ShloMosaic.Lib.Pipeline.ValueKit.Acc
public import Idealize.ShloMosaic.Lib.Pointwise

@[expose] public section

noncomputable section

namespace Cert.Thresh

open Cert.KernelIdeal Cert.KernelIdeal.Gen
open Idealize.ShloMosaic Idealize.ShloMosaic.TcCoe Idealize.ShloMosaic.Tactic
open Idealize.ShloMosaic.SparseCore.Cfg (HIx)

namespace Dist

variable {c : Dev nD} (V : Vals Ideal c) (O : CellTallies nD τ sig (HIx 1)) (B : Set (SemLoc sig × HIx 1))

/-! The blocks' places in their arrays. -/

theorem index_0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem index_1 : ∀ t : Fin cfg0.N, win0_1.index t = ![(grid0.coords t 0).val, 0, 0] :=
  (by decide +kernel : ∀ t : Fin grid0.N, win0_1.index t = ![(grid0.coords t 0).val, 0, 0])
theorem index_2 : ∀ t : Fin cfg0.N, win0_2.index t = ![(grid0.coords t 0).val, (grid0.coords t 1).val, 0] :=
  (by decide +kernel : ∀ t : Fin grid0.N, win0_2.index t = ![(grid0.coords t 0).val, (grid0.coords t 1).val, 0])

/-- The array of distances. -/
def target : S8x1024x1024.Idx → EReal := fun i => gap (fun n d => V main_arg0 (ix3 (i 0) n d)) (i 1) (i 2)

/-- The stored block at an index. -/
theorem pay (x0 : Vec Ideal S1x256x3 .f32) (x1 : Vec Ideal S1x1024x3 .f32) (r : Fin 256) (m : Fin 1024) :
  k0_pay1 (F := Ideal) x0 x1 (ix3 0 r m) = ((2 : ℝ) : EReal) * ∑ x, x0 (ix3 0 r x) * x1 (ix3 0 m x) - ∑ x, x0 (ix3 0 r x) * x0 (ix3 0 r x) - ∑ x, x1 (ix3 0 m x) * x1 (ix3 0 m x) := by
  rw [← two_word]
  pointwise [k0_pay1]

/-- A point's block of points at an index. -/
theorem blk_own (t : Fin cfg0.N) (r : Fin 256) (d : Fin 3) (b : Fin 8) (n : Fin 1024) (hb : b.val = (grid0.coords t 0).val)
    (hn : n.val = (grid0.coords t 1).val * 256 + r.val) : blk V 0 t (ix3 0 r d) = V main_arg0 (ix3 b n d) := by
  unfold blk
  blk_simp
  refine congrArg (V main_arg0) ?_
  blk_ext [index_0]

/-- All the batch's points at an index. -/
theorem blk_all (t : Fin cfg0.N) (m : Fin 1024) (d : Fin 3) (b : Fin 8) (hb : b.val = (grid0.coords t 0).val) :
    blk V 1 t (ix3 0 m d) = V main_arg0 (ix3 b m d) := by
  unfold blk
  blk_simp
  refine congrArg (V main_arg0) ?_
  blk_ext [index_1]

/-- What the call leaves. -/
theorem array : (dat V O B).arrAt 2 cfg0.N = target V := by
  refine (dat V O B).arrAt_eq_of_covers 2 _ (by decide +kernel) fun t hf y => ?_
  blk_simp
  rw [after_2]
  unfold left
  frame_out
  obtain ⟨r, m, rfl⟩ : ∃ r m, y = ix3 (0 : Fin 1) r m := ⟨y 1, y 2, (eq_ix3 y).trans (congrArg (ix3 · (y 1) (y 2)) (Subsingleton.elim (α := Fin 1) _ _))⟩
  rw [pay]
  generalize hi : ((View.whole main_v0).slice (win0_2.rect t)).emb (ix3 (0 : Fin 1) r m) = i
  have h0 : (i 0).val = (grid0.coords t 0).val := by rw [← hi]; blk_simp [index_2]; exact Nat.add_zero _
  have h1 : (i 1).val = (grid0.coords t 1).val * 256 + r.val := by rw [← hi]; blk_simp [index_2]
  have h2 : (i 2).val = m.val := by rw [← hi]; blk_simp [index_2]
  unfold target gap
  simp only [blk_own V t r _ (i 0) (i 1) h0 h1, blk_all V t m _ (i 0) h0, show i 2 = m from Fin.ext h2]

end Dist

end Cert.Thresh

end
-- ==== Proof.Usable.lean ====
/-
  What the precondition says: every point's sixteenth nearest is nearer than its seventeenth, and the features, the two weight
  matrices and the two biases are real numbers.
-/
module

public import proofs.«01_k».proof.Proof.Near
public import proofs.«01_k».proof.Pre_usable
public import proofs.«01_k».proof.Proof.Gen.Pre_usable
public import Idealize.ShloMosaic.Lib.ReduceAll

@[expose] public section

noncomputable section

namespace Cert.Thresh.Usable

open Idealize.ShloMosaic
open Cert.Pre_usable Cert.Pre_usable.Facts

theorem top_word : Ideal.ofBits .f32 2139095040#32 = ⊤ := by
  simp [Ideal.ofBits, Ideal.ieee]

/-- An extended real whose magnitude is below infinity is a real number. -/
theorem real_of_lt (x : EReal) (h : max x (-x) < ⊤) : ∃ r : ℝ, x = r := by
  induction x with
  | bot => simp at h
  | top => simp at h
  | coe r => exact ⟨r, rfl⟩

/-- All elements' magnitudes below infinity. -/
theorem real_of_cmp {s : Shape} (x y : FVec Ideal s .f32) (i : s.Idx) (hy : y i = Ideal.ofBits .f32 2139095040#32)
    (h : cmpf .olt (Host.absf x) y i = 1#1) : ∃ r : ℝ, x i = r := by
  have h' : BitVec.ofBool (decide (max (x i) (-(x i)) < y i)) = 1#1 := h
  rw [hy, top_word] at h'
  refine real_of_lt (x i) ?_
  by_contra hn
  rw [decide_eq_false hn] at h'
  exact absurd h' (by decide)

theorem and_one {a b : BitVec 1} (h : IntOp.andi a b = 1#1) : a = 1#1 ∧ b = 1#1 := by
  revert h
  show a &&& b = 1#1 → _
  revert a b
  decide

instance : Subsingleton S_.Idx := ⟨fun a b => funext fun i => i.elim0⟩

variable (x : FVec Ideal S8x1024x3 .f32) (g : FVec Ideal S8x256x1024 .f32) (f : FVec Ideal S8x1024x256 .f32) (wq : FVec Ideal S256x256 .f32)
  (bq : FVec Ideal S256 .f32) (wk : FVec Ideal S256x256 .f32) (bk : FVec Ideal S256 .f32)

theorem column_lt (v : FVec Ideal S8x1024x17 .f32) (b : Fin 8) (n : Fin 1024)
    (h : cmpf .ogt (shapeCast S8x1024 (extractStridedSlice S8x1024x1 ![0, 0, 15] v slices_S8x1024x17_S8x1024x1_0_0_15) shapeCasts_S8x1024x1_S8x1024)
      (shapeCast S8x1024 (extractStridedSlice S8x1024x1 ![0, 0, 16] v slices_S8x1024x17_S8x1024x1_0_0_16) shapeCasts_S8x1024x1_S8x1024) (ix2 b n) = 1#1) :
    v (ix3 b n 16) < v (ix3 b n 15) := by
  have h15 : shapeCast S8x1024 (extractStridedSlice S8x1024x1 ![0, 0, 15] v slices_S8x1024x17_S8x1024x1_0_0_15) shapeCasts_S8x1024x1_S8x1024 (ix2 b n)
      = v (ix3 b n 15) := by pointwise
  have h16 : shapeCast S8x1024 (extractStridedSlice S8x1024x1 ![0, 0, 16] v slices_S8x1024x17_S8x1024x1_0_0_16) shapeCasts_S8x1024x1_S8x1024 (ix2 b n)
      = v (ix3 b n 16) := by pointwise
  replace h := (congrArg₂ (fun a b => BitVec.ofBool (decide (b < a))) h15 h16).symm.trans h
  by_contra hn
  rw [decide_eq_false hn] at h
  exact absurd h (by decide)

/-- What the precondition gives. -/
structure Good : Prop where
  split : ∀ (b : Fin 8) (n : Fin 1024), gap (fun n d => x (ix3 b n d)) n (down (gap (fun n d => x (ix3 b n d)) n) ⟨16, by omega⟩)
    < gap (fun n d => x (ix3 b n d)) n (down (gap (fun n d => x (ix3 b n d)) n) ⟨15, by omega⟩)
  hf : ∀ i, ∃ r : ℝ, f i = r
  hwq : ∀ i, ∃ r : ℝ, wq i = r
  hbq : ∀ i, ∃ r : ℝ, bq i = r
  hwk : ∀ i, ∃ r : ℝ, wk i = r
  hbk : ∀ i, ∃ r : ℝ, bk i = r

theorem good (h : fn (F := Ideal) x g f wq bq wk bk = fun _ => 1#1) : Good x f wq bq wk bk := by
  have h0 := congrFun h (fun i => i.elim0)
  unfold fn fn_part1 fn_part2 at h0
  obtain ⟨h1, e6⟩ := and_one h0
  obtain ⟨h2, e5⟩ := and_one h1
  obtain ⟨h3, e4⟩ := and_one h2
  obtain ⟨h4, e3⟩ := and_one h3
  obtain ⟨e1, e2⟩ := and_one h4
  refine ⟨fun b n => ?_, fun i => ?_, fun i => ?_, fun i => ?_, fun i => ?_, fun i => ?_⟩
  · have this := column_lt _ b n (Host.reduce_andi_all _ _ _ _ _ e1 (ix2 b n))
    have same : ∀ y, y = Host.pdist x → (Host.topK S8x1024x17 2 (FloatOps.cmpfTotal (F := Ideal) (φ := .f32) .gt) y sliceFits_S8x1024x1024_S8x1024x17).1 (ix3 b n 16)
        < (Host.topK S8x1024x17 2 (FloatOps.cmpfTotal (F := Ideal) (φ := .f32) .gt) y sliceFits_S8x1024x1024_S8x1024x17).1 (ix3 b n 15) →
        (Host.topK S8x1024x17 2 (FloatOps.cmpfTotal (F := Ideal) (φ := .f32) .gt) (Host.pdist x) sliceFits_S8x1024x1024_S8x1024x17).1 (ix3 b n 16)
        < (Host.topK S8x1024x17 2 (FloatOps.cmpfTotal (F := Ideal) (φ := .f32) .gt) (Host.pdist x) sliceFits_S8x1024x1024_S8x1024x17).1 (ix3 b n 15) :=
      fun y hy h => hy ▸ h
    replace this := same _ rfl this
    have eq := fun k => topK_val (Host.pdist x) sliceFits_S8x1024x1024_S8x1024x17 (by decide) b n k
    rw [show (fun m => Host.pdist x (ix3 b n m)) = gap (fun n d => x (ix3 b n d)) n from funext fun m => Host.pdist_apply x b n m] at eq
    rw [eq 15, eq 16, Host.pdist_apply, Host.pdist_apply] at this
    exact this
  · exact real_of_cmp f _ i rfl (Host.reduce_andi_all _ _ _ _ _ e2 i)
  · exact real_of_cmp wq _ i rfl (Host.reduce_andi_all _ _ _ _ _ e3 i)
  · exact real_of_cmp bq _ i rfl (Host.reduce_andi_all _ _ _ _ _ e4 i)
  · exact real_of_cmp wk _ i rfl (Host.reduce_andi_all _ _ _ _ _ e5 i)
  · exact real_of_cmp bk _ i rfl (Host.reduce_andi_all _ _ _ _ _ e6 i)

end Cert.Thresh.Usable

end
-- ==== Proof.Softmax.lean ====
/-
  Attention over a subset. A row of weights that vanish off the image of `e` is a row over `e`'s domain; and a softmax does
  not see a constant added to all its scores.
-/
module

public import Idealize.ShloMosaic.PureOps.Ideal
public import Idealize.ShloMosaic.PureOps.Ideal.Laws

@[expose] public section

noncomputable section

namespace Cert.Thresh

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A fold of `max` from −∞, where one value bounds the others. -/
theorem fold_max_eq {ι : Type} [Fintype ι] (f : ι → EReal) (i : ι) (h : ∀ j, f j ≤ f i) : Finset.fold max ⊥ f Finset.univ = f i := by
  refine le_antisymm ?_ ?_
  · exact (Finset.fold_max_le _).2 ⟨bot_le, fun j _ => h j⟩
  · exact (Finset.le_fold_max _).2 (.inr ⟨i, Finset.mem_univ _, le_rfl⟩)

/-- The weights of a softmax over the places the mask keeps, one by one. -/
abbrev weight {n : ℕ} (keep : Fin n → Prop) [DecidablePred keep] (s : Fin n → EReal) (m : Fin n) : EReal :=
  if keep m then Ideal.exp ((if keep m then s m else ⊥) - Finset.fold max ⊥ (fun x => if keep x then s x else ⊥) Finset.univ) else 0

/-- Attention masked to the image of `e`, against attention over `e`'s domain with scores off by a constant. -/
theorem attention_eq {n k : ℕ} [NeZero k] (keep : Fin n → Prop) [DecidablePred keep] (e : Fin k → Fin n) (he : Function.Injective e)
    (hk : ∀ m, keep m ↔ ∃ i, e i = m) (s : Fin n → EReal) (σ : Fin n → ℝ) (hs : ∀ m, s m = σ m) (c : ℝ) (u : Fin k → EReal)
    (hu : ∀ i, u i = ((σ (e i) + c : ℝ) : EReal)) (g : Fin n → EReal) :
    (∑ m, g m * Ideal.div (weight keep s m) (∑ x, weight keep s x))
      = ∑ i, Ideal.div (Ideal.exp (u i - Finset.fold max ⊥ u Finset.univ)) (∑ j, Ideal.exp (u j - Finset.fold max ⊥ u Finset.univ)) * g (e i) := by
  obtain ⟨i₀, h₀⟩ := Finite.exists_max fun i => σ (e i)
  have hu₀ : Finset.fold max ⊥ u Finset.univ = ((σ (e i₀) + c : ℝ) : EReal) := by
    rw [fold_max_eq u i₀ fun j => by rw [hu, hu]; exact EReal.coe_le_coe_iff.2 (by linarith [h₀ j]), hu]
  have hs₀ : Finset.fold max ⊥ (fun x => if keep x then s x else ⊥) Finset.univ = (σ (e i₀) : EReal) := by
    have hin : ∀ i, keep (e i) := fun i => (hk _).2 ⟨i, rfl⟩
    rw [fold_max_eq _ (e i₀) fun m => ?_]
    · simp only [hin, if_true, hs]
    · simp only [hin, if_true, hs]
      split
      · rename_i h
        obtain ⟨i, rfl⟩ := (hk m).1 h
        exact EReal.coe_le_coe_iff.2 (h₀ i)
      · exact bot_le
  have hw : ∀ i, weight keep s (e i) = (Real.exp (σ (e i) - σ (e i₀)) : EReal) := fun i => by
    have hin : keep (e i) := (hk _).2 ⟨i, rfl⟩
    unfold weight
    rw [hs₀]
    simp only [hin, if_true, hs]
    rw [← EReal.coe_sub]; rfl
  have hv : ∀ i, Ideal.exp (u i - Finset.fold max ⊥ u Finset.univ) = (Real.exp (σ (e i) - σ (e i₀)) : EReal) := fun i => by
    rw [hu₀, hu, ← EReal.coe_sub, add_sub_add_right_eq_sub]; rfl
  have hoff : ∀ m, m ∉ Finset.univ.map ⟨e, he⟩ → weight keep s m = 0 := fun m hm => by
    have : ¬ keep m := fun h => hm (by
      obtain ⟨i, rfl⟩ := (hk m).1 h
      exact Finset.mem_map_of_mem ⟨e, he⟩ (Finset.mem_univ i))
    unfold weight
    rw [if_neg this]
  have hZ : (∑ x, weight keep s x) = ((∑ j, Real.exp (σ (e j) - σ (e i₀)) : ℝ) : EReal) := by
    rw [← Finset.sum_subset (Finset.subset_univ (Finset.univ.map ⟨e, he⟩)) fun m _ hm => hoff m hm, Finset.sum_map, coe_sum]
    exact Finset.sum_congr rfl fun i _ => hw i
  have hpos : (∑ j, Real.exp (σ (e j) - σ (e i₀))) ≠ 0 :=
    (Finset.sum_pos (fun j _ => Real.exp_pos _) ⟨i₀, Finset.mem_univ _⟩).ne'
  rw [hZ, ← Finset.sum_subset (Finset.subset_univ (Finset.univ.map ⟨e, he⟩)) fun m _ hm => by
    rw [hoff m hm, Ideal.div_coe hpos, zero_mul, mul_zero], Finset.sum_map]
  refine Finset.sum_congr rfl fun i _ => ?_
  have hZ' : (∑ j, Ideal.exp (u j - Finset.fold max ⊥ u Finset.univ)) = ((∑ j, Real.exp (σ (e j) - σ (e i₀)) : ℝ) : EReal) := by
    rw [coe_sum]
    exact Finset.sum_congr rfl fun i _ => hv i
  rw [hZ', hv, mul_comm]
  show Ideal.div (weight keep s (e i)) _ * _ = _
  rw [hw]; rfl

end Cert.Thresh

end
-- ==== Proof.Take.lean ====
/-
  The reference's rows taken by number: where the numbers are those of a batch's points, the rows taken are those points' rows.
-/
module

public import proofs.«01_k».proof.Proof.HostTerm
public import Idealize.ShloMosaic.Lib.WordCmp
public import Idealize.ShloMosaic.Lib.ReduceAll

@[expose] public section

noncomputable section

namespace Cert.Thresh.Host

open Idealize.ShloMosaic
open Cert.ReferenceIdeal Cert.ReferenceIdeal.Gen Cert.ReferenceIdeal.Facts

/-- The gather read at row `t`, column `o`: the table's row of the number at `t`, brought into the table. -/
theorem rows_apply (x : FVec Ideal S8192x256 .f32) (idx : IVec S131072x1 32) (t : Fin 131072) (o : Fin 256) :
    Host.gather gather_S8192x256_S131072x1_S131072x256_1_0_n_n_0_1_1256 x idx (ix2 t o)
      = x (ix2 ⟨min (idx (ix2 t 0)).toInt.toNat 8191, by omega⟩ o) := by
  unfold Host.gather
  congr 1
  funext a
  refine Fin.ext ?_
  show GatherDims.start _ (ix2 t o) idx a + GatherDims.batchCoord _ (ix2 t o) a + GatherDims.offCoord _ (ix2 t o) a = _
  rw [GatherDims.batchCoord_eq_zero _ _ _ (List.not_mem_nil)]
  match a with
  | 0 =>
    rw [GatherDims.offCoord_eq_zero _ _ _ (fun h => ((GatherDims.mem_sKept _ _).mp h).1 (List.mem_singleton.mpr rfl))]
    unfold GatherDims.start
    rw [dif_pos (show (0 : Fin 2) ∈ gather_S8192x256_S131072x1_S131072x256_1_0_n_n_0_1_1256.startIndexMap from List.mem_singleton.mpr rfl)]
    have hsi : gather_S8192x256_S131072x1_S131072x256_1_0_n_n_0_1_1256.siIdx (ix2 t o)
        ⟨List.idxOf (0 : Fin 2) gather_S8192x256_S131072x1_S131072x256_1_0_n_n_0_1_1256.startIndexMap,
          List.idxOf_lt_length_iff.2 (List.mem_singleton.mpr rfl)⟩ = ix2 t 0 := by
      funext b
      refine Fin.ext ?_
      match b with
      | 0 => rfl
      | 1 => rfl
    rw [hsi]
    rfl
  | 1 =>
    unfold GatherDims.start
    rw [dif_neg (show (1 : Fin 2) ∉ gather_S8192x256_S131072x1_S131072x256_1_0_n_n_0_1_1256.startIndexMap from by decide)]
    unfold GatherDims.offCoord
    rw [dif_pos ((GatherDims.mem_sKept _ _).mpr ⟨by decide, List.not_mem_nil⟩)]
    exact Nat.zero_add _

/-- A batch's point `v` as a row of the table of all batches. -/
def rowOf (b v : ℕ) : BitVec 32 := BitVec.ofNat 32 (b * 1024 + v)

theorem rowOf_toNat {b v : ℕ} (hb : b < 8) (hv : v < 1024) : (rowOf b v).toNat = b * 1024 + v := by
  rw [rowOf, BitVec.toNat_ofNat]
  exact Nat.mod_eq_of_lt (by omega)

theorem rowOf_toInt {b v : ℕ} (hb : b < 8) (hv : v < 1024) : (rowOf b v).toInt = ((b * 1024 + v : ℕ) : ℤ) := by
  rw [BitVec.toInt_eq_toNat_of_lt (by rw [rowOf_toNat hb hv]; omega), rowOf_toNat hb hv]

variable (w : S8x1024x16.Idx → Fin 1024)

theorem flat_apply (t : Fin 131072) :
    flatNear (fun j => BitVec.ofNat 32 (w j).val) (ix1 t)
      = rowOf (t.val / 16384) (w (ix3 ⟨t.val / 16384, by omega⟩ ⟨t.val / 16 % 1024, by omega⟩ ⟨t.val % 16, by omega⟩)).val := by
  have e : flatNear (fun j => BitVec.ofNat 32 (w j).val) (ix1 t)
      = IntOp.addi (BitVec.ofNat 32 (w (ix3 ⟨t.val / 16384, by omega⟩ ⟨t.val / 16 % 1024, by omega⟩ ⟨t.val % 16, by omega⟩)).val)
          (IntOp.muli (BitVec.ofNat 32 (t.val / 16384)) 1024#32) := by
    pointwise [flatNear]
  rw [e]
  apply BitVec.eq_of_toNat_eq
  have hv := (w (ix3 ⟨t.val / 16384, by omega⟩ ⟨t.val / 16 % 1024, by omega⟩ ⟨t.val % 16, by omega⟩)).isLt
  rw [rowOf_toNat (by omega) hv]
  show (BitVec.ofNat 32 _ + BitVec.ofNat 32 _ * 1024#32).toNat = _
  rw [BitVec.toNat_add, BitVec.toNat_mul, BitVec.toNat_ofNat, BitVec.toNat_ofNat]
  have ht := t.isLt
  have h1 : t.val / 16384 < 8 := by omega
  rw [Nat.mod_eq_of_lt (show (w _).val < 2 ^ 32 by omega), Nat.mod_eq_of_lt (show t.val / 16384 < 2 ^ 32 by omega)]
  show (_ + (t.val / 16384 * 1024) % 2 ^ 32) % 2 ^ 32 = _
  omega

theorem wrapped_apply (t : Fin 131072) :
    wrapped (flatNear fun j => BitVec.ofNat 32 (w j).val) (ix2 t 0)
      = rowOf (t.val / 16384) (w (ix3 ⟨t.val / 16384, by omega⟩ ⟨t.val / 16 % 1024, by omega⟩ ⟨t.val % 16, by omega⟩)).val := by
  have e : wrapped (flatNear fun j => BitVec.ofNat 32 (w j).val) (ix2 t 0)
      = Scalar.select (IntOp.cmpi .slt (flatNear (fun j => BitVec.ofNat 32 (w j).val) (ix1 t)) 0#32)
          (IntOp.addi (flatNear (fun j => BitVec.ofNat 32 (w j).val) (ix1 t)) 8192#32) (flatNear (fun j => BitVec.ofNat 32 (w j).val) (ix1 t)) := by
    pointwise [wrapped]
  rw [e, flat_apply]
  have ht := t.isLt
  unfold Scalar.select
  refine if_neg ?_
  rw [WordCmp.cmpi_slt_eq, rowOf_toInt (by omega) (Fin.isLt _), BitVec.toInt_zero, decide_eq_false (by omega)]
  decide

theorem inTable_one (t : Fin 131072) : inTable (wrapped (flatNear fun j => BitVec.ofNat 32 (w j).val)) (ix1 t) = 1#1 := by
  refine Host.reduce_andi_one _ _ _ _ _ rfl fun i => ?_
  obtain ⟨t, rfl⟩ : ∃ t, i = ix2 t 0 := ⟨i 0, (eq_ix2 i).trans (congrArg (ix2 (i 0)) (Subsingleton.elim (α := Fin 1) _ _))⟩
  have ht := t.isLt
  show IntOp.andi (IntOp.cmpi .sge (wrapped _ (ix2 t 0)) 0#32) (IntOp.cmpi .sle (wrapped _ (ix2 t 0)) 8191#32) = 1#1
  rw [wrapped_apply, WordCmp.cmpi_sge_eq, WordCmp.cmpi_sle_eq, rowOf_toInt (by omega) (Fin.isLt _), BitVec.toInt_zero,
    show (8191#32 : BitVec 32).toInt = 8191 from by decide,
    decide_eq_true (by omega), decide_eq_true (by have := (w (ix3 ⟨t.val / 16384, by omega⟩ ⟨t.val / 16 % 1024, by omega⟩ ⟨t.val % 16, by omega⟩)).isLt; omega)]
  decide

/-- The row of the table of all batches' neighbours that holds point `(b, n)`'s `k`-th. -/
abbrev place (b : Fin 8) (n : Fin 1024) (k : Fin 16) : Fin 131072 := ⟨b.val * 16384 + n.val * 16 + k.val, by omega⟩

theorem neighbours_place (f : FVec Ideal S8x1024x256 .f32) (i : IVec S8x1024x16 32) (b : Fin 8) (n : Fin 1024) (k : Fin 16) (o : Fin 256) :
    neighbours f i (ix4 b n k o)
      = Scalar.select (inTable (wrapped (flatNear i)) (ix1 (place b n k)))
          (Host.gather gather_S8192x256_S131072x1_S131072x256_1_0_n_n_0_1_1256 (shapeCast S8192x256 f shapeCasts_S8x1024x256_S8192x256)
            (wrapped (flatNear i)) (ix2 (place b n k) o))
          (Ideal.ofBits .f32 2143289344#32) := by
  pointwise [neighbours, taken]

theorem table_apply (f : FVec Ideal S8x1024x256 .f32) (b : Fin 8) (v : Fin 1024) (o : Fin 256) (r : Fin 8192) (hr : r.val = b.val * 1024 + v.val) :
    shapeCast S8192x256 f shapeCasts_S8x1024x256_S8192x256 (ix2 r o) = f (ix3 b v o) := by
  have e : shapeCast S8192x256 f shapeCasts_S8x1024x256_S8192x256 (ix2 r o) = f (ix3 ⟨r.val / 1024, by omega⟩ ⟨r.val % 1024, by omega⟩ o) := by
    pointwise
  rw [e]
  have e0 : (⟨r.val / 1024, by omega⟩ : Fin 8) = b := Fin.ext (by show r.val / 1024 = b.val; omega)
  have e1 : (⟨r.val % 1024, by omega⟩ : Fin 1024) = v := Fin.ext (by show r.val % 1024 = v.val; omega)
  rw [e0, e1]

theorem wrapped_place (b : Fin 8) (n : Fin 1024) (k : Fin 16) :
    wrapped (flatNear fun j => BitVec.ofNat 32 (w j).val) (ix2 (place b n k) 0) = rowOf b.val (w (ix3 b n k)).val := by
  rw [wrapped_apply]
  have e0 : (⟨(place b n k).val / 16384, by omega⟩ : Fin 8) = b := Fin.ext (by show (b.val * 16384 + n.val * 16 + k.val) / 16384 = b.val; omega)
  have e1 : (⟨(place b n k).val / 16 % 1024, by omega⟩ : Fin 1024) = n := Fin.ext (by show (b.val * 16384 + n.val * 16 + k.val) / 16 % 1024 = n.val; omega)
  have e2 : (⟨(place b n k).val % 16, by omega⟩ : Fin 16) = k := Fin.ext (by show (b.val * 16384 + n.val * 16 + k.val) % 16 = k.val; omega)
  rw [e1, e2, e0, show (place b n k).val / 16384 = b.val from congrArg Fin.val e0]

theorem neighbours_apply (f : FVec Ideal S8x1024x256 .f32) (b : Fin 8) (n : Fin 1024) (k : Fin 16) (o : Fin 256) :
    neighbours f (fun j => BitVec.ofNat 32 (w j).val) (ix4 b n k o) = f (ix3 b (w (ix3 b n k)) o) := by
  rw [neighbours_place, inTable_one]
  refine (if_pos rfl).trans ((rows_apply _ _ _ _).trans (table_apply f b (w (ix3 b n k)) o _ ?_))
  show min (wrapped (flatNear fun j => BitVec.ofNat 32 (w j).val) (ix2 (place b n k) 0)).toInt.toNat 8191 = _
  have hv := (w (ix3 b n k)).isLt
  rw [wrapped_place, rowOf_toInt b.isLt hv]
  omega

end Cert.Thresh.Host

end
-- ==== Proof.RefValue.lean ====
/-
  The reference at one element of its result: the softmax of the sixteen neighbours' scores, weighting the neighbours' features.
-/
module

public import proofs.«01_k».proof.Proof.Near
public import proofs.«01_k».proof.Proof.Take

@[expose] public section

noncomputable section

namespace Cert.Thresh

open Idealize.ShloMosaic

theorem bot_word : Ideal.ofBits .f32 4286578688#32 = ⊥ := by
  simp [Ideal.ofBits, Ideal.ieee]

namespace Host

open Cert.ReferenceIdeal Cert.ReferenceIdeal.Gen Cert.ReferenceIdeal.Facts

variable (x : FVec Ideal S8x1024x3 .f32) (g : FVec Ideal S8x256x1024 .f32) (f : FVec Ideal S8x1024x256 .f32) (wq : FVec Ideal S256x256 .f32)
  (bq : FVec Ideal S256 .f32) (wk : FVec Ideal S256x256 .f32) (bk : FVec Ideal S256 .f32)

/-- Point `n` of batch `b` as a row of all batches' rows. -/
def pt (b : Fin 8) (n : Fin 1024) : Fin 8192 := ⟨b.val * 1024 + n.val, by omega⟩

theorem pt_div (b : Fin 8) (n : Fin 1024) (h : (pt b n).val / 1024 < 8) : (⟨(pt b n).val / 1024, h⟩ : Fin 8) = b :=
  Fin.ext (by show (b.val * 1024 + n.val) / 1024 = b.val; omega)

theorem pt_mod (b : Fin 8) (n : Fin 1024) (h : (pt b n).val % 1024 < 1024) : (⟨(pt b n).val % 1024, h⟩ : Fin 1024) = n :=
  Fin.ext (by show (b.val * 1024 + n.val) % 1024 = n.val; omega)

theorem query_row (r : Fin 8192) (o : Fin 256) :
    query f wq bq (ix3 r 0 o) = ∑ d, f (ix3 ⟨r.val / 1024, by omega⟩ ⟨r.val % 1024, by omega⟩ d) * wq (ix2 o d) + bq (ix1 o) := by
  pointwise [query]

theorem query_apply (b : Fin 8) (n : Fin 1024) (o : Fin 256) :
    query f wq bq (ix3 (pt b n) 0 o) = ∑ d, f (ix3 b n d) * wq (ix2 o d) + bq (ix1 o) := by
  rw [query_row, pt_div, pt_mod]

theorem key_apply (off : FVec Ideal S8192x16x256 .f32) (r : Fin 8192) (o : Fin 256) (k : Fin 16) :
    key off wk bk (ix3 r o k) = ∑ i, off (ix3 r k i) * wk (ix2 o i) + bk (ix1 o) := by
  pointwise [key]

/-- Two leading axes made one, read at an index. -/
theorem merged {α : Type} {A N K D R : ℕ} (v : (⟨4, ![A, N, K, D]⟩ : Shape).Idx → α) (h : (⟨4, ![A, N, K, D]⟩ : Shape).ShapeCasts ⟨3, ![R, K, D]⟩)
    (a : Fin A) (n : Fin N) (k : Fin K) (o : Fin D) (r : Fin R) (hr : r.val = a.val * N + n.val) :
    shapeCast ⟨3, ![R, K, D]⟩ v h (ix3 r k o) = v (ix4 a n k o) := by
  refine Idealize.ShloMosaic.shapeCast_apply v h _ _ ?_
  rw [Shape.rowMajor_val_four, Shape.rowMajor_val_three]
  show (((a.val * N + n.val) * K + k.val) * D + o.val) = (r.val * K + k.val) * D + o.val
  rw [hr]

/-- The points' own features, one copy for each neighbour. -/
theorem own_apply (b : Fin 8) (n : Fin 1024) (k : Fin 16) (o : Fin 256) :
    (broadcastInDim S8x1024x16x256 ![0, 1, 2, 3] bcast_S8x1024x1x256_S8x1024x16x256_0_1_2_3
      (broadcastInDim S8x1024x1x256 ![0, 1, 3] bcast_S8x1024x256_S8x1024x1x256_0_1_3 f)) (ix4 b n k o) = f (ix3 b n o) := by
  pointwise

theorem sub_at {s : Shape} (v w : FVec Ideal s .f32) (j : s.Idx) : subf v w j = v j - w j := rfl

theorem offsets_of (v w : FVec Ideal S8x1024x16x256 .f32) (b : Fin 8) (n : Fin 1024) (k : Fin 16) (o : Fin 256) :
    shapeCast S8192x16x256 (subf v w) shapeCasts_S8x1024x16x256_S8192x16x256 (ix3 (pt b n) k o) = v (ix4 b n k o) - w (ix4 b n k o) :=
  (merged (subf v w) _ b n k o (pt b n) rfl).trans (sub_at v w _)

theorem offsets_apply (i : IVec S8x1024x16 32) (b : Fin 8) (n : Fin 1024) (k : Fin 16) (o : Fin 256) :
    offsets f i (ix3 (pt b n) k o) = neighbours f i (ix4 b n k o) - f (ix3 b n o) := by
  unfold offsets
  rw [offsets_of, own_apply]

theorem scores_apply (q : FVec Ideal S8192x1x256 .f32) (k : FVec Ideal S8192x256x16 .f32) (r : Fin 8192) (j : Fin 16) :
    scores q k (ix3 r 0 j) = Ideal.div (∑ o, q (ix3 r 0 o) * k (ix3 r o j)) (Ideal.ofBits .f32 1098907648#32) := by
  pointwise [scores]

theorem exps_apply (u : FVec Ideal S8192x1x16 .f32) (r : Fin 8192) (j : Fin 16) :
    exps u (ix3 r 0 j) = Ideal.exp (u (ix3 r 0 j) - Finset.fold max ⊥ (fun i => u (ix3 r 0 i)) Finset.univ) := by
  have e : exps u (ix3 r 0 j) = Ideal.exp (u (ix3 r 0 j) - max (Ideal.ofBits .f32 4286578688#32)
      (Finset.fold max (Ideal.ofBits .f32 4286578688#32) (fun i => u (ix3 r 0 i)) Finset.univ)) := by
    pointwise [exps]
  rw [e, bot_word, max_eq_right bot_le]

theorem softmax_apply (u : FVec Ideal S8192x1x16 .f32) (r : Fin 8192) (j : Fin 16) :
    softmax u (ix3 r 0 j) = Ideal.div (exps u (ix3 r 0 j)) (∑ i, exps u (ix3 r 0 i)) := by
  pointwise [softmax]

theorem output_apply (a : FVec Ideal S8192x1x16 .f32) (w : FVec Ideal S8x1024x16x256 .f32) (b : Fin 8) (o : Fin 256) (n : Fin 1024) :
    output a w (ix3 b o n) = ∑ k, a (ix3 (pt b n) 0 k) * w (ix4 b n k o) := by
  have e : output a w (ix3 b o n) = ∑ k, a (ix3 ⟨b.val * 1024 + n.val, by omega⟩ 0 k) * w (ix4 b n k o) := by
    pointwise [output]
  exact e

/-- The score of a point's k-th neighbour. -/
def score (b : Fin 8) (n : Fin 1024) (k : Fin 16) : EReal :=
  Ideal.div (∑ o, (∑ d, f (ix3 b n d) * wq (ix2 o d) + bq (ix1 o))
    * (∑ i, (f (ix3 b (nth x b n k) i) - f (ix3 b n i)) * wk (ix2 o i) + bk (ix1 o))) (Ideal.ofBits .f32 1098907648#32)

theorem neighbours_near (w : FVec Ideal S8x1024x256 .f32) (b : Fin 8) (n : Fin 1024) (k : Fin 16) (o : Fin 256) :
    neighbours w (near x) (ix4 b n k o) = w (ix3 b (nth x b n k) o) := by
  rw [near_eq]
  exact neighbours_apply (fun j => nth x (j 0) (j 1) (j 2)) w b n k o

theorem scores_eq (b : Fin 8) (n : Fin 1024) (k : Fin 16) :
    scores (query f wq bq) (key (offsets f (near x)) wk bk) (ix3 (pt b n) 0 k) = score x f wq bq wk bk b n k := by
  rw [scores_apply]
  unfold score
  simp only [query_apply, key_apply, offsets_apply, neighbours_near]

theorem result_apply (b : Fin 8) (o : Fin 256) (n : Fin 1024) :
    result x g f wq bq wk bk (ix3 b o n)
      = ∑ k, Ideal.div (Ideal.exp (score x f wq bq wk bk b n k - Finset.fold max ⊥ (score x f wq bq wk bk b n) Finset.univ))
          (∑ j, Ideal.exp (score x f wq bq wk bk b n j - Finset.fold max ⊥ (score x f wq bq wk bk b n) Finset.univ))
            * g (ix3 b o (nth x b n k)) := by
  unfold result
  rw [output_apply]
  refine Finset.sum_congr rfl fun k _ => ?_
  rw [softmax_apply, neighbours_near]
  simp only [exps_apply, scores_eq]
  have e : transpose S8x1024x256 [0, 2, 1] g transposes_S8x256x1024_S8x1024x256_0_2_1 (ix3 b (nth x b n k) o) = g (ix3 b o (nth x b n k)) := by
    pointwise
  rw [e]

end Host

end Cert.Thresh

end
-- ==== Proof.AttnValue.lean ====
/-
  The array the attention call leaves: every point's features weighted over the points its threshold keeps.
-/
module

public import proofs.«01_k».proof.Proof.Attn
public import proofs.«01_k».proof.Proof.DistValue
public import proofs.«01_k».proof.Proof.Softmax
public import proofs.«01_k».proof.Proof.RefValue

@[expose] public section

noncomputable section

namespace Cert.Thresh

open Cert.KernelIdeal Cert.KernelIdeal.Gen
open Idealize.ShloMosaic Idealize.ShloMosaic.TcCoe Idealize.ShloMosaic.Tactic
open Idealize.ShloMosaic.SparseCore.Cfg (HIx)

theorem sixteenth_word : Ideal.ofBits .f32 1031798784#32 = ((1 / 16 : ℝ) : EReal) := by
  simp [Ideal.ofBits, Ideal.ieee]
  rw [← EReal.coe_mul]
  norm_num

theorem weight_congr {n : ℕ} {keep keep' : Fin n → Prop} [DecidablePred keep] [DecidablePred keep'] {s s' : Fin n → EReal}
    (hk : ∀ m, keep m ↔ keep' m) (hs : ∀ m, s m = s' m) (m : Fin n) : weight keep s m = weight keep' s' m := by
  obtain rfl : keep = keep' := funext fun m => propext (hk m)
  obtain rfl : s = s' := funext hs
  congr!

/-- The kernel's score of a pair of points: the query carried through the keys' matrix, against the other point's features. -/
def pairScore {N D : ℕ} (f : Fin N → Fin D → EReal) (wq : Fin D → Fin D → EReal) (bq : Fin D → EReal) (wk : Fin D → Fin D → EReal) (n m : Fin N) : EReal :=
  (∑ i, (∑ o, (∑ d, f n d * wq o d + bq o) * wk o i) * f m i) * ((1 / 16 : ℝ) : EReal)

/-- One attended feature: `g` weighted over the points at least as near as the threshold. -/
def attended {N C : ℕ} (p : Fin N → Fin C → EReal) (thr : EReal) (s : Fin N → EReal) (g : Fin N → EReal) (n : Fin N) : EReal :=
  ∑ m, g m * Ideal.div (weight (fun m => thr ≤ gap p n m) s m) (∑ x, weight (fun m => thr ≤ gap p n m) s x)

theorem attended_of {N C : ℕ} {keep : Fin N → Prop} [DecidablePred keep] (p : Fin N → Fin C → EReal) (thr : EReal) (s s' g g' : Fin N → EReal) (n : Fin N)
    (hk : ∀ m, keep m ↔ thr ≤ gap p n m) (hs : ∀ m, s' m = s m) (hg : ∀ m, g' m = g m) :
    (∑ m, g' m * Ideal.div (weight keep s' m) (∑ x, weight keep s' x)) = attended p thr s g n := by
  refine Finset.sum_congr rfl fun m _ => ?_
  rw [hg]
  exact congrArg₂ (fun a b => _ * Ideal.div a b) (weight_congr hk hs m) (Finset.sum_congr rfl fun x _ => weight_congr hk hs x)

namespace Attn

theorem pay_keep (x0 : Vec Ideal S1x256x3 .f32) (x1 : Vec Ideal S1x1024x3 .f32) (x2 : Vec Ideal S1x256x1 .f32) (r : Fin 256) (m : Fin 1024) :
    k2_pay2 (F := Ideal) x0 x1 x2 (ix2 r m) = 1 ↔ x2 (ix3 0 r 0) ≤ ((2 : ℝ) : EReal) * ∑ x, x0 (ix3 0 r x) * x1 (ix3 0 m x)
      - ∑ x, x0 (ix3 0 r x) * x0 (ix3 0 r x) - ∑ x, x1 (ix3 0 m x) * x1 (ix3 0 m x) := by
  have e : k2_pay2 (F := Ideal) x0 x1 x2 (ix2 r m) = BitVec.ofBool (decide (x2 (ix3 0 r 0) ≤ ((2 : ℝ) : EReal) * ∑ x, x0 (ix3 0 r x) * x1 (ix3 0 m x)
      - ∑ x, x0 (ix3 0 r x) * x0 (ix3 0 r x) - ∑ x, x1 (ix3 0 m x) * x1 (ix3 0 m x))) := by
    rw [← two_word]
    pointwise [k2_pay2]
  rw [e]
  exact (WordCmp.ofBool_eq_one_iff _).trans decide_eq_true_iff

theorem pay_query (a : Vec Ideal S1x256x256 .f32) (b : Vec Ideal S256x256 .f32) (c : Vec Ideal S1x256 .f32) (d : Vec Ideal S256x256 .f32) (r i : Fin 256) :
    k2_pay3 (F := Ideal) a b c d (ix2 r i) = ∑ o, (∑ x, a (ix3 0 r x) * b (ix2 o x) + c (ix2 0 o)) * d (ix2 o i) := by
  pointwise [k2_pay3]

theorem pay_out (a : IVec S256x1024 1) (b : FVec Ideal S256x256 .f32) (c : Vec Ideal S1x1024x256 .f32) (d : Vec Ideal S1x256x1024 .f32) (f r : Fin 256) :
    k2_pay1 (F := Ideal) a b c d (ix3 0 f r)
      = ∑ m, d (ix3 0 f m) * Ideal.div (weight (fun m => a (ix2 r m) = 1) (fun m => (∑ i, b (ix2 r i) * c (ix3 0 m i)) * ((1 / 16 : ℝ) : EReal)) m)
          (∑ x, weight (fun m => a (ix2 r m) = 1) (fun m => (∑ i, b (ix2 r i) * c (ix3 0 m i)) * ((1 / 16 : ℝ) : EReal)) x) := by
  rw [← sixteenth_word]
  unfold weight
  rw [← bot_word]
  pointwise [k2_pay1]
  rfl

variable {c : Dev nD} (V : Vals Ideal c) (O : CellTallies nD τ sig (HIx 1)) (B : Set (SemLoc sig × HIx 1))

/-! The blocks' places in their arrays. -/

theorem index_0 : ∀ t : Fin cfg2.N, win2_0.index t = ![(grid2.coords t 0).val, (grid2.coords t 1).val, 0] :=
  (by decide +kernel : ∀ t : Fin grid2.N, win2_0.index t = ![(grid2.coords t 0).val, (grid2.coords t 1).val, 0])
theorem index_1 : ∀ t : Fin cfg2.N, win2_1.index t = ![(grid2.coords t 0).val, 0, 0] :=
  (by decide +kernel : ∀ t : Fin grid2.N, win2_1.index t = ![(grid2.coords t 0).val, 0, 0])
theorem index_2 : ∀ t : Fin cfg2.N, win2_2.index t = ![(grid2.coords t 0).val, (grid2.coords t 1).val, 0] :=
  (by decide +kernel : ∀ t : Fin grid2.N, win2_2.index t = ![(grid2.coords t 0).val, (grid2.coords t 1).val, 0])
theorem index_3 : ∀ t : Fin cfg2.N, win2_3.index t = ![(grid2.coords t 0).val, (grid2.coords t 1).val, 0] :=
  (by decide +kernel : ∀ t : Fin grid2.N, win2_3.index t = ![(grid2.coords t 0).val, (grid2.coords t 1).val, 0])
theorem index_4 : ∀ t : Fin cfg2.N, win2_4.index t = ![(grid2.coords t 0).val, 0, 0] :=
  (by decide +kernel : ∀ t : Fin grid2.N, win2_4.index t = ![(grid2.coords t 0).val, 0, 0])
theorem index_5 : ∀ t : Fin cfg2.N, win2_5.index t = ![(grid2.coords t 0).val, 0, 0] :=
  (by decide +kernel : ∀ t : Fin grid2.N, win2_5.index t = ![(grid2.coords t 0).val, 0, 0])
theorem index_6 : ∀ t : Fin cfg2.N, win2_6.index t = ![0, 0] := (by decide +kernel : ∀ t : Fin grid2.N, win2_6.index t = ![0, 0])
theorem index_7 : ∀ t : Fin cfg2.N, win2_7.index t = ![0, 0] := (by decide +kernel : ∀ t : Fin grid2.N, win2_7.index t = ![0, 0])
theorem index_8 : ∀ t : Fin cfg2.N, win2_8.index t = ![0, 0] := (by decide +kernel : ∀ t : Fin grid2.N, win2_8.index t = ![0, 0])
theorem index_9 : ∀ t : Fin cfg2.N, win2_9.index t = ![(grid2.coords t 0).val, 0, (grid2.coords t 1).val] :=
  (by decide +kernel : ∀ t : Fin grid2.N, win2_9.index t = ![(grid2.coords t 0).val, 0, (grid2.coords t 1).val])

/-! The blocks at an index, of batch `b` and of the points whose numbers start at the block's first. -/

section At

variable (t : Fin cfg2.N) (b : Fin 8) (hb : b.val = (grid2.coords t 0).val)
include hb

theorem blk_own (r : Fin 256) (d : Fin 3) (n : Fin 1024) (hn : n.val = (grid2.coords t 1).val * 256 + r.val) :
    blk V 0 t (ix3 0 r d) = V main_arg0 (ix3 b n d) := by
  unfold blk; blk_simp
  refine congrArg (V main_arg0) ?_
  blk_ext [index_0]

theorem blk_all (m : Fin 1024) (d : Fin 3) : blk V 1 t (ix3 0 m d) = V main_arg0 (ix3 b m d) := by
  unfold blk; blk_simp
  refine congrArg (V main_arg0) ?_
  blk_ext [index_1]

theorem blk_thr (r : Fin 256) (n : Fin 1024) (hn : n.val = (grid2.coords t 1).val * 256 + r.val) :
    blk V 2 t (ix3 0 r 0) = V main_v3 (ix3 b n 0) := by
  unfold blk; blk_simp
  refine congrArg (V main_v3) ?_
  blk_ext [index_2]

theorem blk_feat (r : Fin 256) (d : Fin 256) (n : Fin 1024) (hn : n.val = (grid2.coords t 1).val * 256 + r.val) :
    blk V 3 t (ix3 0 r d) = V main_arg2 (ix3 b n d) := by
  unfold blk; blk_simp
  refine congrArg (V main_arg2) ?_
  blk_ext [index_3]

theorem blk_feats (m : Fin 1024) (d : Fin 256) : blk V 4 t (ix3 0 m d) = V main_arg2 (ix3 b m d) := by
  unfold blk; blk_simp
  refine congrArg (V main_arg2) ?_
  blk_ext [index_4]

theorem blk_value (o : Fin 256) (m : Fin 1024) : blk V 5 t (ix3 0 o m) = V main_arg1 (ix3 b o m) := by
  unfold blk; blk_simp
  refine congrArg (V main_arg1) ?_
  blk_ext [index_5]

end At

theorem blk_wq (t : Fin cfg2.N) (o d : Fin 256) : blk V 6 t (ix2 o d) = V main_arg3 (ix2 o d) := by
  unfold blk; blk_simp
  refine congrArg (V main_arg3) ?_
  blk_ext [index_6]

theorem blk_bq (t : Fin cfg2.N) (o : Fin 256) : blk V 7 t (ix2 0 o) = V main_v4 (ix2 0 o) := by
  unfold blk; blk_simp
  refine congrArg (V main_v4) ?_
  blk_ext [index_7]

theorem blk_wk (t : Fin cfg2.N) (o i : Fin 256) : blk V 8 t (ix2 o i) = V main_arg5 (ix2 o i) := by
  unfold blk; blk_simp
  refine congrArg (V main_arg5) ?_
  blk_ext [index_8]

/-- The result's array, from the arrays the call reads. -/
def target : S8x256x1024.Idx → EReal := fun i =>
  attended (fun n d => V main_arg0 (ix3 (i 0) n d)) (V main_v3 (ix3 (i 0) (i 2) 0))
    (pairScore (fun n d => V main_arg2 (ix3 (i 0) n d)) (fun o d => V main_arg3 (ix2 o d)) (fun o => V main_v4 (ix2 0 o)) (fun o d => V main_arg5 (ix2 o d)) (i 2))
    (fun m => V main_arg1 (ix3 (i 0) (i 1) m)) (i 2)

set_option maxHeartbeats 1000000 in
/-- What the call leaves. -/
theorem array : (dat V O B).arrAt 9 cfg2.N = target V := by
  refine (dat V O B).arrAt_eq_of_covers 9 _ (by decide +kernel) fun t hf y => ?_
  blk_simp
  rw [after_9]
  unfold leftAt left
  frame_out
  obtain ⟨f, r, rfl⟩ : ∃ f r, y = ix3 (0 : Fin 1) f r := ⟨y 1, y 2, (eq_ix3 y).trans (congrArg (ix3 · (y 1) (y 2)) (Subsingleton.elim (α := Fin 1) _ _))⟩
  generalize hi : ((View.whole main_v5).slice (win2_9.rect t)).emb (ix3 (0 : Fin 1) f r) = i
  have h0 : (i 0).val = (grid2.coords t 0).val := by rw [← hi]; blk_simp [index_9]; exact Nat.add_zero _
  have h1 : (i 1).val = f.val := by rw [← hi]; blk_simp [index_9]
  have h2 : (i 2).val = (grid2.coords t 1).val * 256 + r.val := by rw [← hi]; blk_simp [index_9]
  have hi1 : i 1 = f := Fin.ext h1
  rw [pay_out]
  have hs : ∀ m, (∑ i', k2_pay3 (F := Ideal) (blk V 3 t) (blk V 6 t) (blk V 7 t) (blk V 8 t) (ix2 r i') * blk V 4 t (ix3 0 m i')) * ((1 / 16 : ℝ) : EReal)
      = pairScore (fun n d => V main_arg2 (ix3 (i 0) n d)) (fun o d => V main_arg3 (ix2 o d)) (fun o => V main_v4 (ix2 0 o)) (fun o d => V main_arg5 (ix2 o d)) (i 2) m := by
    intro m
    simp only [pay_query, blk_feat V t (i 0) h0 r _ (i 2) h2, blk_feats V t (i 0) h0, blk_wq, blk_bq, blk_wk]
    rfl
  have hk : ∀ m, k2_pay2 (F := Ideal) (blk V 0 t) (blk V 1 t) (blk V 2 t) (ix2 r m) = 1
      ↔ @LE.le EReal _ (V main_v3 (ix3 (i 0) (i 2) 0)) (gap (fun n d => V main_arg0 (ix3 (i 0) n d)) (i 2) m) := by
    intro m
    rw [pay_keep]
    simp only [blk_own V t (i 0) h0 r _ (i 2) h2, blk_all V t (i 0) h0, blk_thr V t (i 0) h0 r (i 2) h2]
    rfl
  exact attended_of _ _ _ _ _ _ _ hk hs fun m => by rw [blk_value V t (i 0) h0, hi1]

end Attn

end Cert.Thresh

end
-- ==== Proof.Meet.lean ====
/-
  One element of both results, as extended reals: the kernel's attention over the points its threshold keeps is the reference's
  over the sixteen nearest, where the sixteenth is nearer than the seventeenth and the scores are real numbers.
-/
module

public import proofs.«01_k».proof.Proof.Usable
public import proofs.«01_k».proof.Proof.AttnValue

@[expose] public section

noncomputable section

namespace Cert.Thresh

open Idealize.ShloMosaic

theorem sixteen_word : Ideal.ofBits .f32 1098907648#32 = ((16 : ℝ) : EReal) := by
  simp [Ideal.ofBits, Ideal.ieee]
  rw [← EReal.coe_mul]
  norm_num

/-- What lies at least as far up a list as its sixteenth element is one of the first sixteen, where the seventeenth is below. -/
theorem keep_iff (y : Fin 1024 → EReal) (h : y (down y ⟨16, by omega⟩) < y (down y ⟨15, by omega⟩)) (m : Fin 1024) :
    y (down y ⟨15, by omega⟩) ≤ y m ↔ ∃ k : Fin 16, down y ⟨k.val, by omega⟩ = m := by
  constructor
  · intro hm
    obtain ⟨j, rfl⟩ := (down_bijective y).2 m
    by_cases hj : j.val < 16
    · exact ⟨⟨j.val, hj⟩, rfl⟩
    · refine absurd hm (not_le.mpr (lt_of_le_of_lt ?_ h))
      rcases Nat.lt_or_ge 16 j.val with h16 | h16
      · exact down_sorted y _ _ h16
      · rw [show j = ⟨16, by omega⟩ from Fin.ext (by show j.val = 16; omega)]
  · rintro ⟨k, rfl⟩
    rcases Nat.lt_or_ge k.val 15 with h15 | h15
    · exact down_sorted y ⟨k.val, by omega⟩ _ h15
    · rw [show (⟨k.val, by omega⟩ : Fin 1024) = ⟨15, by omega⟩ from Fin.ext (by show k.val = 15; omega)]

/-- The reference's score is the kernel's and a number that the neighbour has no part in. -/
theorem score_real {D : ℕ} (fn fe : Fin D → ℝ) (q : Fin D → ℝ) (wk : Fin D → Fin D → ℝ) (bk : Fin D → ℝ) :
    (∑ o, q o * (∑ i, (fe i - fn i) * wk o i + bk o)) * (1 / 16)
      = (∑ i, (∑ o, q o * wk o i) * fe i) * (1 / 16) + (∑ o, q o * (bk o - ∑ i, fn i * wk o i)) * (1 / 16) := by
  rw [← add_mul]
  congr 1
  have e : (∑ i, (∑ o, q o * wk o i) * fe i) = ∑ o, q o * ∑ i, fe i * wk o i := by
    simp only [Finset.sum_mul, Finset.mul_sum]
    rw [Finset.sum_comm]
    exact Finset.sum_congr rfl fun o _ => Finset.sum_congr rfl fun i _ => by ring
  rw [e, ← Finset.sum_add_distrib]
  refine Finset.sum_congr rfl fun o _ => ?_
  simp only [sub_mul, Finset.sum_sub_distrib]
  ring

/-- The attention over the kept points, over a list's first sixteen. -/
theorem attended_first (p : Fin 1024 → Fin 3 → EReal) (n : Fin 1024)
    (h : gap p n (down (gap p n) ⟨16, by omega⟩) < gap p n (down (gap p n) ⟨15, by omega⟩))
    (s : Fin 1024 → EReal) (σ : Fin 1024 → ℝ) (hs : ∀ m, s m = ((σ m : ℝ) : EReal)) (c : ℝ) (u : Fin 16 → EReal)
    (e : Fin 16 → Fin 1024) (he : ∀ k : Fin 16, e k = down (gap p n) ⟨k.val, by omega⟩)
    (hu : ∀ k, u k = ((σ (e k) + c : ℝ) : EReal)) (g : Fin 1024 → EReal) :
    attended p (gap p n (down (gap p n) ⟨15, by omega⟩)) s g n
      = ∑ k, Ideal.div (Ideal.exp (u k - Finset.univ.fold max ⊥ u)) (∑ j, Ideal.exp (u j - Finset.univ.fold max ⊥ u)) * g (e k) := by
  have inj : Function.Injective e := fun i j hij => by
    rw [he i, he j] at hij
    exact Fin.ext (congrArg (fun a : Fin 1024 => a.val) ((down_bijective (gap p n)).1 hij))
  have keep : ∀ m, gap p n (down (gap p n) ⟨15, by omega⟩) ≤ gap p n m ↔ ∃ k, e k = m := fun m => by
    rw [keep_iff (gap p n) h m]
    exact exists_congr fun k => by rw [he k]
  exact attention_eq _ e inj keep s σ hs c u hu g

/-- The score of a point, of real arguments. -/
theorem pairScore_real {D : ℕ} (f : Fin 1024 → Fin D → EReal) (wq : Fin D → Fin D → EReal) (bq : Fin D → EReal) (wk : Fin D → Fin D → EReal)
    (F : Fin 1024 → Fin D → ℝ) (Wq : Fin D → Fin D → ℝ) (Bq : Fin D → ℝ) (Wk : Fin D → Fin D → ℝ)
    (hF : ∀ n d, f n d = (F n d : EReal)) (hWq : ∀ o d, wq o d = (Wq o d : EReal)) (hBq : ∀ o, bq o = (Bq o : EReal))
    (hWk : ∀ o d, wk o d = (Wk o d : EReal)) (n m : Fin 1024) :
    (∑ i, (∑ o, (∑ d, f n d * wq o d + bq o) * wk o i) * f m i) * ((1 / 16 : ℝ) : EReal)
      = (((∑ i, (∑ o, (∑ d, F n d * Wq o d + Bq o) * Wk o i) * F m i) * (1 / 16) : ℝ) : EReal) := by
  simp only [hF, hWq, hBq, hWk, ← EReal.coe_mul, ← EReal.coe_add, ← coe_sum]

/-- The reference's score of a neighbour, of real arguments. -/
theorem score_value {D : ℕ} (f : Fin 1024 → Fin D → EReal) (wq : Fin D → Fin D → EReal) (bq : Fin D → EReal) (wk : Fin D → Fin D → EReal)
    (bk : Fin D → EReal) (F : Fin 1024 → Fin D → ℝ) (Wq : Fin D → Fin D → ℝ) (Bq : Fin D → ℝ) (Wk : Fin D → Fin D → ℝ) (Bk : Fin D → ℝ)
    (hF : ∀ n d, f n d = (F n d : EReal)) (hWq : ∀ o d, wq o d = (Wq o d : EReal)) (hBq : ∀ o, bq o = (Bq o : EReal))
    (hWk : ∀ o d, wk o d = (Wk o d : EReal)) (hBk : ∀ o, bk o = (Bk o : EReal)) (n m : Fin 1024) :
    Ideal.div (∑ o, (∑ d, f n d * wq o d + bq o) * (∑ i, (f m i - f n i) * wk o i + bk o)) (Ideal.ofBits .f32 1098907648#32)
      = (((∑ i, (∑ o, (∑ d, F n d * Wq o d + Bq o) * Wk o i) * F m i) * (1 / 16)
          + (∑ o, (∑ d, F n d * Wq o d + Bq o) * (Bk o - ∑ i, F n i * Wk o i)) * (1 / 16) : ℝ) : EReal) := by
  rw [← score_real, sixteen_word, Ideal.div_coe (by norm_num)]
  simp only [hF, hWq, hBq, hWk, hBk, ← EReal.coe_mul, ← EReal.coe_add, ← EReal.coe_sub, ← coe_sum]

open Cert.ReferenceIdeal in
/-- The two results, element by element. -/
theorem meet (x : FVec Ideal S8x1024x3 .f32) (g : FVec Ideal S8x256x1024 .f32) (f : FVec Ideal S8x1024x256 .f32) (wq : FVec Ideal S256x256 .f32)
    (bq : FVec Ideal S256 .f32) (wk : FVec Ideal S256x256 .f32) (bk : FVec Ideal S256 .f32) (good : Usable.Good x f wq bq wk bk)
    (b : Fin 8) (o : Fin 256) (n : Fin 1024) :
    attended (fun n d => x (ix3 b n d)) (gap (fun n d => x (ix3 b n d)) n (down (gap (fun n d => x (ix3 b n d)) n) ⟨15, by omega⟩))
        (pairScore (fun n d => f (ix3 b n d)) (fun o d => wq (ix2 o d)) (fun o => bq (ix1 o)) (fun o d => wk (ix2 o d)) n)
        (fun m => g (ix3 b o m)) n
      = Host.result x g f wq bq wk bk (ix3 b o n) := by
  obtain ⟨split, hf, hwq, hbq, hwk, hbk⟩ := good
  choose F hF using hf
  choose Wq hWq using hwq
  choose Bq hBq using hbq
  choose Wk hWk using hwk
  choose Bk hBk using hbk
  rw [Host.result_apply]
  exact attended_first (fun n d => x (ix3 b n d)) n (split b n) _ _
    (fun m => pairScore_real _ _ _ _ (fun n d => F (ix3 b n d)) (fun o d => Wq (ix2 o d)) (fun o => Bq (ix1 o)) (fun o d => Wk (ix2 o d))
      (fun n d => hF _) (fun o d => hWq _) (fun o => hBq _) (fun o d => hWk _) n m)
    _ (Host.score x f wq bq wk bk b n) (Host.nth x b n) (fun k => rfl)
    (fun k => score_value (fun n d => f (ix3 b n d)) (fun o d => wq (ix2 o d)) (fun o => bq (ix1 o)) (fun o d => wk (ix2 o d))
      (fun o => bk (ix1 o)) (fun n d => F (ix3 b n d)) (fun o d => Wq (ix2 o d)) (fun o => Bq (ix1 o)) (fun o d => Wk (ix2 o d))
      (fun o => Bk (ix1 o)) (fun n d => hF _) (fun o d => hWq _) (fun o => hBq _) (fun o d => hWk _) (fun o => hBk _) n _)
    (fun m => g (ix3 b o m))

end Cert.Thresh

end
-- ==== Proof.Equal.lean ====
/-
  The three calls together: the thresholds the tiles compute are the sixteenth distances of the rows, and what the last call
  makes of them is the reference's result.
-/
module

public import proofs.«01_k».proof.Proof.Order
public import proofs.«01_k».proof.Proof.Launch
public import proofs.«01_k».proof.Proof.DistValue
public import proofs.«01_k».proof.Proof.Meet

@[expose] public section

noncomputable section

namespace Cert.Thresh

open Idealize.ShloMosaic
open Cert.KernelIdeal Cert.KernelIdeal.Gen
open Idealize.ShloMosaic.TcCoe

/-- The number of a row, from its block and its place in the block. -/
abbrev rowNum (j : S512x16.Idx) : Fin 8192 := ⟨16 * (j 0).val + (j 1).val, by
  have h0 : (j 0).val < 512 := (j 0).isLt
  have h1 : (j 1).val < 16 := (j 1).isLt
  omega⟩

/-- The tiles' result at a place: the row's value at place 15 of its descending rearrangement. -/
theorem outOf_eq (x : FVec Ideal S8192x1024 .f32) (j : S512x16.Idx) :
    outOf (F := Ideal) x j = rowOfMat x (rowNum j) (down (rowOfMat x (rowNum j)) 15) := by
  have h0 : (j 0).val < 512 := (j 0).isLt
  have h1 : (j 1).val < 16 := (j 1).isLt
  refine thresh_eq (block x (j 0).val) (fun | 0 => j 1) (rowOfMat x (rowNum j)) (fun n => ?_) (down (rowOfMat x (rowNum j)))
    (down_bijective _) (down_sorted _)
  show x _ = x _
  congr 1
  funext a
  apply Fin.ext
  match a with
  | 0 => show 16 * (j 0).val + (j 1).val = (16 * (j 0).val + (j 1).val) % 8192; omega
  | 1 => rfl

/-! ## The rearrangements between the calls -/

/-- A row of the distances laid out for the SparseCores. -/
theorem flat_row (D : FVec Ideal S8x1024x1024 .f32) (h) (b : Fin 8) (n : Fin 1024) (r : Fin 8192) (hr : r.val = 1024 * b.val + n.val) :
    rowOfMat (shapeCast S8192x1024 D h) r = fun m => D (ix3 b n m) := by
  funext m
  refine shapeCast_apply D h (ix2 r m) (ix3 b n m) ?_
  rw [Shape.rowMajor_val_two, Shape.rowMajor_val_three]
  show (b.val * 1024 + n.val) * 1024 + m.val = r.val * 1024 + m.val
  omega

/-- The thresholds as a column: what the tiles make of the row. -/
theorem column_at (D : FVec Ideal S8x1024x1024 .f32) (h h') (b : Fin 8) (n : Fin 1024) :
    shapeCast S8x1024x1 (outOf (F := Ideal) (shapeCast S8192x1024 D h)) h' (ix3 b n 0)
      = D (ix3 b n (down (fun m => D (ix3 b n m)) 15)) := by
  have hb := b.isLt
  have hn := n.isLt
  refine (shapeCast_apply _ h' (ix3 b n 0) (ix2 ⟨(1024 * b.val + n.val) / 16, by omega⟩ ⟨(1024 * b.val + n.val) % 16, by omega⟩) ?_).trans ?_
  · rw [Shape.rowMajor_val_two, Shape.rowMajor_val_three]
    show (1024 * b.val + n.val) / 16 * 16 + (1024 * b.val + n.val) % 16 = (b.val * 1024 + n.val) * 1 + 0
    omega
  · rw [outOf_eq, flat_row D h b n _ (by show 16 * ((1024 * b.val + n.val) / 16) + (1024 * b.val + n.val) % 16 = 1024 * b.val + n.val; omega)]

theorem bias_at (x : FVec Ideal S256 .f32) (h) (o : Fin 256) : shapeCast S1x256 x h (ix2 0 o) = x (ix1 o) := by
  refine shapeCast_apply _ h (ix2 0 o) (ix1 o) ?_
  rw [Shape.rowMajor_val_one, Shape.rowMajor_val_two]
  show o.val = 0 * 256 + o.val
  omega

/-! ## What the buffers hold before the last call -/

section Stages

variable {F : FTy → Type} [FloatOps F] (m : (ℓ : Loc nD τ sig) → Buf (Elt F) ℓ) (c : Dev nD)

/-- A buffer that no stage writes. -/
theorem W5_kept {b : Ref sig .tc} (h0 : b ≠ main_v0) (h1 : b ≠ main_v1) (h2 : b ≠ main_v2) (h3 : b ≠ main_v3) (h4 : b ≠ main_v4) :
    W5 m c (Proc.devRef .tc b) = m ((c.tc : Thread nD τ).loc b) := by
  refine (StableHlo.reshape_result_ne main_arg4 main_v4 _ _ _ _ (W4 m c) h4).trans ?_
  refine (StableHlo.reshape_result_ne main_v2 main_v3 _ _ _ _ (W3 m c) h3).trans ?_
  refine (afterThresh_of_ne (W2 m) c h2).trans ?_
  refine (StableHlo.reshape_result_ne main_v0 main_v1 _ _ _ _ (W1 m c) h1).trans ?_
  exact afterDist_of_ne (W0 m) c h0

theorem W4_kept {b : Ref sig .tc} (h0 : b ≠ main_v0) (h1 : b ≠ main_v1) (h2 : b ≠ main_v2) (h3 : b ≠ main_v3) :
    W4 m c (Proc.devRef .tc b) = m ((c.tc : Thread nD τ).loc b) := by
  refine (StableHlo.reshape_result_ne main_v2 main_v3 _ _ _ _ (W3 m c) h3).trans ?_
  refine (afterThresh_of_ne (W2 m) c h2).trans ?_
  refine (StableHlo.reshape_result_ne main_v0 main_v1 _ _ _ _ (W1 m c) h1).trans ?_
  exact afterDist_of_ne (W0 m) c h0

theorem W6_kept {b : Ref sig .tc} (h0 : b ≠ main_v0) (h1 : b ≠ main_v1) (h2 : b ≠ main_v2) (h3 : b ≠ main_v3) (h4 : b ≠ main_v4) (h5 : b ≠ main_v5) :
    W6 m c (Proc.devRef .tc b) = m ((c.tc : Thread nD τ).loc b) :=
  (afterAttn_of_ne (W5 m) c h5).trans (W5_kept m c h0 h1 h2 h3 h4)

end Stages

section Values

variable (m : (ℓ : Loc nD τ sig) → Buf (Elt Ideal) ℓ) (c : Dev nD)

/-- The distances, as the first call leaves them. -/
theorem W1_dist : W1 m c (Proc.devRef .tc main_v0)
    = (fun i => gap (fun n d => m ((c.tc : Thread nD τ).loc main_arg0) (ix3 (i 0) n d)) (i 1) (i 2) : FVec Ideal S8x1024x1024 .f32) :=
  (afterDist_self (W0 m) c).trans (Dist.array (fun b => W0 m c b) _ _)

theorem W3_thresh : W3 m c (Proc.devRef .tc main_v2)
    = outOf (F := Ideal) (shapeCast S8192x1024 (W1 m c (Proc.devRef .tc main_v0)) shapeCasts_S8x1024x1024_S8192x1024) :=
  (afterThresh_self (W2 m) c).trans (congrArg (outOf (F := Ideal)) (StableHlo.reshape_result main_v0 main_v1 _ _ _ _ (W1 m c)))

theorem W5_thresh (b : Fin 8) (n : Fin 1024) : W5 m c (Proc.devRef .tc main_v3) (ix3 b n 0)
    = gap (fun n d => m ((c.tc : Thread nD τ).loc main_arg0) (ix3 b n d)) n
        (down (gap (fun n d => m ((c.tc : Thread nD τ).loc main_arg0) (ix3 b n d)) n) 15) := by
  have e : W5 m c (Proc.devRef .tc main_v3) = shapeCast S8x1024x1 (W3 m c (Proc.devRef .tc main_v2)) shapeCasts_S512x16_S8x1024x1 :=
    (StableHlo.reshape_result_ne main_arg4 main_v4 _ _ _ _ (W4 m c) (by decide)).trans (StableHlo.reshape_result main_v2 main_v3 _ _ _ _ (W3 m c))
  rw [e, W3_thresh, W1_dist]
  exact column_at _ _ _ b n

theorem W5_bias (o : Fin 256) : W5 m c (Proc.devRef .tc main_v4) (ix2 0 o) = m ((c.tc : Thread nD τ).loc main_arg4) (ix1 o) := by
  have e : W5 m c (Proc.devRef .tc main_v4) = shapeCast S1x256 (W4 m c (Proc.devRef .tc main_arg4)) shapeCasts_S256_S1x256 :=
    StableHlo.reshape_result main_arg4 main_v4 _ _ _ _ (W4 m c)
  rw [e, W4_kept m c (by decide) (by decide) (by decide) (by decide)]
  exact bias_at _ _ o

/-- The kernel's result is the reference's. -/
theorem W6_result (good : Usable.Good (m ((c.tc : Thread nD τ).loc main_arg0)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6))) :
    W6 m c (Proc.devRef .tc main_v5) = Host.result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  refine (afterAttn_self (W5 m) c).trans ((Attn.array (fun b => W5 m c b) _ _).trans ?_)
  funext i
  obtain ⟨b, o, n, rfl⟩ : ∃ b o n, i = ix3 b o n := ⟨_, _, _, eq_ix3 i⟩
  refine Eq.trans ?_ (meet _ _ _ _ _ _ _ good b o n)
  have e0 := W5_kept m c (b := main_arg0) (by decide) (by decide) (by decide) (by decide) (by decide)
  have e1 := W5_kept m c (b := main_arg1) (by decide) (by decide) (by decide) (by decide) (by decide)
  have e2 := W5_kept m c (b := main_arg2) (by decide) (by decide) (by decide) (by decide) (by decide)
  have e3 := W5_kept m c (b := main_arg3) (by decide) (by decide) (by decide) (by decide) (by decide)
  have e5 := W5_kept m c (b := main_arg5) (by decide) (by decide) (by decide) (by decide) (by decide)
  have eb : (fun o => W5 m c (Proc.devRef .tc main_v4) (ix2 0 o)) = fun o => m ((c.tc : Thread nD τ).loc main_arg4) (ix1 o) :=
    funext fun o => W5_bias m c o
  have et := W5_thresh m c b n
  show attended (fun n d => W5 m c (Proc.devRef .tc main_arg0) (ix3 b n d)) (W5 m c (Proc.devRef .tc main_v3) (ix3 b n 0))
    (pairScore (fun n d => W5 m c (Proc.devRef .tc main_arg2) (ix3 b n d)) (fun o d => W5 m c (Proc.devRef .tc main_arg3) (ix2 o d))
      (fun o => W5 m c (Proc.devRef .tc main_v4) (ix2 0 o)) (fun o d => W5 m c (Proc.devRef .tc main_arg5) (ix2 o d)) n)
    (fun m' => W5 m c (Proc.devRef .tc main_arg1) (ix3 b o m')) n = _
  rw [et, e0, e1, e2, e3, e5, eb]
  rfl

end Values

end Cert.Thresh

end
-- ==== Proof.Same.lean ====
/-
  The printed kernel and its ideal print are one text: their tables of bodies are equal, label by label.
-/
module

public import proofs.«01_k».proof.Proof.Gen.Kernel
public import proofs.«01_k».proof.Proof.Gen.KernelIdeal
public import Idealize.ShloMosaic.PureOps.BitExact

@[expose] public section

set_option maxHeartbeats 2000000

noncomputable section

namespace Cert.Thresh

open Idealize.ShloMosaic

theorem body0_same (p) (a) : Cert.Kernel.defs₀ (F := Bits) p 0 a = Cert.KernelIdeal.defs₀ (F := Bits) p 0 a := by cases p <;> rfl

theorem body1_same (p) (a) : Cert.Kernel.defs₀ (F := Bits) p 1 a = Cert.KernelIdeal.defs₀ (F := Bits) p 1 a := by cases p <;> rfl

theorem body2_same (p) (a) : Cert.Kernel.defs₀ (F := Bits) p 2 a = Cert.KernelIdeal.defs₀ (F := Bits) p 2 a := by cases p <;> rfl

theorem bodies_same : Cert.Kernel.defs₀ (F := Bits) = Cert.KernelIdeal.defs₀ (F := Bits) := by
  funext p l a
  match l with
  | 0 => exact body0_same p a
  | 1 => exact body1_same p a
  | 2 => exact body2_same p a

/-- The two programs' tables, calls and all. -/
theorem defs_same : Cert.Kernel.defs (F := Bits) = Cert.KernelIdeal.defs (F := Bits) :=
  congrArg (fun d => (Cert.KernelIdeal.sc (F := Bits)).defs (Pipeline.defs (Cert.KernelIdeal.pcfgs (F := Bits)) d)) bodies_same

end Cert.Thresh

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_usable
public import proofs.«01_k».proof.Proof.Launch
public import proofs.«01_k».proof.Proof.Equal
public import proofs.«01_k».proof.Proof.Same
public import Idealize.ShloMosaic.Adequacy
public import Idealize.ShloMosaic.Init

@[expose] public section

noncomputable section

namespace Cert.Proof

open Idealize.ShloMosaic Idealize.SL.Sem Cert.Thresh

open Cert.KernelIdeal in
/-- A state in which the kernel's run ends leaves the arguments as they were. -/
theorem args_kept {F : FTy → Type} [FloatOps F] {m : (ℓ : Loc nD τ sig) → Buf (Elt F) ℓ} {mem : (ℓ : Loc nD τ sig) → Buf (Elt F) ℓ} {c : Dev nD}
    (h : ∀ b ∈ Finset.univ.filter (fun b : Ref sig .tc => ¬ b.isScoped), mem ((c.tc : Thread nD τ).loc b) = W6 m c (Proc.devRef .tc b)) :
    mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6) := by
  refine ⟨(h _ (by decide)).trans ?_, (h _ (by decide)).trans ?_, (h _ (by decide)).trans ?_, (h _ (by decide)).trans ?_,
    (h _ (by decide)).trans ?_, (h _ (by decide)).trans ?_, (h _ (by decide)).trans ?_⟩ <;>
  exact W6_kept m c (by decide) (by decide) (by decide) (by decide) (by decide) (by decide)

theorem frame_kernel : Cert.quiescent_Kernel := by
  intro m ρ _
  rw [defs_same]
  exact (θ_run Cert.KernelIdeal.defs _ _).mono (fun _ h => ⟨fun c => args_kept (h.1 c), h.2⟩) (run_main (F := Bits) m ρ)

theorem frame_ideal : Cert.quiescent_KernelIdeal := fun m ρ _ =>
  (θ_run Cert.KernelIdeal.defs _ _).mono (fun _ h => ⟨fun c => args_kept (h.1 c), h.2⟩) (run_main (F := Ideal) m ρ)

theorem frame_ideal_usable : Cert.quiescent_KernelIdeal_pre_usable := fun m ρ _ => frame_ideal m ρ trivial

/-- The reference declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_usable : Cert.quiescent_ReferenceIdeal_pre_usable := fun m ρ _ => frame_reference m ρ trivial

/-- Both programs end with the attention over the sixteen nearest points, of the shared arguments. -/
theorem equal : Cert.algebraic_KernelIdeal_ReferenceIdeal_pre_usable := by
  intro m ρ m' ρ' pre agree
  refine ⟨fun c => W6 m c (Proc.devRef .tc Cert.KernelIdeal.main_v5),
    (θ_run Cert.KernelIdeal.defs _ _).mono (fun _ h c => ⟨h.1 c _ (by decide), args_kept (h.1 c)⟩) (run_main (F := Ideal) m ρ), ?_⟩
  refine (θ_run Cert.ReferenceIdeal.defs _ _).mono (fun r h c => ⟨(h c).1.trans ?_, (h c).2⟩)
    (Cert.ReferenceIdeal.Value.run (F := Ideal) m' ρ')
  refine (Host.result_eq m' c).trans ?_
  obtain ⟨a0, a1, a2, a3, a4, a5, a6⟩ := agree c
  rw [a0, a1, a2, a3, a4, a5, a6]
  exact (W6_result m c (Usable.good _ _ _ _ _ _ _ (pre c))).symm

theorem claim : Cert.Claim := ⟨Cert.Kernel.Gen.facts, Cert.KernelIdeal.Gen.facts, Cert.ReferenceIdeal.Gen.facts, Cert.Pre_usable.Gen.facts,
  frame_kernel, frame_ideal, frame_ideal_usable, frame_reference, frame_reference_usable, trivial, equal⟩

end Cert.Proof

end
